-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27)
      ∧ r.2.mem ((c.tc : Thread Cert.Kernel6.nD Cert.Kernel6.τ).loc Cert.Kernel6.main_arg28) = m ((c.tc : Thread Cert.Kernel6.nD Cert.Kernel6.τ).loc Cert.Kernel6.main_arg28)
      ∧ r.2.mem ((c.tc : Thread Cert.Kernel6.nD Cert.Kernel6.τ).loc Cert.Kernel6.main_arg29) = m ((c.tc : Thread Cert.Kernel6.nD Cert.Kernel6.τ).loc Cert.Kernel6.main_arg29)
      ∧ r.2.mem ((c.tc : Thread Cert.Kernel6.nD Cert.Kernel6.τ).loc Cert.Kernel6.main_arg30) = m ((c.tc : Thread Cert.Kernel6.nD Cert.Kernel6.τ).loc Cert.Kernel6.main_arg30)
      ∧ r.2.mem ((c.tc : Thread Cert.Kernel6.nD Cert.Kernel6.τ).loc Cert.Kernel6.main_arg31) = m ((c.tc : Thread Cert.Kernel6.nD Cert.Kernel6.τ).loc Cert.Kernel6.main_arg31)
      ∧ r.2.mem ((c.tc : Thread Cert.Kernel6.nD Cert.Kernel6.τ).loc Cert.Kernel6.main_arg32) = m ((c.tc : Thread Cert.Kernel6.nD Cert.Kernel6.τ).loc Cert.Kernel6.main_arg32)
      ∧ r.2.mem ((c.tc : Thread Cert.Kernel6.nD Cert.Kernel6.τ).loc Cert.Kernel6.main_arg33) = m ((c.tc : Thread Cert.Kernel6.nD Cert.Kernel6.τ).loc Cert.Kernel6.main_arg33))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
      ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
      ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
      ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
      ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31)
      ∧ r.2.mem ((c.tc : Thread Cert.Kernel6Ideal.nD Cert.Kernel6Ideal.τ).loc Cert.Kernel6Ideal.main_arg32) = m ((c.tc : Thread Cert.Kernel6Ideal.nD Cert.Kernel6Ideal.τ).loc Cert.Kernel6Ideal.main_arg32)
      ∧ r.2.mem ((c.tc : Thread Cert.Kernel6Ideal.nD Cert.Kernel6Ideal.τ).loc Cert.Kernel6Ideal.main_arg33) = m ((c.tc : Thread Cert.Kernel6Ideal.nD Cert.Kernel6Ideal.τ).loc Cert.Kernel6Ideal.main_arg33))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27)
      ∧ r.2.mem ((c.tc : Thread Cert.Reference6Ideal.nD Cert.Reference6Ideal.τ).loc Cert.Reference6Ideal.main_arg28) = m ((c.tc : Thread Cert.Reference6Ideal.nD Cert.Reference6Ideal.τ).loc Cert.Reference6Ideal.main_arg28)
      ∧ r.2.mem ((c.tc : Thread Cert.Reference6Ideal.nD Cert.Reference6Ideal.τ).loc Cert.Reference6Ideal.main_arg29) = m ((c.tc : Thread Cert.Reference6Ideal.nD Cert.Reference6Ideal.τ).loc Cert.Reference6Ideal.main_arg29)
      ∧ r.2.mem ((c.tc : Thread Cert.Reference6Ideal.nD Cert.Reference6Ideal.τ).loc Cert.Reference6Ideal.main_arg30) = m ((c.tc : Thread Cert.Reference6Ideal.nD Cert.Reference6Ideal.τ).loc Cert.Reference6Ideal.main_arg30)
      ∧ r.2.mem ((c.tc : Thread Cert.Reference6Ideal.nD Cert.Reference6Ideal.τ).loc Cert.Reference6Ideal.main_arg31) = m ((c.tc : Thread Cert.Reference6Ideal.nD Cert.Reference6Ideal.τ).loc Cert.Reference6Ideal.main_arg31)
      ∧ r.2.mem ((c.tc : Thread Cert.Reference6Ideal.nD Cert.Reference6Ideal.τ).loc Cert.Reference6Ideal.main_arg32) = m ((c.tc : Thread Cert.Reference6Ideal.nD Cert.Reference6Ideal.τ).loc Cert.Reference6Ideal.main_arg32)
      ∧ r.2.mem ((c.tc : Thread Cert.Reference6Ideal.nD Cert.Reference6Ideal.τ).loc Cert.Reference6Ideal.main_arg33) = m ((c.tc : Thread Cert.Reference6Ideal.nD Cert.Reference6Ideal.τ).loc Cert.Reference6Ideal.main_arg33))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)) (v4 : (c : Dev Cert.Kernel2Ideal.nD) → Buf (Elt Ideal) ((c.tc : Thread Cert.Kernel2Ideal.nD Cert.Kernel2Ideal.τ).loc Cert.Kernel2Ideal.main_v13_4)) (v5 : (c : Dev Cert.Kernel2Ideal.nD) → Buf (Elt Ideal) ((c.tc : Thread Cert.Kernel2Ideal.nD Cert.Kernel2Ideal.τ).loc Cert.Kernel2Ideal.main_v13_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_v13_4) = v4 c
          ∧ r.2.mem ((c.tc : Thread Cert.Kernel2Ideal.nD Cert.Kernel2Ideal.τ).loc Cert.Kernel2Ideal.main_v13_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v92) = v3 c
          ∧ r.2.mem ((c.tc : Thread Cert.Reference2Ideal.nD Cert.Reference2Ideal.τ).loc Cert.Reference2Ideal.main_v93) = v4 c
          ∧ r.2.mem ((c.tc : Thread Cert.Reference2Ideal.nD Cert.Reference2Ideal.τ).loc Cert.Reference2Ideal.main_v94) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_v56) = v3 c
          ∧ r.2.mem ((c.tc : Thread Cert.Reference3Ideal.nD Cert.Reference3Ideal.τ).loc Cert.Reference3Ideal.main_v60) = v4 c
          ∧ r.2.mem ((c.tc : Thread Cert.Reference3Ideal.nD Cert.Reference3Ideal.τ).loc Cert.Reference3Ideal.main_v38) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_v30) = v3 c
          ∧ r.2.mem ((c.tc : Thread Cert.Reference4Ideal.nD Cert.Reference4Ideal.τ).loc Cert.Reference4Ideal.main_v31) = v4 c
          ∧ r.2.mem ((c.tc : Thread Cert.Reference4Ideal.nD Cert.Reference4Ideal.τ).loc Cert.Reference4Ideal.main_v32) = v5 c
          ∧ r.2.mem ((c.tc : Thread Cert.Reference4Ideal.nD Cert.Reference4Ideal.τ).loc Cert.Reference4Ideal.main_v45) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)
      ∧ m' ((c.tc : Thread Cert.Reference6Ideal.nD Cert.Reference6Ideal.τ).loc Cert.Reference6Ideal.main_arg28) = m ((c.tc : Thread Cert.Kernel6Ideal.nD Cert.Kernel6Ideal.τ).loc Cert.Kernel6Ideal.main_arg28)
      ∧ m' ((c.tc : Thread Cert.Reference6Ideal.nD Cert.Reference6Ideal.τ).loc Cert.Reference6Ideal.main_arg29) = m ((c.tc : Thread Cert.Kernel6Ideal.nD Cert.Kernel6Ideal.τ).loc Cert.Kernel6Ideal.main_arg29)
      ∧ m' ((c.tc : Thread Cert.Reference6Ideal.nD Cert.Reference6Ideal.τ).loc Cert.Reference6Ideal.main_arg30) = m ((c.tc : Thread Cert.Kernel6Ideal.nD Cert.Kernel6Ideal.τ).loc Cert.Kernel6Ideal.main_arg30)
      ∧ m' ((c.tc : Thread Cert.Reference6Ideal.nD Cert.Reference6Ideal.τ).loc Cert.Reference6Ideal.main_arg31) = m ((c.tc : Thread Cert.Kernel6Ideal.nD Cert.Kernel6Ideal.τ).loc Cert.Kernel6Ideal.main_arg31)
      ∧ m' ((c.tc : Thread Cert.Reference6Ideal.nD Cert.Reference6Ideal.τ).loc Cert.Reference6Ideal.main_arg32) = m ((c.tc : Thread Cert.Kernel6Ideal.nD Cert.Kernel6Ideal.τ).loc Cert.Kernel6Ideal.main_arg32)
      ∧ m' ((c.tc : Thread Cert.Reference6Ideal.nD Cert.Reference6Ideal.τ).loc Cert.Reference6Ideal.main_arg33) = m ((c.tc : Thread Cert.Kernel6Ideal.nD Cert.Kernel6Ideal.τ).loc Cert.Kernel6Ideal.main_arg33)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)) (v9 : (c : Dev Cert.Kernel6Ideal.nD) → Buf (Elt Ideal) ((c.tc : Thread Cert.Kernel6Ideal.nD Cert.Kernel6Ideal.τ).loc Cert.Kernel6Ideal.main_v0_9)) (v10 : (c : Dev Cert.Kernel6Ideal.nD) → Buf (Elt Ideal) ((c.tc : Thread Cert.Kernel6Ideal.nD Cert.Kernel6Ideal.τ).loc Cert.Kernel6Ideal.main_v0_10)) (v11 : (c : Dev Cert.Kernel6Ideal.nD) → Buf (Elt Ideal) ((c.tc : Thread Cert.Kernel6Ideal.nD Cert.Kernel6Ideal.τ).loc Cert.Kernel6Ideal.main_v0_11)) (v12 : (c : Dev Cert.Kernel6Ideal.nD) → Buf (Elt Ideal) ((c.tc : Thread Cert.Kernel6Ideal.nD Cert.Kernel6Ideal.τ).loc Cert.Kernel6Ideal.main_v0_12)) (v13 : (c : Dev Cert.Kernel6Ideal.nD) → Buf (Elt Ideal) ((c.tc : Thread Cert.Kernel6Ideal.nD Cert.Kernel6Ideal.τ).loc Cert.Kernel6Ideal.main_v0_13)) (v14 : (c : Dev Cert.Kernel6Ideal.nD) → Buf (Elt Ideal) ((c.tc : Thread Cert.Kernel6Ideal.nD Cert.Kernel6Ideal.τ).loc Cert.Kernel6Ideal.main_v0_14)) (v15 : (c : Dev Cert.Kernel6Ideal.nD) → Buf (Elt Ideal) ((c.tc : Thread Cert.Kernel6Ideal.nD Cert.Kernel6Ideal.τ).loc Cert.Kernel6Ideal.main_v0_15)) (v16 : (c : Dev Cert.Kernel6Ideal.nD) → Buf (Elt Ideal) ((c.tc : Thread Cert.Kernel6Ideal.nD Cert.Kernel6Ideal.τ).loc Cert.Kernel6Ideal.main_v0_16)) (v17 : (c : Dev Cert.Kernel6Ideal.nD) → Buf (Elt Ideal) ((c.tc : Thread Cert.Kernel6Ideal.nD Cert.Kernel6Ideal.τ).loc Cert.Kernel6Ideal.main_v0_17)) (v18 : (c : Dev Cert.Kernel6Ideal.nD) → Buf (Elt Ideal) ((c.tc : Thread Cert.Kernel6Ideal.nD Cert.Kernel6Ideal.τ).loc Cert.Kernel6Ideal.main_v0_18)) (v19 : (c : Dev Cert.Kernel6Ideal.nD) → Buf (Elt Ideal) ((c.tc : Thread Cert.Kernel6Ideal.nD Cert.Kernel6Ideal.τ).loc Cert.Kernel6Ideal.main_v0_19)) (v20 : (c : Dev Cert.Kernel6Ideal.nD) → Buf (Elt Ideal) ((c.tc : Thread Cert.Kernel6Ideal.nD Cert.Kernel6Ideal.τ).loc Cert.Kernel6Ideal.main_v0_20)) (v21 : (c : Dev Cert.Kernel6Ideal.nD) → Buf (Elt Ideal) ((c.tc : Thread Cert.Kernel6Ideal.nD Cert.Kernel6Ideal.τ).loc Cert.Kernel6Ideal.main_v0_21)) (v22 : (c : Dev Cert.Kernel6Ideal.nD) → Buf (Elt Ideal) ((c.tc : Thread Cert.Kernel6Ideal.nD Cert.Kernel6Ideal.τ).loc Cert.Kernel6Ideal.main_v0_22)) (v23 : (c : Dev Cert.Kernel6Ideal.nD) → Buf (Elt Ideal) ((c.tc : Thread Cert.Kernel6Ideal.nD Cert.Kernel6Ideal.τ).loc Cert.Kernel6Ideal.main_v0_23)) (v24 : (c : Dev Cert.Kernel6Ideal.nD) → Buf (Elt Ideal) ((c.tc : Thread Cert.Kernel6Ideal.nD Cert.Kernel6Ideal.τ).loc Cert.Kernel6Ideal.main_v0_24)) (v25 : (c : Dev Cert.Kernel6Ideal.nD) → Buf (Elt Ideal) ((c.tc : Thread Cert.Kernel6Ideal.nD Cert.Kernel6Ideal.τ).loc Cert.Kernel6Ideal.main_v0_25)) (v26 : (c : Dev Cert.Kernel6Ideal.nD) → Buf (Elt Ideal) ((c.tc : Thread Cert.Kernel6Ideal.nD Cert.Kernel6Ideal.τ).loc Cert.Kernel6Ideal.main_v0_26)) (v27 : (c : Dev Cert.Kernel6Ideal.nD) → Buf (Elt Ideal) ((c.tc : Thread Cert.Kernel6Ideal.nD Cert.Kernel6Ideal.τ).loc Cert.Kernel6Ideal.main_v0_27)) (v28 : (c : Dev Cert.Kernel6Ideal.nD) → Buf (Elt Ideal) ((c.tc : Thread Cert.Kernel6Ideal.nD Cert.Kernel6Ideal.τ).loc Cert.Kernel6Ideal.main_v0_28)) (v29 : (c : Dev Cert.Kernel6Ideal.nD) → Buf (Elt Ideal) ((c.tc : Thread Cert.Kernel6Ideal.nD Cert.Kernel6Ideal.τ).loc Cert.Kernel6Ideal.main_v0_29)) (v30 : (c : Dev Cert.Kernel6Ideal.nD) → Buf (Elt Ideal) ((c.tc : Thread Cert.Kernel6Ideal.nD Cert.Kernel6Ideal.τ).loc Cert.Kernel6Ideal.main_v0_30)) (v31 : (c : Dev Cert.Kernel6Ideal.nD) → Buf (Elt Ideal) ((c.tc : Thread Cert.Kernel6Ideal.nD Cert.Kernel6Ideal.τ).loc Cert.Kernel6Ideal.main_v0_31)) (v32 : (c : Dev Cert.Kernel6Ideal.nD) → Buf (Elt Ideal) ((c.tc : Thread Cert.Kernel6Ideal.nD Cert.Kernel6Ideal.τ).loc Cert.Kernel6Ideal.main_v0_32)) (v33 : (c : Dev Cert.Kernel6Ideal.nD) → Buf (Elt Ideal) ((c.tc : Thread Cert.Kernel6Ideal.nD Cert.Kernel6Ideal.τ).loc Cert.Kernel6Ideal.main_v0_33)) (v34 : (c : Dev Cert.Kernel6Ideal.nD) → Buf (Elt Ideal) ((c.tc : Thread Cert.Kernel6Ideal.nD Cert.Kernel6Ideal.τ).loc Cert.Kernel6Ideal.main_v0_34)) (v35 : (c : Dev Cert.Kernel6Ideal.nD) → Buf (Elt Ideal) ((c.tc : Thread Cert.Kernel6Ideal.nD Cert.Kernel6Ideal.τ).loc Cert.Kernel6Ideal.main_v0_35)) (v36 : (c : Dev Cert.Kernel6Ideal.nD) → Buf (Elt Ideal) ((c.tc : Thread Cert.Kernel6Ideal.nD Cert.Kernel6Ideal.τ).loc Cert.Kernel6Ideal.main_v0_36)) (v37 : (c : Dev Cert.Kernel6Ideal.nD) → Buf (Elt Ideal) ((c.tc : Thread Cert.Kernel6Ideal.nD Cert.Kernel6Ideal.τ).loc Cert.Kernel6Ideal.main_v0_37)) (v38 : (c : Dev Cert.Kernel6Ideal.nD) → Buf (Elt Ideal) ((c.tc : Thread Cert.Kernel6Ideal.nD Cert.Kernel6Ideal.τ).loc Cert.Kernel6Ideal.main_v0_38)) (v39 : (c : Dev Cert.Kernel6Ideal.nD) → Buf (Elt Ideal) ((c.tc : Thread Cert.Kernel6Ideal.nD Cert.Kernel6Ideal.τ).loc Cert.Kernel6Ideal.main_v0_39)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_v0_9) = v9 c
          ∧ r.2.mem ((c.tc : Thread Cert.Kernel6Ideal.nD Cert.Kernel6Ideal.τ).loc Cert.Kernel6Ideal.main_v0_10) = v10 c
          ∧ r.2.mem ((c.tc : Thread Cert.Kernel6Ideal.nD Cert.Kernel6Ideal.τ).loc Cert.Kernel6Ideal.main_v0_11) = v11 c
          ∧ r.2.mem ((c.tc : Thread Cert.Kernel6Ideal.nD Cert.Kernel6Ideal.τ).loc Cert.Kernel6Ideal.main_v0_12) = v12 c
          ∧ r.2.mem ((c.tc : Thread Cert.Kernel6Ideal.nD Cert.Kernel6Ideal.τ).loc Cert.Kernel6Ideal.main_v0_13) = v13 c
          ∧ r.2.mem ((c.tc : Thread Cert.Kernel6Ideal.nD Cert.Kernel6Ideal.τ).loc Cert.Kernel6Ideal.main_v0_14) = v14 c
          ∧ r.2.mem ((c.tc : Thread Cert.Kernel6Ideal.nD Cert.Kernel6Ideal.τ).loc Cert.Kernel6Ideal.main_v0_15) = v15 c
          ∧ r.2.mem ((c.tc : Thread Cert.Kernel6Ideal.nD Cert.Kernel6Ideal.τ).loc Cert.Kernel6Ideal.main_v0_16) = v16 c
          ∧ r.2.mem ((c.tc : Thread Cert.Kernel6Ideal.nD Cert.Kernel6Ideal.τ).loc Cert.Kernel6Ideal.main_v0_17) = v17 c
          ∧ r.2.mem ((c.tc : Thread Cert.Kernel6Ideal.nD Cert.Kernel6Ideal.τ).loc Cert.Kernel6Ideal.main_v0_18) = v18 c
          ∧ r.2.mem ((c.tc : Thread Cert.Kernel6Ideal.nD Cert.Kernel6Ideal.τ).loc Cert.Kernel6Ideal.main_v0_19) = v19 c
          ∧ r.2.mem ((c.tc : Thread Cert.Kernel6Ideal.nD Cert.Kernel6Ideal.τ).loc Cert.Kernel6Ideal.main_v0_20) = v20 c
          ∧ r.2.mem ((c.tc : Thread Cert.Kernel6Ideal.nD Cert.Kernel6Ideal.τ).loc Cert.Kernel6Ideal.main_v0_21) = v21 c
          ∧ r.2.mem ((c.tc : Thread Cert.Kernel6Ideal.nD Cert.Kernel6Ideal.τ).loc Cert.Kernel6Ideal.main_v0_22) = v22 c
          ∧ r.2.mem ((c.tc : Thread Cert.Kernel6Ideal.nD Cert.Kernel6Ideal.τ).loc Cert.Kernel6Ideal.main_v0_23) = v23 c
          ∧ r.2.mem ((c.tc : Thread Cert.Kernel6Ideal.nD Cert.Kernel6Ideal.τ).loc Cert.Kernel6Ideal.main_v0_24) = v24 c
          ∧ r.2.mem ((c.tc : Thread Cert.Kernel6Ideal.nD Cert.Kernel6Ideal.τ).loc Cert.Kernel6Ideal.main_v0_25) = v25 c
          ∧ r.2.mem ((c.tc : Thread Cert.Kernel6Ideal.nD Cert.Kernel6Ideal.τ).loc Cert.Kernel6Ideal.main_v0_26) = v26 c
          ∧ r.2.mem ((c.tc : Thread Cert.Kernel6Ideal.nD Cert.Kernel6Ideal.τ).loc Cert.Kernel6Ideal.main_v0_27) = v27 c
          ∧ r.2.mem ((c.tc : Thread Cert.Kernel6Ideal.nD Cert.Kernel6Ideal.τ).loc Cert.Kernel6Ideal.main_v0_28) = v28 c
          ∧ r.2.mem ((c.tc : Thread Cert.Kernel6Ideal.nD Cert.Kernel6Ideal.τ).loc Cert.Kernel6Ideal.main_v0_29) = v29 c
          ∧ r.2.mem ((c.tc : Thread Cert.Kernel6Ideal.nD Cert.Kernel6Ideal.τ).loc Cert.Kernel6Ideal.main_v0_30) = v30 c
          ∧ r.2.mem ((c.tc : Thread Cert.Kernel6Ideal.nD Cert.Kernel6Ideal.τ).loc Cert.Kernel6Ideal.main_v0_31) = v31 c
          ∧ r.2.mem ((c.tc : Thread Cert.Kernel6Ideal.nD Cert.Kernel6Ideal.τ).loc Cert.Kernel6Ideal.main_v0_32) = v32 c
          ∧ r.2.mem ((c.tc : Thread Cert.Kernel6Ideal.nD Cert.Kernel6Ideal.τ).loc Cert.Kernel6Ideal.main_v0_33) = v33 c
          ∧ r.2.mem ((c.tc : Thread Cert.Kernel6Ideal.nD Cert.Kernel6Ideal.τ).loc Cert.Kernel6Ideal.main_v0_34) = v34 c
          ∧ r.2.mem ((c.tc : Thread Cert.Kernel6Ideal.nD Cert.Kernel6Ideal.τ).loc Cert.Kernel6Ideal.main_v0_35) = v35 c
          ∧ r.2.mem ((c.tc : Thread Cert.Kernel6Ideal.nD Cert.Kernel6Ideal.τ).loc Cert.Kernel6Ideal.main_v0_36) = v36 c
          ∧ r.2.mem ((c.tc : Thread Cert.Kernel6Ideal.nD Cert.Kernel6Ideal.τ).loc Cert.Kernel6Ideal.main_v0_37) = v37 c
          ∧ r.2.mem ((c.tc : Thread Cert.Kernel6Ideal.nD Cert.Kernel6Ideal.τ).loc Cert.Kernel6Ideal.main_v0_38) = v38 c
          ∧ r.2.mem ((c.tc : Thread Cert.Kernel6Ideal.nD Cert.Kernel6Ideal.τ).loc Cert.Kernel6Ideal.main_v0_39) = v39 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
          ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
          ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
          ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
          ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31)
          ∧ r.2.mem ((c.tc : Thread Cert.Kernel6Ideal.nD Cert.Kernel6Ideal.τ).loc Cert.Kernel6Ideal.main_arg32) = m ((c.tc : Thread Cert.Kernel6Ideal.nD Cert.Kernel6Ideal.τ).loc Cert.Kernel6Ideal.main_arg32)
          ∧ r.2.mem ((c.tc : Thread Cert.Kernel6Ideal.nD Cert.Kernel6Ideal.τ).loc Cert.Kernel6Ideal.main_arg33) = m ((c.tc : Thread Cert.Kernel6Ideal.nD Cert.Kernel6Ideal.τ).loc Cert.Kernel6Ideal.main_arg33))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg1) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v17) = v3 c
          ∧ r.2.mem ((c.tc : Thread Cert.Reference6Ideal.nD Cert.Reference6Ideal.τ).loc Cert.Reference6Ideal.main_v0) = v4 c
          ∧ r.2.mem ((c.tc : Thread Cert.Reference6Ideal.nD Cert.Reference6Ideal.τ).loc Cert.Reference6Ideal.main_v54) = v5 c
          ∧ r.2.mem ((c.tc : Thread Cert.Reference6Ideal.nD Cert.Reference6Ideal.τ).loc Cert.Reference6Ideal.main_v35) = v6 c
          ∧ r.2.mem ((c.tc : Thread Cert.Reference6Ideal.nD Cert.Reference6Ideal.τ).loc Cert.Reference6Ideal.main_v41) = v7 c
          ∧ r.2.mem ((c.tc : Thread Cert.Reference6Ideal.nD Cert.Reference6Ideal.τ).loc Cert.Reference6Ideal.main_arg2) = v8 c
          ∧ r.2.mem ((c.tc : Thread Cert.Reference6Ideal.nD Cert.Reference6Ideal.τ).loc Cert.Reference6Ideal.main_v78) = v9 c
          ∧ r.2.mem ((c.tc : Thread Cert.Reference6Ideal.nD Cert.Reference6Ideal.τ).loc Cert.Reference6Ideal.main_v59) = v10 c
          ∧ r.2.mem ((c.tc : Thread Cert.Reference6Ideal.nD Cert.Reference6Ideal.τ).loc Cert.Reference6Ideal.main_v65) = v11 c
          ∧ r.2.mem ((c.tc : Thread Cert.Reference6Ideal.nD Cert.Reference6Ideal.τ).loc Cert.Reference6Ideal.main_v1) = v12 c
          ∧ r.2.mem ((c.tc : Thread Cert.Reference6Ideal.nD Cert.Reference6Ideal.τ).loc Cert.Reference6Ideal.main_v102) = v13 c
          ∧ r.2.mem ((c.tc : Thread Cert.Reference6Ideal.nD Cert.Reference6Ideal.τ).loc Cert.Reference6Ideal.main_v83) = v14 c
          ∧ r.2.mem ((c.tc : Thread Cert.Reference6Ideal.nD Cert.Reference6Ideal.τ).loc Cert.Reference6Ideal.main_v89) = v15 c
          ∧ r.2.mem ((c.tc : Thread Cert.Reference6Ideal.nD Cert.Reference6Ideal.τ).loc Cert.Reference6Ideal.main_v2) = v16 c
          ∧ r.2.mem ((c.tc : Thread Cert.Reference6Ideal.nD Cert.Reference6Ideal.τ).loc Cert.Reference6Ideal.main_v126) = v17 c
          ∧ r.2.mem ((c.tc : Thread Cert.Reference6Ideal.nD Cert.Reference6Ideal.τ).loc Cert.Reference6Ideal.main_v107) = v18 c
          ∧ r.2.mem ((c.tc : Thread Cert.Reference6Ideal.nD Cert.Reference6Ideal.τ).loc Cert.Reference6Ideal.main_v113) = v19 c
          ∧ r.2.mem ((c.tc : Thread Cert.Reference6Ideal.nD Cert.Reference6Ideal.τ).loc Cert.Reference6Ideal.main_v3) = v20 c
          ∧ r.2.mem ((c.tc : Thread Cert.Reference6Ideal.nD Cert.Reference6Ideal.τ).loc Cert.Reference6Ideal.main_v150) = v21 c
          ∧ r.2.mem ((c.tc : Thread Cert.Reference6Ideal.nD Cert.Reference6Ideal.τ).loc Cert.Reference6Ideal.main_v131) = v22 c
          ∧ r.2.mem ((c.tc : Thread Cert.Reference6Ideal.nD Cert.Reference6Ideal.τ).loc Cert.Reference6Ideal.main_v137) = v23 c
          ∧ r.2.mem ((c.tc : Thread Cert.Reference6Ideal.nD Cert.Reference6Ideal.τ).loc Cert.Reference6Ideal.main_v4) = v24 c
          ∧ r.2.mem ((c.tc : Thread Cert.Reference6Ideal.nD Cert.Reference6Ideal.τ).loc Cert.Reference6Ideal.main_v174) = v25 c
          ∧ r.2.mem ((c.tc : Thread Cert.Reference6Ideal.nD Cert.Reference6Ideal.τ).loc Cert.Reference6Ideal.main_v155) = v26 c
          ∧ r.2.mem ((c.tc : Thread Cert.Reference6Ideal.nD Cert.Reference6Ideal.τ).loc Cert.Reference6Ideal.main_v161) = v27 c
          ∧ r.2.mem ((c.tc : Thread Cert.Reference6Ideal.nD Cert.Reference6Ideal.τ).loc Cert.Reference6Ideal.main_v5) = v28 c
          ∧ r.2.mem ((c.tc : Thread Cert.Reference6Ideal.nD Cert.Reference6Ideal.τ).loc Cert.Reference6Ideal.main_v198) = v29 c
          ∧ r.2.mem ((c.tc : Thread Cert.Reference6Ideal.nD Cert.Reference6Ideal.τ).loc Cert.Reference6Ideal.main_v179) = v30 c
          ∧ r.2.mem ((c.tc : Thread Cert.Reference6Ideal.nD Cert.Reference6Ideal.τ).loc Cert.Reference6Ideal.main_v185) = v31 c
          ∧ r.2.mem ((c.tc : Thread Cert.Reference6Ideal.nD Cert.Reference6Ideal.τ).loc Cert.Reference6Ideal.main_arg3) = v32 c
          ∧ r.2.mem ((c.tc : Thread Cert.Reference6Ideal.nD Cert.Reference6Ideal.τ).loc Cert.Reference6Ideal.main_v222) = v33 c
          ∧ r.2.mem ((c.tc : Thread Cert.Reference6Ideal.nD Cert.Reference6Ideal.τ).loc Cert.Reference6Ideal.main_v203) = v34 c
          ∧ r.2.mem ((c.tc : Thread Cert.Reference6Ideal.nD Cert.Reference6Ideal.τ).loc Cert.Reference6Ideal.main_v209) = v35 c
          ∧ r.2.mem ((c.tc : Thread Cert.Reference6Ideal.nD Cert.Reference6Ideal.τ).loc Cert.Reference6Ideal.main_v6) = v36 c
          ∧ r.2.mem ((c.tc : Thread Cert.Reference6Ideal.nD Cert.Reference6Ideal.τ).loc Cert.Reference6Ideal.main_v246) = v37 c
          ∧ r.2.mem ((c.tc : Thread Cert.Reference6Ideal.nD Cert.Reference6Ideal.τ).loc Cert.Reference6Ideal.main_v227) = v38 c
          ∧ r.2.mem ((c.tc : Thread Cert.Reference6Ideal.nD Cert.Reference6Ideal.τ).loc Cert.Reference6Ideal.main_v233) = v39 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27)
          ∧ r.2.mem ((c.tc : Thread Cert.Reference6Ideal.nD Cert.Reference6Ideal.τ).loc Cert.Reference6Ideal.main_arg28) = m' ((c.tc : Thread Cert.Reference6Ideal.nD Cert.Reference6Ideal.τ).loc Cert.Reference6Ideal.main_arg28)
          ∧ r.2.mem ((c.tc : Thread Cert.Reference6Ideal.nD Cert.Reference6Ideal.τ).loc Cert.Reference6Ideal.main_arg29) = m' ((c.tc : Thread Cert.Reference6Ideal.nD Cert.Reference6Ideal.τ).loc Cert.Reference6Ideal.main_arg29)
          ∧ r.2.mem ((c.tc : Thread Cert.Reference6Ideal.nD Cert.Reference6Ideal.τ).loc Cert.Reference6Ideal.main_arg30) = m' ((c.tc : Thread Cert.Reference6Ideal.nD Cert.Reference6Ideal.τ).loc Cert.Reference6Ideal.main_arg30)
          ∧ r.2.mem ((c.tc : Thread Cert.Reference6Ideal.nD Cert.Reference6Ideal.τ).loc Cert.Reference6Ideal.main_arg31) = m' ((c.tc : Thread Cert.Reference6Ideal.nD Cert.Reference6Ideal.τ).loc Cert.Reference6Ideal.main_arg31)
          ∧ r.2.mem ((c.tc : Thread Cert.Reference6Ideal.nD Cert.Reference6Ideal.τ).loc Cert.Reference6Ideal.main_arg32) = m' ((c.tc : Thread Cert.Reference6Ideal.nD Cert.Reference6Ideal.τ).loc Cert.Reference6Ideal.main_arg32)
          ∧ r.2.mem ((c.tc : Thread Cert.Reference6Ideal.nD Cert.Reference6Ideal.τ).loc Cert.Reference6Ideal.main_arg33) = m' ((c.tc : Thread Cert.Reference6Ideal.nD Cert.Reference6Ideal.τ).loc Cert.Reference6Ideal.main_arg33))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel2.lean ====
abbrev S4096x2048 : Shape := ⟨2, ![4096, 2048]⟩
abbrev S4096x128 : Shape := ⟨2, ![4096, 128]⟩
abbrev S4224x1024 : Shape := ⟨2, ![4224, 1024]⟩
abbrev S4096x1024 : Shape := ⟨2, ![4096, 1024]⟩
abbrev S1x1024 : Shape := ⟨2, ![1, 1024]⟩
abbrev S64x1024 : Shape := ⟨2, ![64, 1024]⟩
abbrev S64x2048 : Shape := ⟨2, ![64, 2048]⟩
abbrev S64x128 : Shape := ⟨2, ![64, 128]⟩
abbrev S_ : Shape := ⟨0, ![]⟩
abbrev S64 : Shape := ⟨1, ![64]⟩
abbrev S64x1 : Shape := ⟨2, ![64, 1]⟩
abbrev S2048x1024 : Shape := ⟨2, ![2048, 1024]⟩
abbrev S128x1024 : Shape := ⟨2, ![128, 1024]⟩
abbrev S512x2048 : Shape := ⟨2, ![512, 2048]⟩
abbrev S512x128 : Shape := ⟨2, ![512, 128]⟩
abbrev S512x1024 : Shape := ⟨2, ![512, 1024]⟩
abbrev S1024 : Shape := ⟨1, ![1024]⟩
abbrev S64x512 : Shape := ⟨2, ![64, 512]⟩
abbrev S512 : Shape := ⟨1, ![512]⟩
abbrev S512x1 : Shape := ⟨2, ![512, 1]⟩
abbrev S512x512 : Shape := ⟨2, ![512, 512]⟩

abbrev nBuf : Space → Nat
  | .hbm => 33
  | .vmem => 26
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S4224x1024, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S64x1024, .f32⟩
  | .hbm, ⟨8, _⟩ => ⟨S64x2048, .bf16⟩
  | .hbm, ⟨9, _⟩ => ⟨S64x2048, .bf16⟩
  | .hbm, ⟨10, _⟩ => ⟨S64x128, .bf16⟩
  | .hbm, ⟨11, _⟩ => ⟨S64x1024, .f32⟩
  | .hbm, ⟨12, _⟩ => ⟨S_, .f32⟩
  | .hbm, ⟨13, _⟩ => ⟨S64, .f32⟩
  | .hbm, ⟨14, _⟩ => ⟨S64x1, .f32⟩
  | .hbm, ⟨15, _⟩ => ⟨S_, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x1, .f32⟩
  | .hbm, ⟨22, _⟩ => ⟨S64x1024, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S64x1024, .bf16⟩
  | .hbm, ⟨27, _⟩ => ⟨S4096x1024, .f32⟩
  | .hbm, ⟨28, _⟩ => ⟨S64x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S128x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x128, .bf16⟩
  | .local _ .vmem, ⟨5, _⟩ => ⟨S512x128, .bf16⟩
  | .local _ .vmem, ⟨6, _⟩ => ⟨S2048x1024, .bf16⟩
  | .local _ .vmem, ⟨7, _⟩ => ⟨S2048x1024, .bf16⟩
  | .local _ .vmem, ⟨8, _⟩ => ⟨S128x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S64x1024, .f32⟩
  | .local _ .vmem, ⟨15, _⟩ => ⟨S64x1024, .bf16⟩
  | .local _ .vmem, ⟨16, _⟩ => ⟨S64x2048, .bf16⟩
  | .local _ .vmem, ⟨17, _⟩ => ⟨S64x2048, .bf16⟩
  | .local _ .vmem, ⟨18, _⟩ => ⟨S64x128, .bf16⟩
  | .local _ .vmem, ⟨19, _⟩ => ⟨S512x1024, .f32⟩
  | .local _ .vmem, ⟨20, _⟩ => ⟨S512x1024, .f32⟩
  | .local _ .vmem, ⟨21, _⟩ => ⟨S64x1024, .f32⟩
  | .local _ .vmem, ⟨22, _⟩ => ⟨S1x1024, .f32⟩
  | .local _ .vmem, ⟨23, _⟩ => ⟨S2048x1024, .f32⟩
  | .local _ .vmem, ⟨24, _⟩ => ⟨S2048x1024, .f32⟩
  | .local _ .vmem, ⟨25, _⟩ => ⟨S128x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v13_4 : Ref sig .tc := ⟨.hbm, 31, rfl⟩
abbrev main_v13_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c32_i32 : BitVec 32 := 32#32
  let c0_i32 : BitVec 32 := 0#32
  let c0_i32_0 : BitVec 32 := 0#32
  ![c32_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S64x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S4096x2048 : Shape := ⟨2, ![4096, 2048]⟩
abbrev S4096x128 : Shape := ⟨2, ![4096, 128]⟩
abbrev S4224x1024 : Shape := ⟨2, ![4224, 1024]⟩
abbrev S4096x1024 : Shape := ⟨2, ![4096, 1024]⟩
abbrev S1x1024 : Shape := ⟨2, ![1, 1024]⟩
abbrev S64x1024 : Shape := ⟨2, ![64, 1024]⟩
abbrev S64x2048 : Shape := ⟨2, ![64, 2048]⟩
abbrev S64x128 : Shape := ⟨2, ![64, 128]⟩
abbrev S_ : Shape := ⟨0, ![]⟩
abbrev S4096 : Shape := ⟨1, ![4096]⟩
abbrev S4096x1 : Shape := ⟨2, ![4096, 1]⟩
abbrev S4096x4224 : Shape := ⟨2, ![4096, 4224]⟩
abbrev S64 : Shape := ⟨1, ![64]⟩
abbrev S64x1 : Shape := ⟨2, ![64, 1]⟩
abbrev S64x4224 : Shape := ⟨2, ![64, 4224]⟩
abbrev S1024 : Shape := ⟨1, ![1024]⟩
abbrev S2048x1024 : Shape := ⟨2, ![2048, 1024]⟩
abbrev S128x1024 : Shape := ⟨2, ![128, 1024]⟩

abbrev nBuf : Space → Nat
  | .hbm => 122
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S4224x1024, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S64x1024, .f32⟩
  | .hbm, ⟨8, _⟩ => ⟨S64x2048, .bf16⟩
  | .hbm, ⟨9, _⟩ => ⟨S64x2048, .bf16⟩
  | .hbm, ⟨10, _⟩ => ⟨S64x128, .bf16⟩
  | .hbm, ⟨11, _⟩ => ⟨S4224x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x4224, .f32⟩
  | .hbm, ⟨32, _⟩ => ⟨S4096x2048, .f32⟩
  | .hbm, ⟨33, _⟩ => ⟨S4096x2048, .f32⟩
  | .hbm, ⟨34, _⟩ => ⟨S4096x128, .f32⟩
  | .hbm, ⟨35, _⟩ => ⟨S64x1024, .f32⟩
  | .hbm, ⟨36, _⟩ => ⟨S_, .f32⟩
  | .hbm, ⟨37, _⟩ => ⟨S64, .f32⟩
  | .hbm, ⟨38, _⟩ => ⟨S64x1, .f32⟩
  | .hbm, ⟨39, _⟩ => ⟨S_, .f32⟩
  | .hbm, ⟨40, _⟩ => ⟨S64x1, .f32⟩
  | .hbm, ⟨41, _⟩ => ⟨S64x1, .f32⟩
  | .hbm, ⟨42, _⟩ => ⟨S_, .f32⟩
  | .hbm, ⟨43, _⟩ => ⟨S64x1, .f32⟩
  | .hbm, ⟨44, _⟩ => ⟨S64x1, .f32⟩
  | .hbm, ⟨45, _⟩ => ⟨S64x1, .f32⟩
  | .hbm, ⟨46, _⟩ => ⟨S64x1, .f32⟩
  | .hbm, ⟨47, _⟩ => ⟨S_, .f32⟩
  | .hbm, ⟨48, _⟩ => ⟨S64x1, .f32⟩
  | .hbm, ⟨49, _⟩ => ⟨S64x1, .f32⟩
  | .hbm, ⟨50, _⟩ => ⟨S64x1024, .f32⟩
  | .hbm, ⟨51, _⟩ => ⟨S64x1024, .f32⟩
  | .hbm, ⟨52, _⟩ => ⟨S64x1024, .f32⟩
  | .hbm, ⟨53, _⟩ => ⟨S64x1024, .f32⟩
  | .hbm, ⟨54, _⟩ => ⟨S64x4224, .f32⟩
  | .hbm, ⟨55, _⟩ => ⟨S64x2048, .f32⟩
  | .hbm, ⟨56, _⟩ => ⟨S64x2048, .f32⟩
  | .hbm, ⟨57, _⟩ => ⟨S64x128, .f32⟩
  | .hbm, ⟨58, _⟩ => ⟨S4096x2048, .f32⟩
  | .hbm, ⟨59, _⟩ => ⟨S4096x2048, .f32⟩
  | .hbm, ⟨60, _⟩ => ⟨S4096x128, .f32⟩
  | .hbm, ⟨61, _⟩ => ⟨S64x2048, .f32⟩
  | .hbm, ⟨62, _⟩ => ⟨S64x2048, .f32⟩
  | .hbm, ⟨63, _⟩ => ⟨S64x128, .f32⟩
  | .hbm, ⟨64, _⟩ => ⟨S64x4224, .f32⟩
  | .hbm, ⟨65, _⟩ => ⟨S4224x1024, .f32⟩
  | .hbm, ⟨66, _⟩ => ⟨S64x1024, .f32⟩
  | .hbm, ⟨67, _⟩ => ⟨S64x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S64x1024, .f32⟩
  | .hbm, ⟨72, _⟩ => ⟨S64x1024, .f32⟩
  | .hbm, ⟨73, _⟩ => ⟨S64x1024, .f32⟩
  | .hbm, ⟨74, _⟩ => ⟨S_, .f32⟩
  | .hbm, ⟨75, _⟩ => ⟨S64, .f32⟩
  | .hbm, ⟨76, _⟩ => ⟨S64x1, .f32⟩
  | .hbm, ⟨77, _⟩ => ⟨S64x1024, .f32⟩
  | .hbm, ⟨78, _⟩ => ⟨S64x1024, .f32⟩
  | .hbm, ⟨79, _⟩ => ⟨S64x1, .f32⟩
  | .hbm, ⟨80, _⟩ => ⟨S_, .f32⟩
  | .hbm, ⟨81, _⟩ => ⟨S64x1, .f32⟩
  | .hbm, ⟨82, _⟩ => ⟨S64x1, .f32⟩
  | .hbm, ⟨83, _⟩ => ⟨S_, .f32⟩
  | .hbm, ⟨84, _⟩ => ⟨S64, .f32⟩
  | .hbm, ⟨85, _⟩ => ⟨S64x1024, .f32⟩
  | .hbm, ⟨86, _⟩ => ⟨S64x1024, .f32⟩
  | .hbm, ⟨87, _⟩ => ⟨S64x1024, .f32⟩
  | .hbm, ⟨88, _⟩ => ⟨S64x1024, .f32⟩
  | .hbm, ⟨89, _⟩ => ⟨S64x1024, .f32⟩
  | .hbm, ⟨90, _⟩ => ⟨S4096x4224, .f32⟩
  | .hbm, ⟨91, _⟩ => ⟨S4224x1024, .f32⟩
  | .hbm, ⟨92, _⟩ => ⟨S4224x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S1x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1024, .f32⟩
  | .hbm, ⟨106, _⟩ => ⟨S4096x1024, .f32⟩
  | .hbm, ⟨107, _⟩ => ⟨S4096x1, .f32⟩
  | .hbm, ⟨108, _⟩ => ⟨S_, .f32⟩
  | .hbm, ⟨109, _⟩ => ⟨S4096x1, .f32⟩
  | .hbm, ⟨110, _⟩ => ⟨S4096x1, .f32⟩
  | .hbm, ⟨111, _⟩ => ⟨S_, .f32⟩
  | .hbm, ⟨112, _⟩ => ⟨S4096, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S2048x1024, .f32⟩
  | .hbm, ⟨120, _⟩ => ⟨S2048x1024, .f32⟩
  | .hbm, ⟨121, _⟩ => ⟨S128x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_11 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_cst_14 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩

abbrev nD : Nat := 1
abbrev τ : Topo := Topo.v7x

variable {F : FTy → Type} [FloatOps F]
-- ==== Kernel3.lean ====
abbrev S4096x1024 : Shape := ⟨2, ![4096, 1024]⟩
abbrev S4096x512 : Shape := ⟨2, ![4096, 512]⟩
abbrev S1024x1024 : Shape := ⟨2, ![1024, 1024]⟩
abbrev S1x1024 : Shape := ⟨2, ![1, 1024]⟩
abbrev S8x128 : Shape := ⟨2, ![8, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S1024x1024, .f32⟩
  | .hbm, ⟨10, _⟩ => ⟨S8x128, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S1024x1024, .f32⟩
  | .local _ .vmem, ⟨17, _⟩ => ⟨S8x128, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S4096x1024 : Shape := ⟨2, ![4096, 1024]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x512, .f32⟩
  | .hbm, ⟨7, _⟩ => ⟨S4096x512, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S1024x1024, .f32⟩
  | .hbm, ⟨78, _⟩ => ⟨S1024x1024, .f32⟩
  | .hbm, ⟨79, _⟩ => ⟨S4096x1024, .f32⟩
  | .hbm, ⟨80, _⟩ => ⟨S4096x512, .f32⟩
  | .hbm, ⟨81, _⟩ => ⟨S4096x512, .f32⟩
  | .hbm, ⟨82, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel4.lean ====
abbrev S4096x1024 : Shape := ⟨2, ![4096, 1024]⟩
abbrev S64x1024 : Shape := ⟨2, ![64, 1024]⟩
abbrev S1x1024 : Shape := ⟨2, ![1, 1024]⟩
abbrev S4224x1024 : Shape := ⟨2, ![4224, 1024]⟩
abbrev S4096x2048 : Shape := ⟨2, ![4096, 2048]⟩
abbrev S4096x128 : Shape := ⟨2, ![4096, 128]⟩
abbrev S64x2048 : Shape := ⟨2, ![64, 2048]⟩
abbrev S64x128 : Shape := ⟨2, ![64, 128]⟩
abbrev S512x1024 : Shape := ⟨2, ![512, 1024]⟩
abbrev S2048x1024 : Shape := ⟨2, ![2048, 1024]⟩
abbrev S128x1024 : Shape := ⟨2, ![128, 1024]⟩
abbrev S512x2048 : Shape := ⟨2, ![512, 2048]⟩
abbrev S512x128 : Shape := ⟨2, ![512, 128]⟩
abbrev S64 : Shape := ⟨1, ![64]⟩
abbrev S64x1 : Shape := ⟨2, ![64, 1]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S64x1024, .f32⟩
  | .hbm, ⟨2, _⟩ => ⟨S1x1024, .f32⟩
  | .hbm, ⟨3, _⟩ => ⟨S4224x1024, .bf16⟩
  | .hbm, ⟨4, _⟩ => ⟨S4096x2048, .f32⟩
  | .hbm, ⟨5, _⟩ => ⟨S4096x2048, .f32⟩
  | .hbm, ⟨6, _⟩ => ⟨S4096x128, .f32⟩
  | .hbm, ⟨7, _⟩ => ⟨S64x2048, .f32⟩
  | .hbm, ⟨8, _⟩ => ⟨S64x2048, .f32⟩
  | .hbm, ⟨9, _⟩ => ⟨S64x128, .f32⟩
  | .hbm, ⟨10, _⟩ => ⟨S64x1024, .bf16⟩
  | .local _ .vmem, ⟨0, _⟩ => ⟨S512x1024, .f32⟩
  | .local _ .vmem, ⟨1, _⟩ => ⟨S512x1024, .f32⟩
  | .local _ .vmem, ⟨2, _⟩ => ⟨S64x1024, .f32⟩
  | .local _ .vmem, ⟨3, _⟩ => ⟨S1x1024, .f32⟩
  | .local _ .vmem, ⟨4, _⟩ => ⟨S2048x1024, .bf16⟩
  | .local _ .vmem, ⟨5, _⟩ => ⟨S2048x1024, .bf16⟩
  | .local _ .vmem, ⟨6, _⟩ => ⟨S128x1024, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x128, .f32⟩
  | .local _ .vmem, ⟨12, _⟩ => ⟨S512x128, .f32⟩
  | .local _ .vmem, ⟨13, _⟩ => ⟨S64x2048, .f32⟩
  | .local _ .vmem, ⟨14, _⟩ => ⟨S64x2048, .f32⟩
  | .local _ .vmem, ⟨15, _⟩ => ⟨S64x128, .f32⟩
  | .local _ .vmem, ⟨16, _⟩ => ⟨S64x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c32_i32 : BitVec 32 := 32#32
  let c0_i32 : BitVec 32 := 0#32
  let c0_i32_0 : BitVec 32 := 0#32
  ![c32_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S4096x1024 : Shape := ⟨2, ![4096, 1024]⟩
abbrev S64x1024 : Shape := ⟨2, ![64, 1024]⟩
abbrev S1x1024 : Shape := ⟨2, ![1, 1024]⟩
abbrev S4224x1024 : Shape := ⟨2, ![4224, 1024]⟩
abbrev S_ : Shape := ⟨0, ![]⟩
abbrev S4096 : Shape := ⟨1, ![4096]⟩
abbrev S4096x1 : Shape := ⟨2, ![4096, 1]⟩
abbrev S4096x4224 : Shape := ⟨2, ![4096, 4224]⟩
abbrev S4096x2048 : Shape := ⟨2, ![4096, 2048]⟩
abbrev S4096x128 : Shape := ⟨2, ![4096, 128]⟩
abbrev S64 : Shape := ⟨1, ![64]⟩
abbrev S64x1 : Shape := ⟨2, ![64, 1]⟩
abbrev S64x4224 : Shape := ⟨2, ![64, 4224]⟩
abbrev S64x2048 : Shape := ⟨2, ![64, 2048]⟩
abbrev S64x128 : Shape := ⟨2, ![64, 128]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S64x1024, .f32⟩
  | .hbm, ⟨2, _⟩ => ⟨S1x1024, .f32⟩
  | .hbm, ⟨3, _⟩ => ⟨S4224x1024, .bf16⟩
  | .hbm, ⟨4, _⟩ => ⟨S4224x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4224, .f32⟩
  | .hbm, ⟨21, _⟩ => ⟨S4096x2048, .f32⟩
  | .hbm, ⟨22, _⟩ => ⟨S4096x2048, .f32⟩
  | .hbm, ⟨23, _⟩ => ⟨S4096x128, .f32⟩
  | .hbm, ⟨24, _⟩ => ⟨S64x1024, .f32⟩
  | .hbm, ⟨25, _⟩ => ⟨S_, .f32⟩
  | .hbm, ⟨26, _⟩ => ⟨S64, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S_, .f32⟩
  | .hbm, ⟨32, _⟩ => ⟨S64x1, .f32⟩
  | .hbm, ⟨33, _⟩ => ⟨S64x1, .f32⟩
  | .hbm, ⟨34, _⟩ => ⟨S64x1, .f32⟩
  | .hbm, ⟨35, _⟩ => ⟨S64x1024, .f32⟩
  | .hbm, ⟨36, _⟩ => ⟨S64x1024, .f32⟩
  | .hbm, ⟨37, _⟩ => ⟨S64x1024, .f32⟩
  | .hbm, ⟨38, _⟩ => ⟨S64x1024, .f32⟩
  | .hbm, ⟨39, _⟩ => ⟨S64x4224, .f32⟩
  | .hbm, ⟨40, _⟩ => ⟨S64x2048, .f32⟩
  | .hbm, ⟨41, _⟩ => ⟨S64x2048, .f32⟩
  | .hbm, ⟨42, _⟩ => ⟨S64x128, .f32⟩
  | .hbm, ⟨43, _⟩ => ⟨S64x1024, .f32⟩
  | .hbm, ⟨44, _⟩ => ⟨S_, .f32⟩
  | .hbm, ⟨45, _⟩ => ⟨S64, .f32⟩
  | .hbm, ⟨46, _⟩ => ⟨S64x1, .f32⟩
  | .hbm, ⟨47, _⟩ => ⟨S_, .f32⟩
  | .hbm, ⟨48, _⟩ => ⟨S64x1, .f32⟩
  | .hbm, ⟨49, _⟩ => ⟨S64x1, .f32⟩
  | .hbm, ⟨50, _⟩ => ⟨S_, .f32⟩
  | .hbm, ⟨51, _⟩ => ⟨S64x1, .f32⟩
  | .hbm, ⟨52, _⟩ => ⟨S64x1, .f32⟩
  | .hbm, ⟨53, _⟩ => ⟨S64x1, .f32⟩
  | .hbm, ⟨54, _⟩ => ⟨S64x1024, .f32⟩
  | .hbm, ⟨55, _⟩ => ⟨S64x1024, .f32⟩
  | .hbm, ⟨56, _⟩ => ⟨S64x1024, .f32⟩
  | .hbm, ⟨57, _⟩ => ⟨S64x1024, .f32⟩
  | .hbm, ⟨58, _⟩ => ⟨S64x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel5.lean ====
abbrev S1x1024x513 : Shape := ⟨3, ![1, 1024, 513]⟩
abbrev S513x1024 : Shape := ⟨2, ![513, 1024]⟩
abbrev S513x1x1024 : Shape := ⟨3, ![513, 1, 1024]⟩

abbrev nBuf : Space → Nat
  | .hbm => 11
  | .vmem => 8
  | .smem => 0
  | _ => 0

abbrev bufTy : (tb : Table) → Fin (tcTables nBuf tb) → BufTy
  | .hbm, ⟨0, _⟩ => ⟨S1x1024x513, .f32⟩
  | .hbm, ⟨1, _⟩ => ⟨S513x1024, .f32⟩
  | .hbm, ⟨2, _⟩ => ⟨S1x1024x513, .f32⟩
  | .hbm, ⟨3, _⟩ => ⟨S1x1024x513, .f32⟩
  | .hbm, ⟨4, _⟩ => ⟨S513x1x1024, .f32⟩
  | .hbm, ⟨5, _⟩ => ⟨S513x1x1024, .f32⟩
  | .hbm, ⟨6, _⟩ => ⟨S513x1x1024, .f32⟩
  | .hbm, ⟨7, _⟩ => ⟨S513x1x1024, .f32⟩
  | .hbm, ⟨8, _⟩ => ⟨S513x1x1024, .f32⟩
  | .hbm, ⟨9, _⟩ => ⟨S513x1x1024, .f32⟩
  | .hbm, ⟨10, _⟩ => ⟨S513x1x1024, .f32⟩
  | .local _ .vmem, ⟨0, _⟩ => ⟨S513x1x1024, .f32⟩
  | .local _ .vmem, ⟨1, _⟩ => ⟨S513x1024, .f32⟩
  | .local _ .vmem, ⟨2, _⟩ => ⟨S513x1x1024, .f32⟩
  | .local _ .vmem, ⟨3, _⟩ => ⟨S513x1x1024, .f32⟩
  | .local _ .vmem, ⟨4, _⟩ => ⟨S513x1x1024, .f32⟩
  | .local _ .vmem, ⟨5, _⟩ => ⟨S513x1x1024, .f32⟩
  | .local _ .vmem, ⟨6, _⟩ => ⟨S513x1x1024, .f32⟩
  | .local _ .vmem, ⟨7, _⟩ => ⟨S513x1x1024, .f32⟩
  | _, _ => ⟨S1x1024x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S513x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S513x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S513x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S513x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S513x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S513x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S513x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S513x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference5Ideal.lean ====
abbrev S1x1024x513 : Shape := ⟨3, ![1, 1024, 513]⟩
abbrev S513x1024 : Shape := ⟨2, ![513, 1024]⟩
abbrev S1024x513 : Shape := ⟨2, ![1024, 513]⟩
abbrev S_ : Shape := ⟨0, ![]⟩
abbrev S513x1x1024 : Shape := ⟨3, ![513, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x513, .f32⟩
  | .hbm, ⟨1, _⟩ => ⟨S513x1024, .f32⟩
  | .hbm, ⟨2, _⟩ => ⟨S1x1024x513, .f32⟩
  | .hbm, ⟨3, _⟩ => ⟨S1x1024x513, .f32⟩
  | .hbm, ⟨4, _⟩ => ⟨S1024x513, .f32⟩
  | .hbm, ⟨5, _⟩ => ⟨S1x1024x513, .f32⟩
  | .hbm, ⟨6, _⟩ => ⟨S_, .f32⟩
  | .hbm, ⟨7, _⟩ => ⟨S1x1024x513, .f32⟩
  | .hbm, ⟨8, _⟩ => ⟨S1x1024x513, .f32⟩
  | .hbm, ⟨9, _⟩ => ⟨S_, .f32⟩
  | .hbm, ⟨10, _⟩ => ⟨S1x1024x513, .f32⟩
  | .hbm, ⟨11, _⟩ => ⟨S1x1024x513, .f32⟩
  | .hbm, ⟨12, _⟩ => ⟨S1x1024x513, .f32⟩
  | .hbm, ⟨13, _⟩ => ⟨S_, .f32⟩
  | .hbm, ⟨14, _⟩ => ⟨S1x1024x513, .f32⟩
  | .hbm, ⟨15, _⟩ => ⟨S1x1024x513, .f32⟩
  | .hbm, ⟨16, _⟩ => ⟨S1x1024x513, .f32⟩
  | .hbm, ⟨17, _⟩ => ⟨S_, .f32⟩
  | .hbm, ⟨18, _⟩ => ⟨S1x1024x513, .f32⟩
  | .hbm, ⟨19, _⟩ => ⟨S1x1024x513, .f32⟩
  | .hbm, ⟨20, _⟩ => ⟨S1x1024x513, .f32⟩
  | .hbm, ⟨21, _⟩ => ⟨S_, .f32⟩
  | .hbm, ⟨22, _⟩ => ⟨S1x1024x513, .f32⟩
  | .hbm, ⟨23, _⟩ => ⟨S1x1024x513, .f32⟩
  | .hbm, ⟨24, _⟩ => ⟨S_, .f32⟩
  | .hbm, ⟨25, _⟩ => ⟨S1x1024x513, .f32⟩
  | .hbm, ⟨26, _⟩ => ⟨S1x1024x513, .f32⟩
  | .hbm, ⟨27, _⟩ => ⟨S1x1024x513, .f32⟩
  | .hbm, ⟨28, _⟩ => ⟨S_, .f32⟩
  | .hbm, ⟨29, _⟩ => ⟨S1x1024x513, .f32⟩
  | .hbm, ⟨30, _⟩ => ⟨S1x1024x513, .f32⟩
  | .hbm, ⟨31, _⟩ => ⟨S1x1024x513, .f32⟩
  | .hbm, ⟨32, _⟩ => ⟨S_, .f32⟩
  | .hbm, ⟨33, _⟩ => ⟨S1x1024x513, .f32⟩
  | .hbm, ⟨34, _⟩ => ⟨S1x1024x513, .f32⟩
  | .hbm, ⟨35, _⟩ => ⟨S1x1024x513, .f32⟩
  | .hbm, ⟨36, _⟩ => ⟨S_, .f32⟩
  | .hbm, ⟨37, _⟩ => ⟨S1x1024x513, .f32⟩
  | .hbm, ⟨38, _⟩ => ⟨S1x1024x513, .f32⟩
  | .hbm, ⟨39, _⟩ => ⟨S513x1x1024, .f32⟩
  | .hbm, ⟨40, _⟩ => ⟨S513x1x1024, .f32⟩
  | .hbm, ⟨41, _⟩ => ⟨S513x1x1024, .f32⟩
  | .hbm, ⟨42, _⟩ => ⟨S513x1x1024, .f32⟩
  | _, _ => ⟨S1x1024x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel6.lean ====
abbrev S240x128 : Shape := ⟨2, ![240, 128]⟩
abbrev S16x128 : Shape := ⟨2, ![16, 128]⟩
abbrev S4x192 : Shape := ⟨2, ![4, 192]⟩
abbrev S128x1024 : Shape := ⟨2, ![128, 1024]⟩
abbrev S8x128 : Shape := ⟨2, ![8, 128]⟩
abbrev S1x128 : Shape := ⟨2, ![1, 128]⟩
abbrev S1x4 : Shape := ⟨2, ![1, 4]⟩

abbrev nBuf : Space → Nat
  | .hbm => 74
  | .vmem => 74
  | .smem => 0
  | _ => 0

abbrev bufTy : (tb : Table) → Fin (tcTables nBuf tb) → BufTy
  | .hbm, ⟨0, _⟩ => ⟨S240x128, .f32⟩
  | .hbm, ⟨1, _⟩ => ⟨S16x128, .f32⟩
  | .hbm, ⟨2, _⟩ => ⟨S4x192, .f32⟩
  | .hbm, ⟨3, _⟩ => ⟨S128x1024, .f32⟩
  | .hbm, ⟨4, _⟩ => ⟨S16x128, .f32⟩
  | .hbm, ⟨5, _⟩ => ⟨S8x128, .f32⟩
  | .hbm, ⟨6, _⟩ => ⟨S4x192, .f32⟩
  | .hbm, ⟨7, _⟩ => ⟨S8x128, .f32⟩
  | .hbm, ⟨8, _⟩ => ⟨S1x128, .f32⟩
  | .hbm, ⟨9, _⟩ => ⟨S1x4, .f32⟩
  | .hbm, ⟨10, _⟩ => ⟨S1x4, .f32⟩
  | .hbm, ⟨11, _⟩ => ⟨S1x128, .f32⟩
  | .hbm, ⟨12, _⟩ => ⟨S128x1024, .f32⟩
  | .hbm, ⟨13, _⟩ => ⟨S8x128, .f32⟩
  | .hbm, ⟨14, _⟩ => ⟨S16x128, .f32⟩
  | .hbm, ⟨15, _⟩ => ⟨S8x128, .f32⟩
  | .hbm, ⟨16, _⟩ => ⟨S4x192, .f32⟩
  | .hbm, ⟨17, _⟩ => ⟨S8x128, .f32⟩
  | .hbm, ⟨18, _⟩ => ⟨S1x128, .f32⟩
  | .hbm, ⟨19, _⟩ => ⟨S1x4, .f32⟩
  | .hbm, ⟨20, _⟩ => ⟨S1x4, .f32⟩
  | .hbm, ⟨21, _⟩ => ⟨S1x128, .f32⟩
  | .hbm, ⟨22, _⟩ => ⟨S128x1024, .f32⟩
  | .hbm, ⟨23, _⟩ => ⟨S8x128, .f32⟩
  | .hbm, ⟨24, _⟩ => ⟨S16x128, .f32⟩
  | .hbm, ⟨25, _⟩ => ⟨S8x128, .f32⟩
  | .hbm, ⟨26, _⟩ => ⟨S4x192, .f32⟩
  | .hbm, ⟨27, _⟩ => ⟨S8x128, .f32⟩
  | .hbm, ⟨28, _⟩ => ⟨S1x128, .f32⟩
  | .hbm, ⟨29, _⟩ => ⟨S1x4, .f32⟩
  | .hbm, ⟨30, _⟩ => ⟨S1x4, .f32⟩
  | .hbm, ⟨31, _⟩ => ⟨S1x128, .f32⟩
  | .hbm, ⟨32, _⟩ => ⟨S128x1024, .f32⟩
  | .hbm, ⟨33, _⟩ => ⟨S8x128, .f32⟩
  | .hbm, ⟨34, _⟩ => ⟨S16x128, .f32⟩
  | .hbm, ⟨35, _⟩ => ⟨S16x128, .f32⟩
  | .hbm, ⟨36, _⟩ => ⟨S16x128, .f32⟩
  | .hbm, ⟨37, _⟩ => ⟨S16x128, .f32⟩
  | .hbm, ⟨38, _⟩ => ⟨S8x128, .f32⟩
  | .hbm, ⟨39, _⟩ => ⟨S8x128, .f32⟩
  | .hbm, ⟨40, _⟩ => ⟨S8x128, .f32⟩
  | .hbm, ⟨41, _⟩ => ⟨S8x128, .f32⟩
  | .hbm, ⟨42, _⟩ => ⟨S4x192, .f32⟩
  | .hbm, ⟨43, _⟩ => ⟨S4x192, .f32⟩
  | .hbm, ⟨44, _⟩ => ⟨S4x192, .f32⟩
  | .hbm, ⟨45, _⟩ => ⟨S4x192, .f32⟩
  | .hbm, ⟨46, _⟩ => ⟨S8x128, .f32⟩
  | .hbm, ⟨47, _⟩ => ⟨S8x128, .f32⟩
  | .hbm, ⟨48, _⟩ => ⟨S8x128, .f32⟩
  | .hbm, ⟨49, _⟩ => ⟨S8x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x4, .f32⟩
  | .hbm, ⟨55, _⟩ => ⟨S1x4, .f32⟩
  | .hbm, ⟨56, _⟩ => ⟨S1x4, .f32⟩
  | .hbm, ⟨57, _⟩ => ⟨S1x4, .f32⟩
  | .hbm, ⟨58, _⟩ => ⟨S1x4, .f32⟩
  | .hbm, ⟨59, _⟩ => ⟨S1x4, .f32⟩
  | .hbm, ⟨60, _⟩ => ⟨S1x4, .f32⟩
  | .hbm, ⟨61, _⟩ => ⟨S1x4, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S128x1024, .f32⟩
  | .hbm, ⟨67, _⟩ => ⟨S128x1024, .f32⟩
  | .hbm, ⟨68, _⟩ => ⟨S128x1024, .f32⟩
  | .hbm, ⟨69, _⟩ => ⟨S128x1024, .f32⟩
  | .hbm, ⟨70, _⟩ => ⟨S8x128, .f32⟩
  | .hbm, ⟨71, _⟩ => ⟨S8x128, .f32⟩
  | .hbm, ⟨72, _⟩ => ⟨S8x128, .f32⟩
  | .hbm, ⟨73, _⟩ => ⟨S8x128, .f32⟩
  | .local _ .vmem, ⟨0, _⟩ => ⟨S240x128, .f32⟩
  | .local _ .vmem, ⟨1, _⟩ => ⟨S16x128, .f32⟩
  | .local _ .vmem, ⟨2, _⟩ => ⟨S8x128, .f32⟩
  | .local _ .vmem, ⟨3, _⟩ => ⟨S4x192, .f32⟩
  | .local _ .vmem, ⟨4, _⟩ => ⟨S8x128, .f32⟩
  | .local _ .vmem, ⟨5, _⟩ => ⟨S1x128, .f32⟩
  | .local _ .vmem, ⟨6, _⟩ => ⟨S1x4, .f32⟩
  | .local _ .vmem, ⟨7, _⟩ => ⟨S1x4, .f32⟩
  | .local _ .vmem, ⟨8, _⟩ => ⟨S1x128, .f32⟩
  | .local _ .vmem, ⟨9, _⟩ => ⟨S128x1024, .f32⟩
  | .local _ .vmem, ⟨10, _⟩ => ⟨S8x128, .f32⟩
  | .local _ .vmem, ⟨11, _⟩ => ⟨S16x128, .f32⟩
  | .local _ .vmem, ⟨12, _⟩ => ⟨S8x128, .f32⟩
  | .local _ .vmem, ⟨13, _⟩ => ⟨S4x192, .f32⟩
  | .local _ .vmem, ⟨14, _⟩ => ⟨S8x128, .f32⟩
  | .local _ .vmem, ⟨15, _⟩ => ⟨S1x128, .f32⟩
  | .local _ .vmem, ⟨16, _⟩ => ⟨S1x4, .f32⟩
  | .local _ .vmem, ⟨17, _⟩ => ⟨S1x4, .f32⟩
  | .local _ .vmem, ⟨18, _⟩ => ⟨S1x128, .f32⟩
  | .local _ .vmem, ⟨19, _⟩ => ⟨S128x1024, .f32⟩
  | .local _ .vmem, ⟨20, _⟩ => ⟨S8x128, .f32⟩
  | .local _ .vmem, ⟨21, _⟩ => ⟨S16x128, .f32⟩
  | .local _ .vmem, ⟨22, _⟩ => ⟨S8x128, .f32⟩
  | .local _ .vmem, ⟨23, _⟩ => ⟨S4x192, .f32⟩
  | .local _ .vmem, ⟨24, _⟩ => ⟨S8x128, .f32⟩
  | .local _ .vmem, ⟨25, _⟩ => ⟨S1x128, .f32⟩
  | .local _ .vmem, ⟨26, _⟩ => ⟨S1x4, .f32⟩
  | .local _ .vmem, ⟨27, _⟩ => ⟨S1x4, .f32⟩
  | .local _ .vmem, ⟨28, _⟩ => ⟨S1x128, .f32⟩
  | .local _ .vmem, ⟨29, _⟩ => ⟨S128x1024, .f32⟩
  | .local _ .vmem, ⟨30, _⟩ => ⟨S8x128, .f32⟩
  | .local _ .vmem, ⟨31, _⟩ => ⟨S16x128, .f32⟩
  | .local _ .vmem, ⟨32, _⟩ => ⟨S4x192, .f32⟩
  | .local _ .vmem, ⟨33, _⟩ => ⟨S128x1024, .f32⟩
  | .local _ .vmem, ⟨34, _⟩ => ⟨S16x128, .f32⟩
  | .local _ .vmem, ⟨35, _⟩ => ⟨S16x128, .f32⟩
  | .local _ .vmem, ⟨36, _⟩ => ⟨S16x128, .f32⟩
  | .local _ .vmem, ⟨37, _⟩ => ⟨S16x128, .f32⟩
  | .local _ .vmem, ⟨38, _⟩ => ⟨S8x128, .f32⟩
  | .local _ .vmem, ⟨39, _⟩ => ⟨S8x128, .f32⟩
  | .local _ .vmem, ⟨40, _⟩ => ⟨S8x128, .f32⟩
  | .local _ .vmem, ⟨41, _⟩ => ⟨S8x128, .f32⟩
  | .local _ .vmem, ⟨42, _⟩ => ⟨S4x192, .f32⟩
  | .local _ .vmem, ⟨43, _⟩ => ⟨S4x192, .f32⟩
  | .local _ .vmem, ⟨44, _⟩ => ⟨S4x192, .f32⟩
  | .local _ .vmem, ⟨45, _⟩ => ⟨S4x192, .f32⟩
  | .local _ .vmem, ⟨46, _⟩ => ⟨S8x128, .f32⟩
  | .local _ .vmem, ⟨47, _⟩ => ⟨S8x128, .f32⟩
  | .local _ .vmem, ⟨48, _⟩ => ⟨S8x128, .f32⟩
  | .local _ .vmem, ⟨49, _⟩ => ⟨S8x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x4, .f32⟩
  | .local _ .vmem, ⟨55, _⟩ => ⟨S1x4, .f32⟩
  | .local _ .vmem, ⟨56, _⟩ => ⟨S1x4, .f32⟩
  | .local _ .vmem, ⟨57, _⟩ => ⟨S1x4, .f32⟩
  | .local _ .vmem, ⟨58, _⟩ => ⟨S1x4, .f32⟩
  | .local _ .vmem, ⟨59, _⟩ => ⟨S1x4, .f32⟩
  | .local _ .vmem, ⟨60, _⟩ => ⟨S1x4, .f32⟩
  | .local _ .vmem, ⟨61, _⟩ => ⟨S1x4, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S128x1024, .f32⟩
  | .local _ .vmem, ⟨67, _⟩ => ⟨S128x1024, .f32⟩
  | .local _ .vmem, ⟨68, _⟩ => ⟨S128x1024, .f32⟩
  | .local _ .vmem, ⟨69, _⟩ => ⟨S128x1024, .f32⟩
  | .local _ .vmem, ⟨70, _⟩ => ⟨S8x128, .f32⟩
  | .local _ .vmem, ⟨71, _⟩ => ⟨S8x128, .f32⟩
  | .local _ .vmem, ⟨72, _⟩ => ⟨S8x128, .f32⟩
  | .local _ .vmem, ⟨73, _⟩ => ⟨S8x128, .f32⟩
  | _, _ => ⟨S240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0_0 : Ref sig .tc := ⟨.hbm, 34, rfl⟩
abbrev main_v0_1 : Ref sig .tc := ⟨.hbm, 35, rfl⟩
abbrev main_v0_2 : Ref sig .tc := ⟨.hbm, 36, rfl⟩
abbrev main_v0_3 : Ref sig .tc := ⟨.hbm, 37, rfl⟩
abbrev main_v0_4 : Ref sig .tc := ⟨.hbm, 38, rfl⟩
abbrev main_v0_5 : Ref sig .tc := ⟨.hbm, 39, rfl⟩
abbrev main_v0_6 : Ref sig .tc := ⟨.hbm, 40, rfl⟩
abbrev main_v0_7 : Ref sig .tc := ⟨.hbm, 41, rfl⟩
abbrev main_v0_8 : Ref sig .tc := ⟨.hbm, 42, rfl⟩
abbrev main_v0_9 : Ref sig .tc := ⟨.hbm, 43, rfl⟩
abbrev main_v0_10 : Ref sig .tc := ⟨.hbm, 44, rfl⟩
abbrev main_v0_11 : Ref sig .tc := ⟨.hbm, 45, rfl⟩
abbrev main_v0_12 : Ref sig .tc := ⟨.hbm, 46, rfl⟩
abbrev main_v0_13 : Ref sig .tc := ⟨.hbm, 47, rfl⟩
abbrev main_v0_14 : Ref sig .tc := ⟨.hbm, 48, rfl⟩
abbrev main_v0_15 : Ref sig .tc := ⟨.hbm, 49, rfl⟩
abbrev main_v0_16 : Ref sig .tc := ⟨.hbm, 50, rfl⟩
abbrev main_v0_17 : Ref sig .tc := ⟨.hbm, 51, rfl⟩
abbrev main_v0_18 : Ref sig .tc := ⟨.hbm, 52, rfl⟩
abbrev main_v0_19 : Ref sig .tc := ⟨.hbm, 53, rfl⟩
abbrev main_v0_20 : Ref sig .tc := ⟨.hbm, 54, rfl⟩
abbrev main_v0_21 : Ref sig .tc := ⟨.hbm, 55, rfl⟩
abbrev main_v0_22 : Ref sig .tc := ⟨.hbm, 56, rfl⟩
abbrev main_v0_23 : Ref sig .tc := ⟨.hbm, 57, rfl⟩
abbrev main_v0_24 : Ref sig .tc := ⟨.hbm, 58, rfl⟩
abbrev main_v0_25 : Ref sig .tc := ⟨.hbm, 59, rfl⟩
abbrev main_v0_26 : Ref sig .tc := ⟨.hbm, 60, rfl⟩
abbrev main_v0_27 : Ref sig .tc := ⟨.hbm, 61, rfl⟩
abbrev main_v0_28 : Ref sig .tc := ⟨.hbm, 62, rfl⟩
abbrev main_v0_29 : Ref sig .tc := ⟨.hbm, 63, rfl⟩
abbrev main_v0_30 : Ref sig .tc := ⟨.hbm, 64, rfl⟩
abbrev main_v0_31 : Ref sig .tc := ⟨.hbm, 65, rfl⟩
abbrev main_v0_32 : Ref sig .tc := ⟨.hbm, 66, rfl⟩
abbrev main_v0_33 : Ref sig .tc := ⟨.hbm, 67, rfl⟩
abbrev main_v0_34 : Ref sig .tc := ⟨.hbm, 68, rfl⟩
abbrev main_v0_35 : Ref sig .tc := ⟨.hbm, 69, rfl⟩
abbrev main_v0_36 : Ref sig .tc := ⟨.hbm, 70, rfl⟩
abbrev main_v0_37 : Ref sig .tc := ⟨.hbm, 71, rfl⟩
abbrev main_v0_38 : Ref sig .tc := ⟨.hbm, 72, rfl⟩
abbrev main_v0_39 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73

abbrev nD : Nat := 1
abbrev τ : Topo := Topo.v7x

variable {F : FTy → Type} [FloatOps F]

abbrev grid0 : Pipeline.Grid := .none

abbrev stage0_0 : Fin 1 → Memref sig .tc .vmem S240x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S16x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x192 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S8x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x4 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x4 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S128x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S8x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S16x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S4x192 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S128x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S16x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S16x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S16x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S16x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S8x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S8x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S8x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S8x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S4x192 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S4x192 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S4x192 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S4x192 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S8x128 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S8x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S8x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S8x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x4 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x4 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x4 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x4 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x4 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x4 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x4 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x4 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x128 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x128 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x128 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x128 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S128x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S128x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S128x1024 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S128x1024 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S8x128 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S8x128 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S8x128 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S8x128 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))
-- ==== Reference6Ideal.lean ====
abbrev S240x128 : Shape := ⟨2, ![240, 128]⟩
abbrev S16x128 : Shape := ⟨2, ![16, 128]⟩
abbrev S4x192 : Shape := ⟨2, ![4, 192]⟩
abbrev S128x1024 : Shape := ⟨2, ![128, 1024]⟩
abbrev S8x128 : Shape := ⟨2, ![8, 128]⟩
abbrev S1x128 : Shape := ⟨2, ![1, 128]⟩
abbrev S1x4 : Shape := ⟨2, ![1, 4]⟩
abbrev S_ : Shape := ⟨0, ![]⟩

abbrev nBuf : Space → Nat
  | .hbm => 371
  | .vmem => 0
  | .smem => 0
  | _ => 0

abbrev hbmTy0_0 (i : Nat) : BufTy := match i % 128 with
  | 0 => ⟨S240x128, .f32⟩
  | 1 => ⟨S16x128, .f32⟩
  | 2 => ⟨S4x192, .f32⟩
  | 3 => ⟨S128x1024, .f32⟩
  | 4 => ⟨S16x128, .f32⟩
  | 5 => ⟨S8x128, .f32⟩
  | 6 => ⟨S4x192, .f32⟩
  | 7 => ⟨S8x128, .f32⟩
  | 8 => ⟨S1x128, .f32⟩
  | 9 => ⟨S1x4, .f32⟩
  | 10 => ⟨S1x4, .f32⟩
  | 11 => ⟨S1x128, .f32⟩
  | 12 => ⟨S128x1024, .f32⟩
  | 13 => ⟨S8x128, .f32⟩
  | 14 => ⟨S16x128, .f32⟩
  | 15 => ⟨S8x128, .f32⟩
  | 16 => ⟨S4x192, .f32⟩
  | 17 => ⟨S8x128, .f32⟩
  | 18 => ⟨S1x128, .f32⟩
  | 19 => ⟨S1x4, .f32⟩
  | 20 => ⟨S1x4, .f32⟩
  | 21 => ⟨S1x128, .f32⟩
  | 22 => ⟨S128x1024, .f32⟩
  | 23 => ⟨S8x128, .f32⟩
  | 24 => ⟨S16x128, .f32⟩
  | 25 => ⟨S8x128, .f32⟩
  | 26 => ⟨S4x192, .f32⟩
  | 27 => ⟨S8x128, .f32⟩
  | 28 => ⟨S1x128, .f32⟩
  | 29 => ⟨S1x4, .f32⟩
  | 30 => ⟨S1x4, .f32⟩
  | 31 => ⟨S1x128, .f32⟩
  | 32 => ⟨S128x1024, .f32⟩
  | 33 => ⟨S8x128, .f32⟩
  | 34 => ⟨S8x128, .f32⟩
  | 35 => ⟨S8x128, .f32⟩
  | 36 => ⟨S1x128, .f32⟩
  | 37 => ⟨S1x4, .f32⟩
  | 38 => ⟨S1x4, .f32⟩
  | 39 => ⟨S1x128, .f32⟩
  | 40 => ⟨S8x128, .f32⟩
  | 41 => ⟨S_, .f32⟩
  | 42 => ⟨S16x128, .f32⟩
  | 43 => ⟨S16x128, .f32⟩
  | 44 => ⟨S_, .f32⟩
  | 45 => ⟨S16x128, .f32⟩
  | 46 => ⟨S16x128, .f32⟩
  | 47 => ⟨S16x128, .f32⟩
  | 48 => ⟨S_, .f32⟩
  | 49 => ⟨S16x128, .f32⟩
  | 50 => ⟨S16x128, .f32⟩
  | 51 => ⟨S16x128, .f32⟩
  | 52 => ⟨S_, .f32⟩
  | 53 => ⟨S16x128, .f32⟩
  | 54 => ⟨S16x128, .f32⟩
  | 55 => ⟨S16x128, .f32⟩
  | 56 => ⟨S_, .f32⟩
  | 57 => ⟨S16x128, .f32⟩
  | 58 => ⟨S16x128, .f32⟩
  | 59 => ⟨S_, .f32⟩
  | 60 => ⟨S16x128, .f32⟩
  | 61 => ⟨S16x128, .f32⟩
  | 62 => ⟨S16x128, .f32⟩
  | 63 => ⟨S_, .f32⟩
  | 64 => ⟨S16x128, .f32⟩
  | 65 => ⟨S16x128, .f32⟩
  | 66 => ⟨S16x128, .f32⟩
  | 67 => ⟨S_, .f32⟩
  | 68 => ⟨S16x128, .f32⟩
  | 69 => ⟨S16x128, .f32⟩
  | 70 => ⟨S16x128, .f32⟩
  | 71 => ⟨S_, .f32⟩
  | 72 => ⟨S16x128, .f32⟩
  | 73 => ⟨S16x128, .f32⟩
  | 74 => ⟨S_, .f32⟩
  | 75 => ⟨S8x128, .f32⟩
  | 76 => ⟨S8x128, .f32⟩
  | 77 => ⟨S_, .f32⟩
  | 78 => ⟨S8x128, .f32⟩
  | 79 => ⟨S8x128, .f32⟩
  | 80 => ⟨S8x128, .f32⟩
  | 81 => ⟨S_, .f32⟩
  | 82 => ⟨S8x128, .f32⟩
  | 83 => ⟨S8x128, .f32⟩
  | 84 => ⟨S8x128, .f32⟩
  | 85 => ⟨S_, .f32⟩
  | 86 => ⟨S8x128, .f32⟩
  | 87 => ⟨S8x128, .f32⟩
  | 88 => ⟨S8x128, .f32⟩
  | 89 => ⟨S_, .f32⟩
  | 90 => ⟨S8x128, .f32⟩
  | 91 => ⟨S8x128, .f32⟩
  | 92 => ⟨S_, .f32⟩
  | 93 => ⟨S8x128, .f32⟩
  | 94 => ⟨S8x128, .f32⟩
  | 95 => ⟨S8x128, .f32⟩
  | 96 => ⟨S_, .f32⟩
  | 97 => ⟨S8x128, .f32⟩
  | 98 => ⟨S8x128, .f32⟩
  | 99 => ⟨S8x128, .f32⟩
  | 100 => ⟨S_, .f32⟩
  | 101 => ⟨S8x128, .f32⟩
  | 102 => ⟨S8x128, .f32⟩
  | 103 => ⟨S8x128, .f32⟩
  | 104 => ⟨S_, .f32⟩
  | 105 => ⟨S8x128, .f32⟩
  | 106 => ⟨S8x128, .f32⟩
  | 107 => ⟨S_, .f32⟩
  | 108 => ⟨S4x192, .f32⟩
  | 109 => ⟨S4x192, .f32⟩
  | 110 => ⟨S_, .f32⟩
  | 111 => ⟨S4x192, .f32⟩
  | 112 => ⟨S4x192, .f32⟩
  | 113 => ⟨S4x192, .f32⟩
  | 114 => ⟨S_, .f32⟩
  | 115 => ⟨S4x192, .f32⟩
  | 116 => ⟨S4x192, .f32⟩
  | 117 => ⟨S4x192, .f32⟩
  | 118 => ⟨S_, .f32⟩
  | 119 => ⟨S4x192, .f32⟩
  | 120 => ⟨S4x192, .f32⟩
  | 121 => ⟨S4x192, .f32⟩
  | 122 => ⟨S_, .f32⟩
  | 123 => ⟨S4x192, .f32⟩
  | 124 => ⟨S4x192, .f32⟩
  | 125 => ⟨S_, .f32⟩
  | 126 => ⟨S4x192, .f32⟩
  | 127 => ⟨S4x192, .f32⟩
  | _ => ⟨S240x128, .f32⟩

abbrev hbmTy0_1 (i : Nat) : BufTy := match i % 128 with
  | 0 => ⟨S4x192, .f32⟩
  | 1 => ⟨S_, .f32⟩
  | 2 => ⟨S4x192, .f32⟩
  | 3 => ⟨S4x192, .f32⟩
  | 4 => ⟨S4x192, .f32⟩
  | 5 => ⟨S_, .f32⟩
  | 6 => ⟨S4x192, .f32⟩
  | 7 => ⟨S4x192, .f32⟩
  | 8 => ⟨S4x192, .f32⟩
  | 9 => ⟨S_, .f32⟩
  | 10 => ⟨S4x192, .f32⟩
  | 11 => ⟨S4x192, .f32⟩
  | 12 => ⟨S_, .f32⟩
  | 13 => ⟨S8x128, .f32⟩
  | 14 => ⟨S8x128, .f32⟩
  | 15 => ⟨S_, .f32⟩
  | 16 => ⟨S8x128, .f32⟩
  | 17 => ⟨S8x128, .f32⟩
  | 18 => ⟨S8x128, .f32⟩
  | 19 => ⟨S_, .f32⟩
  | 20 => ⟨S8x128, .f32⟩
  | 21 => ⟨S8x128, .f32⟩
  | 22 => ⟨S8x128, .f32⟩
  | 23 => ⟨S_, .f32⟩
  | 24 => ⟨S8x128, .f32⟩
  | 25 => ⟨S8x128, .f32⟩
  | 26 => ⟨S8x128, .f32⟩
  | 27 => ⟨S_, .f32⟩
  | 28 => ⟨S8x128, .f32⟩
  | 29 => ⟨S8x128, .f32⟩
  | 30 => ⟨S_, .f32⟩
  | 31 => ⟨S8x128, .f32⟩
  | 32 => ⟨S8x128, .f32⟩
  | 33 => ⟨S8x128, .f32⟩
  | 34 => ⟨S_, .f32⟩
  | 35 => ⟨S8x128, .f32⟩
  | 36 => ⟨S8x128, .f32⟩
  | 37 => ⟨S8x128, .f32⟩
  | 38 => ⟨S_, .f32⟩
  | 39 => ⟨S8x128, .f32⟩
  | 40 => ⟨S8x128, .f32⟩
  | 41 => ⟨S8x128, .f32⟩
  | 42 => ⟨S_, .f32⟩
  | 43 => ⟨S8x128, .f32⟩
  | 44 => ⟨S8x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S_, .f32⟩
  | 79 => ⟨S1x4, .f32⟩
  | 80 => ⟨S1x4, .f32⟩
  | 81 => ⟨S_, .f32⟩
  | 82 => ⟨S1x4, .f32⟩
  | 83 => ⟨S1x4, .f32⟩
  | 84 => ⟨S1x4, .f32⟩
  | 85 => ⟨S_, .f32⟩
  | 86 => ⟨S1x4, .f32⟩
  | 87 => ⟨S1x4, .f32⟩
  | 88 => ⟨S1x4, .f32⟩
  | 89 => ⟨S_, .f32⟩
  | 90 => ⟨S1x4, .f32⟩
  | 91 => ⟨S1x4, .f32⟩
  | 92 => ⟨S1x4, .f32⟩
  | 93 => ⟨S_, .f32⟩
  | 94 => ⟨S1x4, .f32⟩
  | 95 => ⟨S1x4, .f32⟩
  | 96 => ⟨S_, .f32⟩
  | 97 => ⟨S1x4, .f32⟩
  | 98 => ⟨S1x4, .f32⟩
  | 99 => ⟨S1x4, .f32⟩
  | 100 => ⟨S_, .f32⟩
  | 101 => ⟨S1x4, .f32⟩
  | 102 => ⟨S1x4, .f32⟩
  | 103 => ⟨S1x4, .f32⟩
  | 104 => ⟨S_, .f32⟩
  | 105 => ⟨S1x4, .f32⟩
  | 106 => ⟨S1x4, .f32⟩
  | 107 => ⟨S1x4, .f32⟩
  | 108 => ⟨S_, .f32⟩
  | 109 => ⟨S1x4, .f32⟩
  | 110 => ⟨S1x4, .f32⟩
  | 111 => ⟨S_, .f32⟩
  | 112 => ⟨S1x4, .f32⟩
  | 113 => ⟨S1x4, .f32⟩
  | 114 => ⟨S_, .f32⟩
  | 115 => ⟨S1x4, .f32⟩
  | 116 => ⟨S1x4, .f32⟩
  | 117 => ⟨S1x4, .f32⟩
  | 118 => ⟨S_, .f32⟩
  | 119 => ⟨S1x4, .f32⟩
  | 120 => ⟨S1x4, .f32⟩
  | 121 => ⟨S1x4, .f32⟩
  | 122 => ⟨S_, .f32⟩
  | 123 => ⟨S1x4, .f32⟩
  | 124 => ⟨S1x4, .f32⟩
  | 125 => ⟨S1x4, .f32⟩
  | 126 => ⟨S_, .f32⟩
  | 127 => ⟨S1x4, .f32⟩
  | _ => ⟨S240x128, .f32⟩

abbrev hbmTy0_2 (i : Nat) : BufTy := match i % 128 with
  | 0 => ⟨S1x4, .f32⟩
  | 1 => ⟨S_, .f32⟩
  | 2 => ⟨S1x4, .f32⟩
  | 3 => ⟨S1x4, .f32⟩
  | 4 => ⟨S1x4, .f32⟩
  | 5 => ⟨S_, .f32⟩
  | 6 => ⟨S1x4, .f32⟩
  | 7 => ⟨S1x4, .f32⟩
  | 8 => ⟨S1x4, .f32⟩
  | 9 => ⟨S_, .f32⟩
  | 10 => ⟨S1x4, .f32⟩
  | 11 => ⟨S1x4, .f32⟩
  | 12 => ⟨S1x4, .f32⟩
  | 13 => ⟨S_, .f32⟩
  | 14 => ⟨S1x4, .f32⟩
  | 15 => ⟨S1x4, .f32⟩
  | 16 => ⟨S_, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S_, .f32⟩
  | 24 => ⟨S1x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S1x128, .f32⟩
  | 46 => ⟨S_, .f32⟩
  | 47 => ⟨S1x128, .f32⟩
  | 48 => ⟨S1x128, .f32⟩
  | 49 => ⟨S_, .f32⟩
  | 50 => ⟨S128x1024, .f32⟩
  | 51 => ⟨S128x1024, .f32⟩
  | 52 => ⟨S_, .f32⟩
  | 53 => ⟨S128x1024, .f32⟩
  | 54 => ⟨S128x1024, .f32⟩
  | 55 => ⟨S128x1024, .f32⟩
  | 56 => ⟨S_, .f32⟩
  | 57 => ⟨S128x1024, .f32⟩
  | 58 => ⟨S128x1024, .f32⟩
  | 59 => ⟨S128x1024, .f32⟩
  | 60 => ⟨S_, .f32⟩
  | 61 => ⟨S128x1024, .f32⟩
  | 62 => ⟨S128x1024, .f32⟩
  | 63 => ⟨S128x1024, .f32⟩
  | 64 => ⟨S_, .f32⟩
  | 65 => ⟨S128x1024, .f32⟩
  | 66 => ⟨S128x1024, .f32⟩
  | 67 => ⟨S_, .f32⟩
  | 68 => ⟨S128x1024, .f32⟩
  | 69 => ⟨S128x1024, .f32⟩
  | 70 => ⟨S128x1024, .f32⟩
  | 71 => ⟨S_, .f32⟩
  | 72 => ⟨S128x1024, .f32⟩
  | 73 => ⟨S128x1024, .f32⟩
  | 74 => ⟨S128x1024, .f32⟩
  | 75 => ⟨S_, .f32⟩
  | 76 => ⟨S128x1024, .f32⟩
  | 77 => ⟨S128x1024, .f32⟩
  | 78 => ⟨S128x1024, .f32⟩
  | 79 => ⟨S_, .f32⟩
  | 80 => ⟨S128x1024, .f32⟩
  | 81 => ⟨S128x1024, .f32⟩
  | 82 => ⟨S_, .f32⟩
  | 83 => ⟨S8x128, .f32⟩
  | 84 => ⟨S8x128, .f32⟩
  | 85 => ⟨S_, .f32⟩
  | 86 => ⟨S8x128, .f32⟩
  | 87 => ⟨S8x128, .f32⟩
  | 88 => ⟨S8x128, .f32⟩
  | 89 => ⟨S_, .f32⟩
  | 90 => ⟨S8x128, .f32⟩
  | 91 => ⟨S8x128, .f32⟩
  | 92 => ⟨S8x128, .f32⟩
  | 93 => ⟨S_, .f32⟩
  | 94 => ⟨S8x128, .f32⟩
  | 95 => ⟨S8x128, .f32⟩
  | 96 => ⟨S8x128, .f32⟩
  | 97 => ⟨S_, .f32⟩
  | 98 => ⟨S8x128, .f32⟩
  | 99 => ⟨S8x128, .f32⟩
  | 100 => ⟨S_, .f32⟩
  | 101 => ⟨S8x128, .f32⟩
  | 102 => ⟨S8x128, .f32⟩
  | 103 => ⟨S8x128, .f32⟩
  | 104 => ⟨S_, .f32⟩
  | 105 => ⟨S8x128, .f32⟩
  | 106 => ⟨S8x128, .f32⟩
  | 107 => ⟨S8x128, .f32⟩
  | 108 => ⟨S_, .f32⟩
  | 109 => ⟨S8x128, .f32⟩
  | 110 => ⟨S8x128, .f32⟩
  | 111 => ⟨S8x128, .f32⟩
  | 112 => ⟨S_, .f32⟩
  | 113 => ⟨S8x128, .f32⟩
  | 114 => ⟨S8x128, .f32⟩
  | _ => ⟨S240x128, .f32⟩

abbrev hbmTy (i : Nat) : BufTy := match i / 128 with
  | 0 => hbmTy0_0 i
  | 1 => hbmTy0_1 i
  | 2 => hbmTy0_2 i
  | _ => ⟨S240x128, .f32⟩

abbrev bufTy : (tb : Table) → Fin (tcTables nBuf tb) → BufTy
  | .hbm, ⟨i, _⟩ => hbmTy i
  | _, _ => ⟨S240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst : Ref sig .tc := ⟨.hbm, 41, rfl⟩
abbrev main_v7 : Ref sig .tc := ⟨.hbm, 42, rfl⟩
abbrev main_v8 : Ref sig .tc := ⟨.hbm, 43, rfl⟩
abbrev main_cst_0 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_1 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst_2 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_3 : Ref sig .tc := ⟨.hbm, 56, rfl⟩
abbrev main_v18 : Ref sig .tc := ⟨.hbm, 57, rfl⟩
abbrev main_v19 : Ref sig .tc := ⟨.hbm, 58, rfl⟩
abbrev main_cst_4 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_5 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_6 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_7 : Ref sig .tc := ⟨.hbm, 71, rfl⟩
abbrev main_v29 : Ref sig .tc := ⟨.hbm, 72, rfl⟩
abbrev main_v30 : Ref sig .tc := ⟨.hbm, 73, rfl⟩
abbrev main_cst_8 : Ref sig .tc := ⟨.hbm, 74, rfl⟩
abbrev main_v31 : Ref sig .tc := ⟨.hbm, 75, rfl⟩
abbrev main_v32 : Ref sig .tc := ⟨.hbm, 76, rfl⟩
abbrev main_cst_9 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_10 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_11 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_12 : Ref sig .tc := ⟨.hbm, 89, rfl⟩
abbrev main_v42 : Ref sig .tc := ⟨.hbm, 90, rfl⟩
abbrev main_v43 : Ref sig .tc := ⟨.hbm, 91, rfl⟩
abbrev main_cst_13 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_14 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_15 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_16 : Ref sig .tc := ⟨.hbm, 104, rfl⟩
abbrev main_v53 : Ref sig .tc := ⟨.hbm, 105, rfl⟩
abbrev main_v54 : Ref sig .tc := ⟨.hbm, 106, rfl⟩
abbrev main_cst_17 : Ref sig .tc := ⟨.hbm, 107, rfl⟩
abbrev main_v55 : Ref sig .tc := ⟨.hbm, 108, rfl⟩
abbrev main_v56 : Ref sig .tc := ⟨.hbm, 109, rfl⟩
abbrev main_cst_18 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_19 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_20 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_21 : Ref sig .tc := ⟨.hbm, 122, rfl⟩
abbrev main_v66 : Ref sig .tc := ⟨.hbm, 123, rfl⟩
abbrev main_v67 : Ref sig .tc := ⟨.hbm, 124, rfl⟩
abbrev main_cst_22 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_23 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_cst_24 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_cst_25 : Ref sig .tc := ⟨.hbm, 137, rfl⟩
abbrev main_v77 : Ref sig .tc := ⟨.hbm, 138, rfl⟩
abbrev main_v78 : Ref sig .tc := ⟨.hbm, 139, rfl⟩
abbrev main_cst_26 : Ref sig .tc := ⟨.hbm, 140, rfl⟩
abbrev main_v79 : Ref sig .tc := ⟨.hbm, 141, rfl⟩
abbrev main_v80 : Ref sig .tc := ⟨.hbm, 142, rfl⟩
abbrev main_cst_27 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_cst_28 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_29 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_cst_30 : Ref sig .tc := ⟨.hbm, 155, rfl⟩
abbrev main_v90 : Ref sig .tc := ⟨.hbm, 156, rfl⟩
abbrev main_v91 : Ref sig .tc := ⟨.hbm, 157, rfl⟩
abbrev main_cst_31 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_cst_32 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_cst_33 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_cst_34 : Ref sig .tc := ⟨.hbm, 170, rfl⟩
abbrev main_v101 : Ref sig .tc := ⟨.hbm, 171, rfl⟩
abbrev main_v102 : Ref sig .tc := ⟨.hbm, 172, rfl⟩
abbrev main_cst_35 : Ref sig .tc := ⟨.hbm, 173, rfl⟩
abbrev main_v103 : Ref sig .tc := ⟨.hbm, 174, rfl⟩
abbrev main_v104 : Ref sig .tc := ⟨.hbm, 175, rfl⟩
abbrev main_cst_36 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_cst_37 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_cst_38 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_39 : Ref sig .tc := ⟨.hbm, 188, rfl⟩
abbrev main_v114 : Ref sig .tc := ⟨.hbm, 189, rfl⟩
abbrev main_v115 : Ref sig .tc := ⟨.hbm, 190, rfl⟩
abbrev main_cst_40 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_cst_41 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_cst_42 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_cst_43 : Ref sig .tc := ⟨.hbm, 203, rfl⟩
abbrev main_v125 : Ref sig .tc := ⟨.hbm, 204, rfl⟩
abbrev main_v126 : Ref sig .tc := ⟨.hbm, 205, rfl⟩
abbrev main_cst_44 : Ref sig .tc := ⟨.hbm, 206, rfl⟩
abbrev main_v127 : Ref sig .tc := ⟨.hbm, 207, rfl⟩
abbrev main_v128 : Ref sig .tc := ⟨.hbm, 208, rfl⟩
abbrev main_cst_45 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_cst_46 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_cst_47 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_cst_48 : Ref sig .tc := ⟨.hbm, 221, rfl⟩
abbrev main_v138 : Ref sig .tc := ⟨.hbm, 222, rfl⟩
abbrev main_v139 : Ref sig .tc := ⟨.hbm, 223, rfl⟩
abbrev main_cst_49 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_cst_50 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_cst_51 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_cst_52 : Ref sig .tc := ⟨.hbm, 236, rfl⟩
abbrev main_v149 : Ref sig .tc := ⟨.hbm, 237, rfl⟩
abbrev main_v150 : Ref sig .tc := ⟨.hbm, 238, rfl⟩
abbrev main_cst_53 : Ref sig .tc := ⟨.hbm, 239, rfl⟩
abbrev main_v151 : Ref sig .tc := ⟨.hbm, 240, rfl⟩
abbrev main_v152 : Ref sig .tc := ⟨.hbm, 241, rfl⟩
abbrev main_cst_54 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_cst_55 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_cst_56 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_cst_57 : Ref sig .tc := ⟨.hbm, 254, rfl⟩
abbrev main_v162 : Ref sig .tc := ⟨.hbm, 255, rfl⟩
abbrev main_v163 : Ref sig .tc := ⟨.hbm, 256, rfl⟩
abbrev main_cst_58 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_cst_59 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_cst_60 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_cst_61 : Ref sig .tc := ⟨.hbm, 269, rfl⟩
abbrev main_v173 : Ref sig .tc := ⟨.hbm, 270, rfl⟩
abbrev main_v174 : Ref sig .tc := ⟨.hbm, 271, rfl⟩
abbrev main_cst_62 : Ref sig .tc := ⟨.hbm, 272, rfl⟩
abbrev main_v175 : Ref sig .tc := ⟨.hbm, 273, rfl⟩
abbrev main_v176 : Ref sig .tc := ⟨.hbm, 274, rfl⟩
abbrev main_cst_63 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_cst_64 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_cst_65 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_cst_66 : Ref sig .tc := ⟨.hbm, 287, rfl⟩
abbrev main_v186 : Ref sig .tc := ⟨.hbm, 288, rfl⟩
abbrev main_v187 : Ref sig .tc := ⟨.hbm, 289, rfl⟩
abbrev main_cst_67 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_cst_68 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_cst_69 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_cst_70 : Ref sig .tc := ⟨.hbm, 302, rfl⟩
abbrev main_v197 : Ref sig .tc := ⟨.hbm, 303, rfl⟩
abbrev main_v198 : Ref sig .tc := ⟨.hbm, 304, rfl⟩
abbrev main_cst_71 : Ref sig .tc := ⟨.hbm, 305, rfl⟩
abbrev main_v199 : Ref sig .tc := ⟨.hbm, 306, rfl⟩
abbrev main_v200 : Ref sig .tc := ⟨.hbm, 307, rfl⟩
abbrev main_cst_72 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_cst_73 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_cst_74 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_cst_75 : Ref sig .tc := ⟨.hbm, 320, rfl⟩
abbrev main_v210 : Ref sig .tc := ⟨.hbm, 321, rfl⟩
abbrev main_v211 : Ref sig .tc := ⟨.hbm, 322, rfl⟩
abbrev main_cst_76 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_cst_77 : Ref sig .tc := ⟨.hbm, 327, rfl⟩
abbrev main_v215 : Ref sig .tc := ⟨.hbm, 328, rfl⟩
abbrev main_v216 : Ref sig .tc := ⟨.hbm, 329, rfl⟩
abbrev main_v217 : Ref sig .tc := ⟨.hbm, 330, rfl⟩
abbrev main_cst_78 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_cst_79 : Ref sig .tc := ⟨.hbm, 335, rfl⟩
abbrev main_v221 : Ref sig .tc := ⟨.hbm, 336, rfl⟩
abbrev main_v222 : Ref sig .tc := ⟨.hbm, 337, rfl⟩
abbrev main_cst_80 : Ref sig .tc := ⟨.hbm, 338, rfl⟩
abbrev main_v223 : Ref sig .tc := ⟨.hbm, 339, rfl⟩
abbrev main_v224 : Ref sig .tc := ⟨.hbm, 340, rfl⟩
abbrev main_cst_81 : Ref sig .tc := ⟨.hbm, 341, rfl⟩
abbrev main_v225 : Ref sig .tc := ⟨.hbm, 342, rfl⟩
abbrev main_v226 : Ref sig .tc := ⟨.hbm, 343, rfl⟩
abbrev main_v227 : Ref sig .tc := ⟨.hbm, 344, rfl⟩
abbrev main_cst_82 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_cst_83 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_cst_84 : Ref sig .tc := ⟨.hbm, 353, rfl⟩
abbrev main_v234 : Ref sig .tc := ⟨.hbm, 354, rfl⟩
abbrev main_v235 : Ref sig .tc := ⟨.hbm, 355, rfl⟩
abbrev main_cst_85 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_cst_86 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_cst_87 : Ref sig .tc := ⟨.hbm, 364, rfl⟩
abbrev main_v242 : Ref sig .tc := ⟨.hbm, 365, rfl⟩
abbrev main_v243 : Ref sig .tc := ⟨.hbm, 366, rfl⟩
abbrev main_v244 : Ref sig .tc := ⟨.hbm, 367, rfl⟩
abbrev main_cst_88 : Ref sig .tc := ⟨.hbm, 368, rfl⟩
abbrev main_v245 : Ref sig .tc := ⟨.hbm, 369, rfl⟩
abbrev main_v246 : Ref sig .tc := ⟨.hbm, 370, rfl⟩

abbrev nD : Nat := 1
abbrev τ : Topo := Topo.v7x

variable {F : FTy → Type} [FloatOps F]
-- ==== Proof.AdamSpec.lean ====
/-
  One step of the optimiser: what it does to one entry of a weight, to its two moments, and the same step written over
  whole arrays of any shape.
-/
module

public import Idealize.ShloMosaic.Lib.Pointwise

@[expose] public section

noncomputable section

namespace Cert.Adam

open Idealize.ShloMosaic

/-! ## One entry -/

/-- The number that a 32-bit pattern stands for. -/
def num (b : BitVec 32) : EReal := Scalar.ofBits (F := Ideal) .f32 b

/-- The new mean of the gradients: the shares of the old one and of the gradient add up to one. -/
def stepM (m g : EReal) : EReal :=
  FloatOps.addf (F := Ideal) (φ := .f32) (FloatOps.mulf (F := Ideal) (φ := .f32) (num 0x3F666666#32) m)
    (FloatOps.mulf (F := Ideal) (φ := .f32) (num 0x3DCCCCCD#32) g)
/-- The new mean of the gradients' squares. -/
def stepV (v g : EReal) : EReal :=
  FloatOps.addf (F := Ideal) (φ := .f32) (FloatOps.mulf (F := Ideal) (φ := .f32) (num 0x3F7FBE77#32) v)
    (FloatOps.mulf (F := Ideal) (φ := .f32) (num 0x3A83126F#32) (FloatOps.mulf (F := Ideal) (φ := .f32) g g))
/-- The change of the weight: the mean over the root of the mean square, both corrected for their start, and the decay. -/
def stepD (w g m v : EReal) : EReal :=
  FloatOps.mulf (F := Ideal) (φ := .f32) (num 0xBA83126F#32) (FloatOps.addf (F := Ideal) (φ := .f32)
    (FloatOps.divf (F := Ideal) (φ := .f32) (FloatOps.divf (F := Ideal) (φ := .f32) (stepM m g) (num 0x3F26BD02#32))
      (FloatOps.addf (F := Ideal) (φ := .f32) (FloatOps.sqrt (F := Ideal) (φ := .f32)
        (FloatOps.divf (F := Ideal) (φ := .f32) (stepV v g) (num 0x3C231ACC#32))) (num 0x322BCC77#32)))
    (FloatOps.mulf (F := Ideal) (φ := .f32) (num 0x3C23D70A#32) w))

/-! ## Whole arrays -/

section Whole

variable {s : Shape} (h : (⟨0, ![]⟩ : Shape).BroadcastsInDim s (![] : Fin 0 → Fin s.rank)) (W G M V : FVec Ideal s .f32)

/-- The array that holds one number everywhere. -/
def full (b : BitVec 32) : FVec Ideal s .f32 := broadcastInDim s ![] h (constant ⟨0, ![]⟩ .f32 b)

/-- The step of the first moments, of the second moments and of the weights, operation by operation. -/
def allM : FVec Ideal s .f32 := addf (mulf (full h 0x3F666666#32) M) (mulf (full h 0x3DCCCCCD#32) G)
def allV : FVec Ideal s .f32 := addf (mulf (full h 0x3F7FBE77#32) V) (mulf (full h 0x3A83126F#32) (mulf G G))
def allD : FVec Ideal s .f32 :=
  mulf (full h 0xBA83126F#32) (addf (Host.divf (Host.divf (allM h G M) (full h 0x3F26BD02#32))
    (addf (Host.sqrt (Host.divf (allV h G V) (full h 0x3C231ACC#32))) (full h 0x322BCC77#32))) (mulf (full h 0x3C23D70A#32) W))

theorem allM_at (i : s.Idx) : allM h G M i = stepM (M i) (G i) := rfl
theorem allV_at (i : s.Idx) : allV h G V i = stepV (V i) (G i) := rfl
theorem allD_at (i : s.Idx) : allD h W G M V i = stepD (W i) (G i) (M i) (V i) := rfl

end Whole

end Cert.Adam
-- ==== Proof.AdamW.lean ====
/-
  The optimiser's step for the input projection: the kernel, which holds the weight and its moments by rows of the
  gradient, and the reference leave the same arrays.
-/
module

public import proofs.«01_k».proof.Defs
public import proofs.«01_k».proof.Proof.AdamSpec
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit.Geometry
public import Idealize.ShloMosaic.Lib.Pipeline.ValueKit.Tiles

@[expose] public section

noncomputable section

namespace Cert.Adam

open Idealize.ShloMosaic

/-! ## The results as functions of the arguments -/

/-- The weight and its two moments have one leading axis and the projection's columns last; the gradient holds the
    columns as rows. The results are laid out as the gradient is, with the leading axis between. -/
structure ArgsW where
  W : (⟨3, ![1, 1024, 513]⟩ : Shape).Idx → EReal
  G : (⟨2, ![513, 1024]⟩ : Shape).Idx → EReal
  M : (⟨3, ![1, 1024, 513]⟩ : Shape).Idx → EReal
  V : (⟨3, ![1, 1024, 513]⟩ : Shape).Idx → EReal

variable (a : ArgsW)

def wG (y : (⟨3, ![513, 1, 1024]⟩ : Shape).Idx) : EReal := a.G (ix2 (y 0) (y 2))
def wD (y : (⟨3, ![513, 1, 1024]⟩ : Shape).Idx) : EReal :=
  stepD (a.W (ix3 (y 1) (y 2) (y 0))) (wG a y) (a.M (ix3 (y 1) (y 2) (y 0))) (a.V (ix3 (y 1) (y 2) (y 0)))
def wM (y : (⟨3, ![513, 1, 1024]⟩ : Shape).Idx) : EReal := stepM (a.M (ix3 (y 1) (y 2) (y 0))) (wG a y)
def wV (y : (⟨3, ![513, 1, 1024]⟩ : Shape).Idx) : EReal := stepV (a.V (ix3 (y 1) (y 2) (y 0))) (wG a y)

end Cert.Adam

/-! ## The kernel -/

namespace Cert.Kernel5Ideal.Value

open Cert.Kernel5Ideal Cert.Kernel5Ideal.Gen Cert.Adam Idealize.ShloMosaic Idealize.ShloMosaic.TcCoe Idealize.SL.Sem
open Idealize.ShloMosaic.Pipeline (Dat)

variable (m : (ℓ : Loc nD τ sig) → Buf (Elt Ideal) ℓ)

/-- The arguments as the run finds them. -/
def kArgs (c : Dev nD) : ArgsW :=
  ⟨m ((c.tc : Thread nD τ).loc main_arg0), m ((c.tc : Thread nD τ).loc main_arg1),
    m ((c.tc : Thread nD τ).loc main_arg2), m ((c.tc : Thread nD τ).loc main_arg3)⟩

/-- An array with its last axis moved to the front. -/
theorem front_at (X : Vec Ideal S1x1024x513 .f32) (y : S513x1x1024.Idx) :
    transpose S513x1x1024 [2, 0, 1] X transposes_S1x1024x513_S513x1x1024_2_0_1 y = X (ix3 (y 1) (y 2) (y 0)) := by
  obtain ⟨i, j, k, rfl⟩ : ∃ i j k, y = ix3 i j k := ⟨y 0, y 1, y 2, by idx_ext⟩
  obtain rfl : j = 0 := Subsingleton.elim _ _
  pointwise []

/-- The arrays that the call is given, as the host left them. -/
theorem host0 (c : Dev nD) : V m c main_v0 = transpose S513x1x1024 [2, 0, 1] (kArgs m c).W transposes_S1x1024x513_S513x1x1024_2_0_1 := by
  after_results_simp; rfl
theorem host1 (c : Dev nD) : V m c main_v1 = transpose S513x1x1024 [2, 0, 1] (kArgs m c).M transposes_S1x1024x513_S513x1x1024_2_0_1 := by
  after_results_simp; rfl
theorem host2 (c : Dev nD) : V m c main_v2 = transpose S513x1x1024 [2, 0, 1] (kArgs m c).V transposes_S1x1024x513_S513x1x1024_2_0_1 := by
  after_results_simp; rfl

variable (c : Dev nD) (t : Fin cfg0.N) (y : S513x1x1024.Idx)

/-- Every array is one block. -/
theorem at0 : ∀ t : Fin cfg0.N, win0_0.index t = ![0, 0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0, 0] := (by decide +kernel : ∀ t : Fin grid0.N, _)
theorem at4 : ∀ t : Fin cfg0.N, win0_4.index t = ![0, 0, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![0, 0, 0] := (by decide +kernel : ∀ t : Fin grid0.N, _)
theorem at7 : ∀ t : Fin cfg0.N, win0_7.index t = ![0, 0, 0] := (by decide +kernel : ∀ t : Fin grid0.N, _)

theorem in0 : iblk m c 0 t y = (kArgs m c).W (ix3 (y 1) (y 2) (y 0)) := by
  refine Eq.trans ?_ ((congrFun (host0 m c) y).trans (front_at _ y))
  blk_simp [iblk]
  congr 1
  blk_ext [at0 t]
theorem in1 (z : S513x1024.Idx) : iblk m c 1 t z = (kArgs m c).G z := by
  refine Eq.trans ?_ (congrFun (V_main_arg1 m c) z)
  blk_simp [iblk]
  congr 1
  blk_ext [at1 t]
theorem in2 : iblk m c 2 t y = (kArgs m c).M (ix3 (y 1) (y 2) (y 0)) := by
  refine Eq.trans ?_ ((congrFun (host1 m c) y).trans (front_at _ y))
  blk_simp [iblk]
  congr 1
  blk_ext [at2 t]
theorem in3 : iblk m c 3 t y = (kArgs m c).V (ix3 (y 1) (y 2) (y 0)) := by
  refine Eq.trans ?_ ((congrFun (host2 m c) y).trans (front_at _ y))
  blk_simp [iblk]
  congr 1
  blk_ext [at3 t]

/-- What the body leaves in the blocks of the four results. -/
theorem out4 : out0_4 (iblk m c 0 t) (iblk m c 1 t) (iblk m c 2 t) (iblk m c 3 t) y = wG (kArgs m c) y := by
  unfold out0_4
  refine (canon4_eq _ y).trans ?_
  simp only [E4, View.ld_apply, in1]
  unfold wG
  congr 1
  idx_ext
theorem out5 : out0_5 (iblk m c 0 t) (iblk m c 1 t) (iblk m c 2 t) (iblk m c 3 t) y = wD (kArgs m c) y := by
  unfold out0_5
  refine (canon5_eq _ _ _ _ y).trans ?_
  simp only [E5, View.ld_apply, in0, in1, in2, in3]
  have e1 : r0_0.idx (ix5_1 y) = ix2 (y 0) (y 2) := by idx_ext
  have e0 : r0_1.idx (ix5_0 y) = y := by idx_ext
  rw [show ix5_3 y = ix5_1 y from rfl, show ix5_4 y = ix5_1 y from rfl, show ix5_2 y = ix5_0 y from rfl,
    show ix5_5 y = ix5_0 y from rfl, e0, e1]
  rfl
theorem out6 : out0_6 (iblk m c 0 t) (iblk m c 1 t) (iblk m c 2 t) (iblk m c 3 t) y = wM (kArgs m c) y := by
  unfold out0_6
  refine (canon6_eq _ _ y).trans ?_
  simp only [E6, View.ld_apply, in1, in2]
  have e1 : r0_0.idx (ix6_1 y) = ix2 (y 0) (y 2) := by idx_ext
  have e0 : r0_1.idx (ix6_0 y) = y := by idx_ext
  rw [e0, e1]
  rfl
theorem out7 : out0_7 (iblk m c 0 t) (iblk m c 1 t) (iblk m c 2 t) (iblk m c 3 t) y = wV (kArgs m c) y := by
  unfold out0_7
  refine (canon7_eq _ _ y).trans ?_
  simp only [E7, View.ld_apply, in1, in3]
  have e1 : r0_0.idx (ix7_1 y) = ix2 (y 0) (y 2) := by idx_ext
  have e0 : r0_1.idx (ix7_0 y) = y := by idx_ext
  rw [show ix7_2 y = ix7_1 y from rfl, e0, e1]
  rfl

/-- The four results. -/
theorem final4 : (dats m 0 c).arrAt 4 cfg0.N = wG (kArgs m c) := by
  refine (dats m 0 c).arrAt_eq_of_covers 4 _ (by decide +kernel) fun t hf y => ?_
  blk_simp
  rw [after0_4, out4]
  congr 1
  blk_ext [at4 t]
theorem final5 : (dats m 0 c).arrAt 5 cfg0.N = wD (kArgs m c) := by
  refine (dats m 0 c).arrAt_eq_of_covers 5 _ (by decide +kernel) fun t hf y => ?_
  blk_simp
  rw [after0_5, out5]
  congr 1
  blk_ext [at5 t]
theorem final6 : (dats m 0 c).arrAt 6 cfg0.N = wM (kArgs m c) := by
  refine (dats m 0 c).arrAt_eq_of_covers 6 _ (by decide +kernel) fun t hf y => ?_
  blk_simp
  rw [after0_6, out6]
  congr 1
  blk_ext [at6 t]
theorem final7 : (dats m 0 c).arrAt 7 cfg0.N = wV (kArgs m c) := by
  refine (dats m 0 c).arrAt_eq_of_covers 7 _ (by decide +kernel) fun t hf y => ?_
  blk_simp
  rw [after0_7, out7]
  congr 1
  blk_ext [at7 t]

end Cert.Kernel5Ideal.Value

/-! ## The reference -/

namespace Cert.Reference5Ideal.Value

open Cert.Reference5Ideal Cert.Reference5Ideal.Gen Cert.Adam Idealize.ShloMosaic Idealize.ShloMosaic.TcCoe Idealize.SL.Sem

variable (a : ArgsW)

/-- The gradient in the weight's layout. -/
def grad : FVec Ideal S1x1024x513 .f32 :=
  broadcastInDim S1x1024x513 ![1, 2] bcast_S1024x513_S1x1024x513_1_2
    (transpose S1024x513 [1, 0] (a.G : FVec Ideal S513x1024 .f32) transposes_S513x1024_S1024x513_1_0)

theorem grad_at (i : Fin 1) (j : Fin 1024) (k : Fin 513) : grad a (ix3 i j k) = a.G (ix2 k j) := by
  pointwise [grad]

/-- An array of the weight's layout with its last axis moved to the front. -/
abbrev front (X : FVec Ideal S1x1024x513 .f32) : FVec Ideal S513x1x1024 .f32 :=
  transpose S513x1x1024 [2, 0, 1] X transposes_S1x1024x513_S513x1x1024_2_0_1

theorem front_at (X : FVec Ideal S1x1024x513 .f32) (y : S513x1x1024.Idx) : front X y = X (ix3 (y 1) (y 2) (y 0)) := by
  obtain ⟨i, j, k, rfl⟩ : ∃ i j k, y = ix3 i j k := ⟨y 0, y 1, y 2, by idx_ext⟩
  obtain rfl : j = 0 := Subsingleton.elim _ _
  pointwise [front]

theorem refG : front (grad a) = wG a :=
  funext fun y => (front_at _ y).trans (grad_at a _ _ _)
theorem refD : front (allD bcast_S_S1x1024x513 a.W (grad a) a.M a.V) = wD a :=
  funext fun y => (front_at _ y).trans (congrArg (fun g => stepD _ g _ _) (grad_at a _ _ _))
theorem refM : front (allM bcast_S_S1x1024x513 (grad a) a.M) = wM a :=
  funext fun y => (front_at _ y).trans (congrArg (stepM _) (grad_at a _ _ _))
theorem refV : front (allV bcast_S_S1x1024x513 (grad a) a.V) = wV a :=
  funext fun y => (front_at _ y).trans (congrArg (stepV _) (grad_at a _ _ _))

variable (m : (ℓ : Loc nD τ sig) → Buf (Elt Ideal) ℓ)

/-- The arguments as the run finds them. -/
def rArgs (c : Dev nD) : ArgsW :=
  ⟨m ((c.tc : Thread nD τ).loc main_arg0), m ((c.tc : Thread nD τ).loc main_arg1),
    m ((c.tc : Thread nD τ).loc main_arg2), m ((c.tc : Thread nD τ).loc main_arg3)⟩

end Cert.Reference5Ideal.Value

/-! ## The claims -/

namespace Cert.Adam

open Idealize.ShloMosaic Idealize.ShloMosaic.TcCoe Idealize.SL.Sem
open Cert.Reference5Ideal.Value Cert.Kernel5Ideal.Value

theorem algebraicW : Cert.algebraic_Kernel5Ideal_Reference5Ideal := by
  intro m g m' g' _ hargs
  have hs : ∀ c, rArgs m' c = kArgs m c := fun c => by
    unfold rArgs kArgs
    rw [(hargs c).1, (hargs c).2.1, (hargs c).2.2.1, (hargs c).2.2.2]
  refine ⟨fun c => wG (kArgs m c), fun c => wD (kArgs m c), fun c => wM (kArgs m c), fun c => wV (kArgs m c), ?_, ?_⟩
  · exact (θ_run Cert.Kernel5Ideal.defs _ _).mono (fun r h c => by
      obtain ⟨h0, h1, h2, h3, ha⟩ := h c
      exact ⟨h0.trans (final4 m c), h1.trans (final5 m c), h2.trans (final6 m c), h3.trans (final7 m c), ha⟩) (run_blocks m g)
  · exact (θ_run Cert.Reference5Ideal.defs _ _).mono (fun r h c => by
      obtain ⟨h0, h1, h2, h3, ha⟩ := h c
      exact ⟨h0.trans ((refG (rArgs m' c)).trans (congrArg wG (hs c))), h1.trans ((refD (rArgs m' c)).trans (congrArg wD (hs c))),
        h2.trans ((refM (rArgs m' c)).trans (congrArg wM (hs c))), h3.trans ((refV (rArgs m' c)).trans (congrArg wV (hs c))), ha⟩) (Cert.Reference5Ideal.Value.run m' g')

/-- The reference's frame: its arguments end as they were, and it declares no semaphore. -/
theorem frame_referenceW : Cert.quiescent_Reference5Ideal := by
  intro m ρ _
  exact (θ_run Cert.Reference5Ideal.defs _ _).mono (fun r h => ⟨fun c => (h c).2.2.2.2,
      sem_eq_zero_of_no_sems (by decide) r.2⟩) (Cert.Reference5Ideal.Value.run m ρ)

end Cert.Adam
-- ==== Proof.RealScale.lean ====
/-
  Extended-real algebra that every value proof here uses: multiplication by a non-negative real distributes over
  finite sums and over differences, the printed constants as reals, and the inverse root of a mean of squares.
-/
module

public import Idealize.ShloMosaic.Lib.Pointwise
public import Idealize.ShloMosaic.Lib.IdealHost

@[expose] public section

noncomputable section

namespace Cert.Scale

open Idealize.ShloMosaic

/-- A non-negative real factor distributes over a finite sum of extended reals. -/
theorem coe_mul_sum {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- … and over a sum with the factor on the right. -/
theorem sum_mul_coe {ι : Type*} (s : Finset ι) (c : ℝ) (hc : 0 ≤ c) (f : ι → EReal) :
    (∑ k ∈ s, f k) * (c : EReal) = ∑ k ∈ s, f k * (c : EReal) := by
  rw [mul_comm, coe_mul_sum s c hc]
  exact Finset.sum_congr rfl fun k _ => mul_comm _ _

/-- A non-negative real factor distributes over a difference. -/
theorem coe_mul_sub (c : ℝ) (hc : 0 ≤ c) (x y : EReal) : (c : EReal) * (x - y) = c * x - c * y := by
  rw [sub_eq_add_neg, sub_eq_add_neg,
    EReal.left_distrib_of_nonneg_of_ne_top (by exact_mod_cast hc) (EReal.coe_ne_top c), mul_neg]

/-- Twice an extended real is it added to itself. -/
theorem two_mul' (x : EReal) : x + x = ((2 : ℝ) : EReal) * x := by
  induction x using EReal.rec with
  | bot => rw [EReal.coe_mul_bot_of_pos (by norm_num)]; rfl
  | top => rw [EReal.coe_mul_top_of_pos (by norm_num)]; rfl
  | coe x => rw [← EReal.coe_mul, ← EReal.coe_add, two_mul]

/-- A square is not negative. -/
theorem mul_self_nonneg' (x : EReal) : 0 ≤ x * x := by
  induction x using EReal.rec with
  | bot => simp
  | top => simp
  | coe x => rw [← EReal.coe_mul]; exact_mod_cast mul_self_nonneg x

/-- Division by a non-zero real is multiplication by its inverse. -/
theorem div_real {y : ℝ} (hy : y ≠ 0) (x : EReal) : Ideal.div x (y : EReal) = x * ((y⁻¹ : ℝ) : EReal) := by
  rw [Ideal.div_coe hy, one_div]

/-- The printed constant 1024. -/
theorem w1024 : Ideal.ofBits .f32 0x44800000#32 = ((1024 : ℝ) : EReal) := by
  simp [Ideal.ofBits, Ideal.ieee]; rw [← EReal.coe_mul]; norm_num
/-- The printed constant 2⁻¹⁰. -/
theorem wInv1024 : Ideal.ofBits .f32 0x3A800000#32 = ((1024⁻¹ : ℝ) : EReal) := by
  simp [Ideal.ofBits, Ideal.ieee]; rw [← EReal.coe_mul]; norm_num
/-- The printed constant 2⁻¹¹. -/
theorem wInv2048 : Ideal.ofBits .f32 0x3A000000#32 = ((2048⁻¹ : ℝ) : EReal) := by
  simp [Ideal.ofBits, Ideal.ieee]; rw [← EReal.coe_mul]; norm_num
/-- The printed constant one half. -/
theorem wHalf : Ideal.ofBits .f32 0x3F000000#32 = ((2⁻¹ : ℝ) : EReal) := by
  simp [Ideal.ofBits, Ideal.ieee]; rw [← EReal.coe_mul]; norm_num
/-- The printed constant minus one half. -/
theorem wNegHalf : Ideal.ofBits .f32 0xBF000000#32 = ((-2⁻¹ : ℝ) : EReal) := by
  simp [Ideal.ofBits, Ideal.ieee]; rw [← EReal.coe_mul]; norm_num
/-- The printed constant two. -/
theorem wTwo : Ideal.ofBits .f32 0x40000000#32 = ((2 : ℝ) : EReal) := by
  simp [Ideal.ofBits, Ideal.ieee]; rw [← EReal.coe_mul]; norm_num
/-- The printed constant one. -/
theorem wOne : Ideal.ofBits .f32 0x3F800000#32 = ((1 : ℝ) : EReal) := by
  simp [Ideal.ofBits, Ideal.ieee]; rw [← EReal.coe_mul]; norm_num
/-- The constant added under the root is a positive real. -/
theorem wEps : ∃ e : ℝ, 0 < e ∧ Ideal.ofBits .f32 0x358637BD#32 = (e : EReal) := by
  refine ⟨_, ?_, by simp [Ideal.ofBits, Ideal.ieee]; rfl⟩
  norm_num

/-- The inverse root of a mean of squares plus a positive constant: zero where the mean is infinite, else a positive
    real `r`, and then the quotient by the mean is multiplication by `r * r`. -/
theorem rsqrt_mean {n : ℕ} (h : Fin n → EReal) :
    let s := Ideal.div (∑ k, h k * h k) (Ideal.ofBits .f32 0x44800000#32) + Ideal.ofBits .f32 0x358637BD#32
    (s = ⊤ ∧ Ideal.rsqrt s = 0) ∨ ∃ r : ℝ, 0 < r ∧ Ideal.rsqrt s = (r : EReal) ∧ Ideal.div (r : EReal) s = ((r * r * r : ℝ) : EReal) := by
  intro s
  obtain ⟨e, he, hw⟩ := wEps
  have hS : 0 ≤ ∑ k, h k * h k := Finset.sum_nonneg fun k _ => mul_self_nonneg' (h k)
  have hs : s = (∑ k, h k * h k) * ((1024⁻¹ : ℝ) : EReal) + (e : EReal) := by
    show Ideal.div _ _ + _ = _
    rw [w1024, div_real (by norm_num), hw]
  generalize (∑ k, h k * h k) = S at hS hs
  clear_value s
  subst hs
  induction S using EReal.rec with
  | bot => simp at hS
  | top =>
    left
    rw [EReal.top_mul_coe_of_pos (by norm_num), EReal.top_add_coe]
    exact ⟨rfl, rfl⟩
  | coe x =>
    right
    have hx : 0 ≤ x := by exact_mod_cast hS
    have hp : 0 < x * 1024⁻¹ + e := by positivity
    rw [← EReal.coe_mul, ← EReal.coe_add]
    refine ⟨(Real.sqrt (x * 1024⁻¹ + e))⁻¹, by positivity, ?_, ?_⟩
    · show (if _ < _ then _ else _) = _
      rw [if_neg (not_lt.mpr hp.le), if_neg hp.ne']
    · rw [div_real hp.ne', ← EReal.coe_mul, mul_assoc]
      congr 2
      rw [← mul_inv, Real.mul_self_sqrt hp.le]

end Cert.Scale
-- ==== Proof.RmsBack.lean ====
/-
  The backward pass of the root-mean-square normalisation of one row, on the extended reals: the closed form
  `r * (dn - n * mean (dn * n))` with `n = h * r` equals what differentiating `h * r` and `r = 1 / sqrt (mean h² + ε)`
  step by step gives. Where the mean of squares is infinite `r` is zero and both are zero; elsewhere `r` is a positive
  real, so it distributes over every sum.
-/
module

public import proofs.«01_k».proof.Proof.RealScale

@[expose] public section

noncomputable section

namespace Cert.Scale

open Idealize.ShloMosaic

/-- The mean of a row's squares plus the printed constant. -/
def meanSq {n : ℕ} (h : Fin n → EReal) : EReal :=
  Ideal.div (∑ k, h k * h k) (Ideal.ofBits .f32 0x44800000#32) + Ideal.ofBits .f32 0x358637BD#32

/-- The row's inverse root mean square. -/
def rinv {n : ℕ} (h : Fin n → EReal) : EReal := Ideal.rsqrt (meanSq h)

/-- The closed form of the backward pass at entry `l`. -/
def rmsBack {n : ℕ} (h dn : Fin n → EReal) (l : Fin n) : EReal :=
  rinv h * (dn l - h l * rinv h * Ideal.div (∑ k, dn k * (h k * rinv h)) (Ideal.ofBits .f32 0x44800000#32))

/-- The scale of the row in the derivative of the mean of squares. -/
def rmsCo {n : ℕ} (h dn : Fin n → EReal) : EReal :=
  Ideal.div ((∑ k, h k * dn k) * (Ideal.ofBits .f32 0xBF000000#32 * Ideal.div (rinv h) (meanSq h)))
    (Ideal.ofBits .f32 0x44800000#32)

/-- The closed form is the step by step derivative. -/
theorem rmsBack_eq {n : ℕ} (h dn : Fin n → EReal) (l : Fin n) :
    rmsBack h dn l = dn l * rinv h + h l * rmsCo h dn + rmsCo h dn * h l := by
  unfold rmsBack rmsCo
  have H := rsqrt_mean h
  change (meanSq h = ⊤ ∧ rinv h = 0) ∨ ∃ r : ℝ, 0 < r ∧ rinv h = (r : EReal) ∧ Ideal.div (r : EReal) (meanSq h) = _ at H
  rcases H with ⟨hs, hr⟩ | ⟨r, hr0, hr, hq⟩
  · have hd : Ideal.div (0 : EReal) ⊤ = 0 := by
      unfold Ideal.div; rw [if_neg EReal.top_ne_zero, zero_mul]
    have hd' : Ideal.div (0 : EReal) ((1024 : ℝ) : EReal) = 0 := by
      rw [div_real (by norm_num), zero_mul]
    rw [hr, hs, hd, w1024]
    simp only [mul_zero, zero_mul, hd', add_zero]
  · rw [hr, hq, w1024, wNegHalf, div_real (by norm_num), div_real (by norm_num), coe_mul_sub r hr0.le]
    have e1 : ∑ k, dn k * (h k * (r : EReal)) = (r : EReal) * ∑ k, h k * dn k := by
      rw [coe_mul_sum _ r hr0.le]
      exact Finset.sum_congr rfl fun k _ => by ac_rfl
    rw [e1]
    generalize (∑ k, h k * dn k) = A
    have e2 : (r : EReal) * (h l * r * (r * A * ((1024⁻¹ : ℝ) : EReal))) = ((r * r * r * 1024⁻¹ : ℝ) : EReal) * (h l * A) := by
      simp only [EReal.coe_mul]; ac_rfl
    have e3 : h l * (A * (((-2⁻¹ : ℝ) : EReal) * ((r * r * r : ℝ) : EReal)) * ((1024⁻¹ : ℝ) : EReal))
        = ((-(2⁻¹ * (r * r * r * 1024⁻¹)) : ℝ) : EReal) * (h l * A) := by
      rw [show (-(2⁻¹ * (r * r * r * 1024⁻¹)) : ℝ) = -2⁻¹ * (r * r * r) * 1024⁻¹ by ring]
      simp only [EReal.coe_mul]; ac_rfl
    rw [add_assoc, mul_comm _ (h l), e3, two_mul', e2, ← mul_assoc ((2 : ℝ) : EReal), ← EReal.coe_mul, mul_comm (dn l), sub_eq_add_neg]
    congr 1
    rw [show (2 * -(2⁻¹ * (r * r * r * 1024⁻¹)) : ℝ) = -(r * r * r * 1024⁻¹) by ring, EReal.coe_neg, EReal.neg_mul]

end Cert.Scale
-- ==== Proof.BackSpec.lean ====
/-
  The results of the input projection's backward, as functions of the argument arrays on the extended reals: the
  gradients by the rows of the layer's input and by its leading rows, by the norm's scale, and by the three parts of the
  projection's weights.
-/
module

public import proofs.«01_k».proof.Proof.RmsBack
public import Idealize.ShloMosaic.Lib.Pointwise

@[expose] public section

noncomputable section

namespace Cert.Back

open Cert.Scale Idealize.ShloMosaic

/-- The gradient by a row of the projection's input: the three parts of the output's gradient times their rows of the
    weights. -/
def rowDu (p0 p1 : Fin 2048 → EReal) (p2 : Fin 128 → EReal) (W0 W1 : Fin 2048 → Fin 1024 → EReal) (W2 : Fin 128 → Fin 1024 → EReal)
    (l : Fin 1024) : EReal :=
  ∑ k, p0 k * W0 k l + ∑ k, p1 k * W1 k l + ∑ k, p2 k * W2 k l

/-- The normalised row. -/
def rowNorm (h : Fin 1024 → EReal) (l : Fin 1024) : EReal := h l * rinv h

/-- The rows of the weights that the three parts of the output belong to. -/
def w0 (k : Fin 2048) : Fin 4224 := ⟨k.val, by omega⟩
def w1 (k : Fin 2048) : Fin 4224 := ⟨2048 + k.val, by omega⟩
def w2 (k : Fin 128) : Fin 4224 := ⟨4096 + k.val, by omega⟩

/-- Entries of an array of two axes. -/
abbrev Arr (a b : ℕ) : Type := (⟨2, ![a, b]⟩ : Shape).Idx → EReal

/-- A set of rows with its part of the gradient by the projection's output: the rows of the layer's input, and the three
    parts of the gradient. -/
structure Rows (n : ℕ) where
  H : Arr n 1024
  P0 : Arr n 2048
  P1 : Arr n 2048
  P2 : Arr n 128

/-- The argument arrays: the rows, the leading rows, the gradient that reaches the rows past the projection, the weights
    and the norm's scale. -/
structure Args where
  rows : Rows 4096
  lead : Rows 64
  D : Arr 4096 1024
  W : Arr 4224 1024
  G : Arr 1 1024

section Of

variable {n : ℕ} (s : Rows n) (a : Args)

/-- The gradient by row `R` of the projection's input. -/
def sDu (R : Fin n) : Fin 1024 → EReal :=
  rowDu (fun k => s.P0 (ix2 R k)) (fun k => s.P1 (ix2 R k)) (fun k => s.P2 (ix2 R k)) (fun k l => a.W (ix2 (w0 k) l))
    (fun k l => a.W (ix2 (w1 k) l)) (fun k l => a.W (ix2 (w2 k) l))

/-- Row `R`, normalised. -/
def sN (R : Fin n) : Fin 1024 → EReal := rowNorm fun l => s.H (ix2 R l)

/-- The gradient by row `R`, through the norm. -/
def sDh (R : Fin n) : Fin 1024 → EReal := rmsBack (fun l => s.H (ix2 R l)) fun l => sDu s a R l * a.G (ix2 0 l)

/-- The rows' part of the gradient by the norm's scale. -/
def sDg (l : Fin 1024) : EReal := ∑ R, sDu s a R l * sN s R l

/-- The rows' part of the gradient by the weights' rows that make the part `P` of the output. -/
def sDw {k : ℕ} (P : Arr n k) (r : Fin k) (l : Fin 1024) : EReal := ∑ R, P (ix2 R r) * (sN s R l * a.G (ix2 0 l))

end Of

variable (a : Args)

/-- The six results. -/
def y0 (i : (⟨2, ![4096, 1024]⟩ : Shape).Idx) : EReal := a.D (ix2 (i 0) (i 1)) + sDh a.rows a (i 0) (i 1)
def y1 (i : (⟨2, ![64, 1024]⟩ : Shape).Idx) : EReal := sDh a.lead a (i 0) (i 1)
def y2 (i : (⟨2, ![1, 1024]⟩ : Shape).Idx) : EReal := sDg a.lead a (i 1) + sDg a.rows a (i 1)
def y3 (i : (⟨2, ![2048, 1024]⟩ : Shape).Idx) : EReal := sDw a.lead a a.lead.P0 (i 0) (i 1) + sDw a.rows a a.rows.P0 (i 0) (i 1)
def y4 (i : (⟨2, ![2048, 1024]⟩ : Shape).Idx) : EReal := sDw a.lead a a.lead.P1 (i 0) (i 1) + sDw a.rows a a.rows.P1 (i 0) (i 1)
def y5 (i : (⟨2, ![128, 1024]⟩ : Shape).Idx) : EReal := sDw a.lead a a.lead.P2 (i 0) (i 1) + sDw a.rows a a.rows.P2 (i 0) (i 1)

/-- A sum over the weights' rows, part by part. -/
theorem sum_parts (f : Fin 4224 → EReal) : ∑ k, f k = ∑ k, f (w0 k) + ∑ k, f (w1 k) + ∑ k, f (w2 k) := by
  refine (Fin.sum_univ_add (a := 4096) (b := 128) f).trans (congrArg₂ _ ?_ rfl)
  exact Fin.sum_univ_add (a := 2048) (b := 2048) fun k => f (Fin.castAdd 128 k)

theorem sumc {n : ℕ} {f g : Fin n → EReal} (h : ∀ k, f k = g k) : ∑ k, f k = ∑ k, g k := Finset.sum_congr rfl fun k _ => h k

end Cert.Back
-- ==== Proof.BackPay.lean ====
/-
  The values one grid point of the input projection's backward computes, entry by entry, from the blocks it holds.
-/
module

public import proofs.«01_k».proof.Proof.BackSpec
public import proofs.«01_k».proof.Proof.Gen.Kernel2Ideal.Skeleton
public import Idealize.ShloMosaic.Lib.Pointwise

@[expose] public section

noncomputable section

namespace Cert.Back

open Cert.Kernel2Ideal Cert.Kernel2Ideal.Gen Cert.Scale Idealize.ShloMosaic

/-! ## The main part: the point's own rows -/

section Main

variable (v0 : Vec Ideal S1x1024 .f32) (v4 v5 : Vec Ideal S512x2048 .bf16) (v6 : Vec Ideal S512x128 .bf16) (v7 : Vec Ideal S512x1024 .f32)
  (v8 v10 : Vec Ideal S2048x1024 .bf16) (v13 : Vec Ideal S128x1024 .bf16)

theorem pay19_at (r : Fin 512) (l : Fin 1024) : k0_pay19 v4 v5 v6 v8 v10 v13 (ix2 r l)
    = rowDu (fun k => v4 (ix2 r k)) (fun k => v5 (ix2 r k)) (fun k => v6 (ix2 r k)) (fun k l => v8 (ix2 k l)) (fun k l => v10 (ix2 k l))
      (fun k l => v13 (ix2 k l)) l := by
  unfold rowDu
  pointwise [k0_pay19]

theorem pay20_at (r : Fin 512) : k0_pay20 v7 (ix2 r 0) = rinv (fun l => v7 (ix2 r l)) := by
  unfold rinv meanSq
  pointwise [k0_pay20]

theorem pay21_at (r : Fin 512) (l : Fin 1024) : k0_pay21 v7 (ix2 r l) = rowNorm (fun l => v7 (ix2 r l)) l := by
  unfold rowNorm
  rw [← pay20_at]
  pointwise [k0_pay21]

theorem pay22_at (r : Fin 512) (l : Fin 1024) : k0_pay22 v0 v4 v5 v6 v8 v10 v13 (ix2 r l)
    = k0_pay19 v4 v5 v6 v8 v10 v13 (ix2 r l) * v0 (ix2 0 l) := by
  pointwise [k0_pay22]

theorem pay23_at (r : Fin 512) : k0_pay23 v0 v4 v5 v6 v7 v8 v10 v13 (ix2 r 0)
    = ∑ l, k0_pay22 v0 v4 v5 v6 v8 v10 v13 (ix2 r l) * k0_pay21 v7 (ix2 r l) := by
  pointwise [k0_pay23]

theorem pay25_at (a s o : FVec Ideal S512x1 .f32) (n dn : FVec Ideal S512x1024 .f32) (d : Vec Ideal S512x1024 .f32) (r : Fin 512) (l : Fin 1024) :
    k0_pay25 a n dn s o d (ix2 r l)
      = d (ix2 r l) + a (ix2 r 0) * (dn (ix2 r l) - n (ix2 r l) * Ideal.div (s (ix2 r 0)) (o (ix2 r 0))) := by
  pointwise [k0_pay25]

/-- The block of the gradient by the layer's input. -/
theorem dx_at (d : Vec Ideal S512x1024 .f32) (r : Fin 512) (l : Fin 1024) :
    k0_pay25 (k0_pay20 v7) (k0_pay21 v7) (k0_pay22 v0 v4 v5 v6 v8 v10 v13) (k0_pay23 v0 v4 v5 v6 v7 v8 v10 v13) k0_pay24 d (ix2 r l)
      = d (ix2 r l) + rmsBack (fun l => v7 (ix2 r l)) (fun l => k0_pay19 v4 v5 v6 v8 v10 v13 (ix2 r l) * v0 (ix2 0 l)) l := by
  rw [pay25_at, pay23_at, pay20_at]
  simp only [pay21_at, pay22_at]
  unfold rmsBack rowNorm
  pointwise [k0_pay24]

theorem pay26_at (du n : FVec Ideal S512x1024 .f32) (w : Vec Ideal S1x1024 .f32) (l : Fin 1024) :
    k0_pay26 du n w (ix2 0 l) = w (ix2 0 l) + ∑ r : Fin 512, du (ix2 r l) * n (ix2 r l) := by
  pointwise [k0_pay26]

theorem pay27_at (n : FVec Ideal S512x1024 .f32) (r : Fin 512) (l : Fin 1024) : k0_pay27 v0 n (ix2 r l) = n (ix2 r l) * v0 (ix2 0 l) := by
  pointwise [k0_pay27]

/-- What the point adds to the gradient by the weights' row that makes column `r` of the part `v` of the output. -/
def addW {k : ℕ} (v : Arr 512 k) (u : Arr 512 1024) (r : Fin k) (l : Fin 1024) : EReal := ∑ x : Fin 512, v (ix2 x r) * u (ix2 x l)

/-- Row `o + i` of an accumulator, `i` a row of the band that starts at `o`. -/
def band (o : ℕ) (h : o + 512 ≤ 2048) (i : Fin 512) : Fin 2048 := ⟨o + i.val, by omega⟩

section Bands

variable (v : Vec Ideal S512x2048 .bf16) (n : FVec Ideal S512x1024 .f32) (u : FVec Ideal S512x1024 .bf16) (w : Vec Ideal S512x1024 .f32)
  (i : Fin 512) (l : Fin 1024)

theorem pay28_at : k0_pay28 v0 v n w (ix2 i l) = w (ix2 i l) + addW v (k0_pay27 v0 n) (band 0 (by omega) i) l := by
  unfold addW band; pointwise [k0_pay28]
theorem pay29_at : k0_pay29 v0 v n w (ix2 i l) = w (ix2 i l) + addW v (k0_pay27 v0 n) (band 512 (by omega) i) l := by
  unfold addW band; pointwise [k0_pay29]
theorem pay31_at : k0_pay31 (k0_pay30 v0 v n) w (ix2 i l) = w (ix2 i l) + addW v (k0_pay27 v0 n) (band 1024 (by omega) i) l := by
  unfold addW band; pointwise [k0_pay31, k0_pay30]
theorem pay32_at : k0_pay32 v u w (ix2 i l) = w (ix2 i l) + addW v u (band 1536 (by omega) i) l := by
  unfold addW band; pointwise [k0_pay32]
theorem pay33_at : k0_pay33 v u w (ix2 i l) = w (ix2 i l) + addW v u (band 0 (by omega) i) l := by
  unfold addW band; pointwise [k0_pay33]
theorem pay34_at : k0_pay34 v u w (ix2 i l) = w (ix2 i l) + addW v u (band 512 (by omega) i) l := by
  unfold addW band; pointwise [k0_pay34]
theorem pay35_at : k0_pay35 v u w (ix2 i l) = w (ix2 i l) + addW v u (band 1024 (by omega) i) l := by
  unfold addW band; pointwise [k0_pay35]
theorem pay1_at : k0_pay1 v u w (ix2 i l) = w (ix2 i l) + addW v u (band 1536 (by omega) i) l := by
  unfold addW band; pointwise [k0_pay1]
theorem pay2_at (i : Fin 128) (w : Vec Ideal S128x1024 .f32) : k0_pay2 v6 u w (ix2 i l) = w (ix2 i l) + addW v6 u i l := by
  unfold addW; pointwise [k0_pay2]

end Bands

end Main

/-! ## The leading rows -/

section Lead

variable (v0 : Vec Ideal S1x1024 .f32) (v116 v117 : Vec Ideal S64x2048 .bf16) (v118 : Vec Ideal S64x128 .bf16) (v119 : Vec Ideal S64x1024 .f32)
  (v120 v122 : Vec Ideal S2048x1024 .bf16) (v125 : Vec Ideal S128x1024 .bf16)

theorem pay3_at (r : Fin 64) (l : Fin 1024) : k0_pay3 v116 v117 v118 v120 v122 v125 (ix2 r l)
    = rowDu (fun k => v116 (ix2 r k)) (fun k => v117 (ix2 r k)) (fun k => v118 (ix2 r k)) (fun k l => v120 (ix2 k l)) (fun k l => v122 (ix2 k l))
      (fun k l => v125 (ix2 k l)) l := by
  unfold rowDu
  pointwise [k0_pay3]

theorem pay4_at (r : Fin 64) : k0_pay4 v119 (ix2 r 0) = rinv (fun l => v119 (ix2 r l)) := by
  unfold rinv meanSq
  pointwise [k0_pay4]

theorem pay5_at (r : Fin 64) (l : Fin 1024) : k0_pay5 v119 (ix2 r l) = rowNorm (fun l => v119 (ix2 r l)) l := by
  unfold rowNorm
  rw [← pay4_at]
  pointwise [k0_pay5]

/-- The gradient by the leading rows of the layer's input. -/
theorem dx0_at (r : Fin 64) (l : Fin 1024) : k0_pay6 v0 v116 v117 v118 v119 v120 v122 v125 (ix2 r l)
    = rmsBack (fun l => v119 (ix2 r l)) (fun l => k0_pay3 v116 v117 v118 v120 v122 v125 (ix2 r l) * v0 (ix2 0 l)) l := by
  unfold rmsBack
  have h5 : ∀ l, (v119 (ix2 r l) : EReal) * rinv (fun l => v119 (ix2 r l)) = k0_pay5 v119 (ix2 r l) := fun l => (pay5_at v119 r l).symm
  simp only [h5]
  rw [← pay4_at]
  pointwise [k0_pay6]

theorem pay7_at (l : Fin 1024) : k0_pay7 v116 v117 v118 v119 v120 v122 v125 (ix2 0 l)
    = ∑ r : Fin 64, k0_pay3 v116 v117 v118 v120 v122 v125 (ix2 r l) * k0_pay5 v119 (ix2 r l) := by
  pointwise [k0_pay7]

/-- The leading rows' part of the gradient by the weights. -/
def setW {k : ℕ} (v : Arr 64 k) (u : Arr 64 1024) (r : Fin k) (l : Fin 1024) : EReal := ∑ x : Fin 64, v (ix2 x r) * u (ix2 x l)

section Bands

variable (v : Vec Ideal S64x2048 .bf16) (u : Vec Ideal S64x1024 .bf16) (i : Fin 512) (l : Fin 1024)

theorem pay9_at : k0_pay9 v u (ix2 i l) = setW v u (band 0 (by omega) i) l := by
  unfold setW band; pointwise [k0_pay9, k0_pay8]
theorem pay10_at : k0_pay10 v u (ix2 i l) = setW v u (band 512 (by omega) i) l := by
  unfold setW band; pointwise [k0_pay10, k0_pay8]
theorem pay11_at : k0_pay11 v u (ix2 i l) = setW v u (band 1024 (by omega) i) l := by
  unfold setW band; pointwise [k0_pay11, k0_pay8]
theorem pay12_at : k0_pay12 v u (ix2 i l) = setW v u (band 1536 (by omega) i) l := by
  unfold setW band; pointwise [k0_pay12, k0_pay8]
theorem pay13_at : k0_pay13 v u (ix2 i l) = setW v u (band 0 (by omega) i) l := by
  unfold setW band; pointwise [k0_pay13, k0_pay8]
theorem pay15_at : k0_pay15 (k0_pay14 v u) (ix2 i l) = setW v u (band 512 (by omega) i) l := by
  unfold setW band; pointwise [k0_pay15, k0_pay14, k0_pay8]
theorem pay16_at : k0_pay16 v (k0_pay8 u) (ix2 i l) = setW v u (band 1024 (by omega) i) l := by
  unfold setW band; pointwise [k0_pay16, k0_pay8]
theorem pay17_at : k0_pay17 v (k0_pay8 u) (ix2 i l) = setW v u (band 1536 (by omega) i) l := by
  unfold setW band; pointwise [k0_pay17, k0_pay8]
theorem pay18_at (i : Fin 128) : k0_pay18 v118 (k0_pay8 u) (ix2 i l) = setW v118 u i l := by
  unfold setW; pointwise [k0_pay18, k0_pay8]

end Bands

end Lead

end Cert.Back
-- ==== Proof.BackKit.lean ====
/-
  The body of the input projection's backward, as the proofs below see it: its buffers as one record, the contents of
  its input blocks as another, and the conditions of its two branches over the grid points.
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

-- memberships in rectangles over long axes are looked at coordinate by coordinate
set_option maxRecDepth 16384

noncomputable section

namespace Cert.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The buffers the body is called with. -/
structure Bufs where
  a1 : Memref sig .tc .vmem S512x2048 .bf16
  h1 : a1.IsWhole
  a2 : Memref sig .tc .vmem S512x2048 .bf16
  h2 : a2.IsWhole
  a3 : Memref sig .tc .vmem S512x128 .bf16
  h3 : a3.IsWhole
  a4 : Memref sig .tc .vmem S2048x1024 .bf16
  h4 : a4.IsWhole
  a5 : Memref sig .tc .vmem S2048x1024 .bf16
  h5 : a5.IsWhole
  a6 : Memref sig .tc .vmem S128x1024 .bf16
  h6 : a6.IsWhole
  a7 : Memref sig .tc .vmem S512x1024 .f32
  h7 : a7.IsWhole
  a8 : Memref sig .tc .vmem S512x1024 .f32
  h8 : a8.IsWhole
  a9 : Memref sig .tc .vmem S1x1024 .f32
  h9 : a9.IsWhole
  a10 : Memref sig .tc .vmem S64x1024 .f32
  h10 : a10.IsWhole
  a11 : Memref sig .tc .vmem S64x1024 .bf16
  h11 : a11.IsWhole
  a12 : Memref sig .tc .vmem S64x2048 .bf16
  h12 : a12.IsWhole
  a13 : Memref sig .tc .vmem S64x2048 .bf16
  h13 : a13.IsWhole
  a14 : Memref sig .tc .vmem S64x128 .bf16
  h14 : a14.IsWhole
  a15 : Memref sig .tc .vmem S512x1024 .f32
  h15 : a15.IsWhole
  a16 : Memref sig .tc .vmem S64x1024 .f32
  h16 : a16.IsWhole
  a17 : Memref sig .tc .vmem S1x1024 .f32
  h17 : a17.IsWhole
  a21 : Memref sig .tc .vmem S2048x1024 .f32
  h21 : a21.IsWhole
  a22 : Memref sig .tc .vmem S2048x1024 .f32
  h22 : a22.IsWhole
  a23 : Memref sig .tc .vmem S128x1024 .f32
  h23 : a23.IsWhole

/-- The contents of the fourteen input blocks. -/
structure Blocks (F : FTy → Type) where
  x0 : Vec F S512x2048 .bf16
  x1 : Vec F S512x2048 .bf16
  x2 : Vec F S512x128 .bf16
  x3 : Vec F S2048x1024 .bf16
  x4 : Vec F S2048x1024 .bf16
  x5 : Vec F S128x1024 .bf16
  x6 : Vec F S512x1024 .f32
  x7 : Vec F S512x1024 .f32
  x8 : Vec F S1x1024 .f32
  x9 : Vec F S64x1024 .f32
  x10 : Vec F S64x1024 .bf16
  x11 : Vec F S64x2048 .bf16
  x12 : Vec F S64x2048 .bf16
  x13 : Vec F S64x128 .bf16

/-- The contents of the six buffers the body writes: the three output blocks, then the three running sums. -/
abbrev Outs (F : FTy → Type) : Type :=
  Vec F S512x1024 .f32 × Vec F S64x1024 .f32 × Vec F S1x1024 .f32 × Vec F S2048x1024 .f32 × Vec F S2048x1024 .f32 × Vec F S128x1024 .f32

/-- The input blocks, each held whole at its contents. -/
def ins (c : Dev nD) (b : Bufs) (x : Blocks F) : sProp 𝕄 :=
  iprop(owns (c : Thread nD τ) b.a1 fullShare x.x0
    ∗ owns (c : Thread nD τ) b.a2 fullShare x.x1
    ∗ owns (c : Thread nD τ) b.a3 fullShare x.x2
    ∗ owns (c : Thread nD τ) b.a4 fullShare x.x3
    ∗ owns (c : Thread nD τ) b.a5 fullShare x.x4
    ∗ owns (c : Thread nD τ) b.a6 fullShare x.x5
    ∗ owns (c : Thread nD τ) b.a7 fullShare x.x6
    ∗ owns (c : Thread nD τ) b.a8 fullShare x.x7
    ∗ owns (c : Thread nD τ) b.a9 fullShare x.x8
    ∗ owns (c : Thread nD τ) b.a10 fullShare x.x9
    ∗ owns (c : Thread nD τ) b.a11 fullShare x.x10
    ∗ owns (c : Thread nD τ) b.a12 fullShare x.x11
    ∗ owns (c : Thread nD τ) b.a13 fullShare x.x12
    ∗ owns (c : Thread nD τ) b.a14 fullShare x.x13)

/-- The three results left in main memory that the body writes by copies. -/
abbrev hb0 : Memref sig .tc .hbm S2048x1024 .f32 := Memref.whole main_v13_3
abbrev hb1 : Memref sig .tc .hbm S2048x1024 .f32 := Memref.whole main_v13_4
abbrev hb2 : Memref sig .tc .hbm S128x1024 .f32 := Memref.whole main_v13_5

/-- The contents of a whole buffer of core `c`, and the buffer held at them. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body at grid coordinates `i` with buffers `b`. -/
abbrev bodyOf (i : grid0.Coords) (b : Bufs) : Prog (TpuEff nD τ sig (Elt F) Λ₀ .tc) PUnit :=
  cc0_in_proj_bwd i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 hb0 (Memref.isWhole_whole _) hb1 (Memref.isWhole_whole _)
    hb2 (Memref.isWhole_whole _) b.a21 b.h21 b.a22 b.h22 b.a23 b.h23 cc0_scoped0 cc0_scoped1 cc0_scoped2

/-- The first branch is taken. -/
abbrev first (i : grid0.Coords) : Prop := k0_cond1 i = 1#1
/-- The second branch is taken. -/
abbrev final (i : grid0.Coords) : Prop :=
  (Scalar.cmpi .ne (Scalar.extui (Scalar.cmpi .eq (BitVec.ofNat 32 (i 0).val) 7#32)) 0#32) = 1#1

/-- The first branch is taken at the first point only. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have h : first (grid0.coords t) ↔ t.val % 8 = 0 := by
    simp only [first, k0_cond1, e0]
    word_cmp
  rw [h, Nat.mod_eq_of_lt ht]

/-- The second branch is taken at the last point only. -/
theorem final_iff (t : Fin cfg0.N) : final (grid0.coords t) ↔ t.val = 7 := by
  have ht : t.val < 8 := Nat.lt_of_lt_of_eq t.isLt N_0
  have e0 : (grid0.coords t 0).val = t.val / 1 % 8 := Pipeline.Grid.coords_val t 0 (by decide) rfl
  have h : final (grid0.coords t) ↔ t.val % 8 = 7 := by
    simp only [final, e0]
    word_cmp
  rw [h, Nat.mod_eq_of_lt ht]

end Cert.Back
-- ==== Proof.BackRunA.lean ====
/-
  The body at the first point: it sets the block of the lead rows and the running sums from the lead rows, then adds
  the first block's terms.
-/
module

public import proofs.«01_k».proof.Proof.BackKit

@[expose] public section

-- memberships in rectangles over long axes are looked at coordinate by coordinate
set_option maxRecDepth 16384

noncomputable section

namespace Cert.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the triple's proof term is large
set_option maxHeartbeats 1600000 in
/-- The body's triple at the first point, with the pieces each written buffer ends with: the pieces are found by running
    the body. -/
noncomputable def runA (c : Dev nD) (i : grid0.Coords) (b : Bufs) (hc0 : first i) (hc1 : ¬final i) (x : Blocks F) :
    Σ' (L15 : List (View.Piece (Elt F) S512x1024 .f32)), Σ' (L16 : List (View.Piece (Elt F) S64x1024 .f32)), Σ' (L17 : List (View.Piece (Elt F) S1x1024 .f32)), Σ' (L21 : List (View.Piece (Elt F) S2048x1024 .f32)), Σ' (L22 : List (View.Piece (Elt F) S2048x1024 .f32)), { L23 : List (View.Piece (Elt F) S128x1024 .f32) //
      ∀ (W : Waits sig Unit) (K : PUnit → sProp 𝕄),
        iprop(ins c b x ∗ (∃ d, owns (c : Thread nD τ) b.a15 fullShare d) ∗ (∃ d, owns (c : Thread nD τ) b.a16 fullShare d) ∗ (∃ d, owns (c : Thread nD τ) b.a17 fullShare d) ∗ (∃ d, owns (c : Thread nD τ) b.a21 fullShare d) ∗ (∃ d, owns (c : Thread nD τ) b.a22 fullShare d) ∗ (∃ d, owns (c : Thread nD τ) b.a23 fullShare d) ∗ owes (c : Thread nD τ) 0 W
            ∗ (iprop(ins c b x ∗ (∃ f, b.a15.view.loc (c : Thread nD τ) ↦[b.a15.view.set]{fullShare} b.a15.view.writes (Elt F) f L15) ∗ (∃ f, b.a16.view.loc (c : Thread nD τ) ↦[b.a16.view.set]{fullShare} b.a16.view.writes (Elt F) f L16) ∗ (∃ f, b.a17.view.loc (c : Thread nD τ) ↦[b.a17.view.set]{fullShare} b.a17.view.writes (Elt F) f L17) ∗ (∃ f, b.a21.view.loc (c : Thread nD τ) ↦[b.a21.view.set]{fullShare} b.a21.view.writes (Elt F) f L21) ∗ (∃ f, b.a22.view.loc (c : Thread nD τ) ↦[b.a22.view.set]{fullShare} b.a22.view.writes (Elt F) f L22) ∗ (∃ f, b.a23.view.loc (c : Thread nD τ) ↦[b.a23.view.set]{fullShare} b.a23.view.writes (Elt F) f L23) ∗ (∃ W', owes (c : Thread nD τ) 0 W')) -∗ K ⟨⟩))
          ⊢ wp frame (wpE (defs₀ (F := F)) Variants.none c none) Set.univ (bodyOf i b) K } := by
  refine ⟨?_, ?_, ?_, ?_, ?_, ?_, fun W K => ?run⟩
  case run =>
    unfold bodyOf
    simp only [cc0_in_proj_bwd_eq_skeleton]; unfold cc0_in_proj_bwd_skel
    simp only [k0_part3_eq_skeleton, k0_part1_eq_skeleton, k0_part2_eq_skeleton, k0_part4_eq_skeleton, k0_part5_eq_skeleton]
    unfold ins owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨%d15, %f15, -, H15⟩, ⟨%d16, %f16, -, H16⟩, ⟨%d17, %f17, -, H17⟩, ⟨%d21, %f21, -, H21⟩, ⟨%d22, %f22, -, H22⟩, ⟨%d23, %f23, -, H23⟩, HW, Hk⟩
    obtain rfl := b.h1.eq_unread hf1
    obtain rfl := b.h2.eq_unread hf2
    obtain rfl := b.h3.eq_unread hf3
    obtain rfl := b.h4.eq_unread hf4
    obtain rfl := b.h5.eq_unread hf5
    obtain rfl := b.h6.eq_unread hf6
    obtain rfl := b.h7.eq_unread hf7
    obtain rfl := b.h8.eq_unread hf8
    obtain rfl := b.h9.eq_unread hf9
    obtain rfl := b.h10.eq_unread hf10
    obtain rfl := b.h11.eq_unread hf11
    obtain rfl := b.h12.eq_unread hf12
    obtain rfl := b.h13.eq_unread hf13
    obtain rfl := b.h14.eq_unread hf14
    sl_exec (disch := first | sl_exact hc0 | sl_exact hc1)
    sl_step
    iapply Hk
    isplitl [H1 H2 H3 H4 H5 H6 H7 H8 H9 H10 H11 H12 H13 H14]
    · isplitl [H1]
      · iexists _; isplitr; · ipureintro; exact b.h1.read_unread _
        iexact H1
      isplitl [H2]
      · iexists _; isplitr; · ipureintro; exact b.h2.read_unread _
        iexact H2
      isplitl [H3]
      · iexists _; isplitr; · ipureintro; exact b.h3.read_unread _
        iexact H3
      isplitl [H4]
      · iexists _; isplitr; · ipureintro; exact b.h4.read_unread _
        iexact H4
      isplitl [H5]
      · iexists _; isplitr; · ipureintro; exact b.h5.read_unread _
        iexact H5
      isplitl [H6]
      · iexists _; isplitr; · ipureintro; exact b.h6.read_unread _
        iexact H6
      isplitl [H7]
      · iexists _; isplitr; · ipureintro; exact b.h7.read_unread _
        iexact H7
      isplitl [H8]
      · iexists _; isplitr; · ipureintro; exact b.h8.read_unread _
        iexact H8
      isplitl [H9]
      · iexists _; isplitr; · ipureintro; exact b.h9.read_unread _
        iexact H9
      isplitl [H10]
      · iexists _; isplitr; · ipureintro; exact b.h10.read_unread _
        iexact H10
      isplitl [H11]
      · iexists _; isplitr; · ipureintro; exact b.h11.read_unread _
        iexact H11
      isplitl [H12]
      · iexists _; isplitr; · ipureintro; exact b.h12.read_unread _
        iexact H12
      isplitl [H13]
      · iexists _; isplitr; · ipureintro; exact b.h13.read_unread _
        iexact H13
      iexists _; isplitr; · ipureintro; exact b.h14.read_unread _
      iexact H14
    isplitl [H15]; · iexists _; iexact H15
    isplitl [H16]; · iexists _; iexact H16
    isplitl [H17]; · iexists _; iexact H17
    isplitl [H21]; · iexists _; iexact H21
    isplitl [H22]; · iexists _; iexact H22
    isplitl [H23]; · iexists _; iexact H23
    iexists _; iexact HW

end Cert.Back
-- ==== Proof.BackRunB.lean ====
/-
  The body at a point that is neither first nor last: it adds the block's terms to what the point before left.
-/
module

public import proofs.«01_k».proof.Proof.BackRunA

@[expose] public section

-- memberships in rectangles over long axes are looked at coordinate by coordinate
set_option maxRecDepth 16384

noncomputable section

namespace Cert.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the triple's proof term is large
set_option maxHeartbeats 1600000 in
/-- The body's triple at a middle point, with the pieces each written buffer ends with: the pieces are found by running
    the body. -/
noncomputable def runB (c : Dev nD) (i : grid0.Coords) (b : Bufs) (hc0 : ¬first i) (hc1 : ¬final i) (x : Blocks F) (p : Outs F) :
    Σ' (L15 : List (View.Piece (Elt F) S512x1024 .f32)), Σ' (L17 : List (View.Piece (Elt F) S1x1024 .f32)), Σ' (L21 : List (View.Piece (Elt F) S2048x1024 .f32)), Σ' (L22 : List (View.Piece (Elt F) S2048x1024 .f32)), { L23 : List (View.Piece (Elt F) S128x1024 .f32) //
      ∀ (W : Waits sig Unit) (K : PUnit → sProp 𝕄),
        iprop(ins c b x ∗ (∃ d, owns (c : Thread nD τ) b.a15 fullShare d) ∗ owns (c : Thread nD τ) b.a17 fullShare p.2.2.1 ∗ owns (c : Thread nD τ) b.a21 fullShare p.2.2.2.1 ∗ owns (c : Thread nD τ) b.a22 fullShare p.2.2.2.2.1 ∗ owns (c : Thread nD τ) b.a23 fullShare p.2.2.2.2.2 ∗ owes (c : Thread nD τ) 0 W
            ∗ (iprop(ins c b x ∗ (∃ f, b.a15.view.loc (c : Thread nD τ) ↦[b.a15.view.set]{fullShare} b.a15.view.writes (Elt F) f L15) ∗ (∃ f, b.a17.view.loc (c : Thread nD τ) ↦[b.a17.view.set]{fullShare} b.a17.view.writes (Elt F) f L17) ∗ (∃ f, b.a21.view.loc (c : Thread nD τ) ↦[b.a21.view.set]{fullShare} b.a21.view.writes (Elt F) f L21) ∗ (∃ f, b.a22.view.loc (c : Thread nD τ) ↦[b.a22.view.set]{fullShare} b.a22.view.writes (Elt F) f L22) ∗ (∃ f, b.a23.view.loc (c : Thread nD τ) ↦[b.a23.view.set]{fullShare} b.a23.view.writes (Elt F) f L23) ∗ (∃ W', owes (c : Thread nD τ) 0 W')) -∗ K ⟨⟩))
          ⊢ wp frame (wpE (defs₀ (F := F)) Variants.none c none) Set.univ (bodyOf i b) K } := by
  refine ⟨?_, ?_, ?_, ?_, ?_, fun W K => ?run⟩
  case run =>
    unfold bodyOf
    simp only [cc0_in_proj_bwd_eq_skeleton]; unfold cc0_in_proj_bwd_skel
    simp only [k0_part3_eq_skeleton, k0_part4_eq_skeleton, k0_part5_eq_skeleton]
    unfold ins owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨%d15, %f15, -, H15⟩, ⟨%f17, %hf17, H17⟩, ⟨%f21, %hf21, H21⟩, ⟨%f22, %hf22, H22⟩, ⟨%f23, %hf23, H23⟩, HW, Hk⟩
    obtain rfl := b.h1.eq_unread hf1
    obtain rfl := b.h2.eq_unread hf2
    obtain rfl := b.h3.eq_unread hf3
    obtain rfl := b.h4.eq_unread hf4
    obtain rfl := b.h5.eq_unread hf5
    obtain rfl := b.h6.eq_unread hf6
    obtain rfl := b.h7.eq_unread hf7
    obtain rfl := b.h8.eq_unread hf8
    obtain rfl := b.h9.eq_unread hf9
    obtain rfl := b.h10.eq_unread hf10
    obtain rfl := b.h11.eq_unread hf11
    obtain rfl := b.h12.eq_unread hf12
    obtain rfl := b.h13.eq_unread hf13
    obtain rfl := b.h14.eq_unread hf14
    obtain rfl := b.h17.eq_unread hf17
    obtain rfl := b.h21.eq_unread hf21
    obtain rfl := b.h22.eq_unread hf22
    obtain rfl := b.h23.eq_unread hf23
    sl_exec (disch := first | sl_exact hc0 | sl_exact hc1)
    sl_step
    iapply Hk
    isplitl [H1 H2 H3 H4 H5 H6 H7 H8 H9 H10 H11 H12 H13 H14]
    · isplitl [H1]
      · iexists _; isplitr; · ipureintro; exact b.h1.read_unread _
        iexact H1
      isplitl [H2]
      · iexists _; isplitr; · ipureintro; exact b.h2.read_unread _
        iexact H2
      isplitl [H3]
      · iexists _; isplitr; · ipureintro; exact b.h3.read_unread _
        iexact H3
      isplitl [H4]
      · iexists _; isplitr; · ipureintro; exact b.h4.read_unread _
        iexact H4
      isplitl [H5]
      · iexists _; isplitr; · ipureintro; exact b.h5.read_unread _
        iexact H5
      isplitl [H6]
      · iexists _; isplitr; · ipureintro; exact b.h6.read_unread _
        iexact H6
      isplitl [H7]
      · iexists _; isplitr; · ipureintro; exact b.h7.read_unread _
        iexact H7
      isplitl [H8]
      · iexists _; isplitr; · ipureintro; exact b.h8.read_unread _
        iexact H8
      isplitl [H9]
      · iexists _; isplitr; · ipureintro; exact b.h9.read_unread _
        iexact H9
      isplitl [H10]
      · iexists _; isplitr; · ipureintro; exact b.h10.read_unread _
        iexact H10
      isplitl [H11]
      · iexists _; isplitr; · ipureintro; exact b.h11.read_unread _
        iexact H11
      isplitl [H12]
      · iexists _; isplitr; · ipureintro; exact b.h12.read_unread _
        iexact H12
      isplitl [H13]
      · iexists _; isplitr; · ipureintro; exact b.h13.read_unread _
        iexact H13
      iexists _; isplitr; · ipureintro; exact b.h14.read_unread _
      iexact H14
    isplitl [H15]; · iexists _; iexact H15
    isplitl [H17]; · iexists _; iexact H17
    isplitl [H21]; · iexists _; iexact H21
    isplitl [H22]; · iexists _; iexact H22
    isplitl [H23]; · iexists _; iexact H23
    iexists _; iexact HW

end Cert.Back
-- ==== Proof.BackRunC.lean ====
/-
  The body at the last point: it adds the block's terms and copies the running sums to the results.
-/
module

public import proofs.«01_k».proof.Proof.BackRunB

@[expose] public section

-- memberships in rectangles over long axes are looked at coordinate by coordinate
set_option maxRecDepth 16384

noncomputable section

namespace Cert.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the triple's proof term is large
set_option maxHeartbeats 1600000 in
/-- The body's triple at the last point, with the pieces each written buffer ends with and the contents the copies leave: the pieces are found by running
    the body. -/
noncomputable def runC (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) :
    Σ' (L15 : List (View.Piece (Elt F) S512x1024 .f32)), Σ' (L17 : List (View.Piece (Elt F) S1x1024 .f32)), Σ' (L21 : List (View.Piece (Elt F) S2048x1024 .f32)), Σ' (L22 : List (View.Piece (Elt F) S2048x1024 .f32)), Σ' (L23 : List (View.Piece (Elt F) S128x1024 .f32)), Σ' (G0 : HbBuf (F := F) c hb0), Σ' (G1 : HbBuf (F := F) c hb1), { G2 : HbBuf (F := F) c hb2 //
      ∀ (W : Waits sig Unit) (K : PUnit → sProp 𝕄),
        iprop(ins c b x ∗ (∃ d, owns (c : Thread nD τ) b.a15 fullShare d) ∗ owns (c : Thread nD τ) b.a17 fullShare p.2.2.1 ∗ owns (c : Thread nD τ) b.a21 fullShare p.2.2.2.1 ∗ owns (c : Thread nD τ) b.a22 fullShare p.2.2.2.2.1 ∗ owns (c : Thread nD τ) b.a23 fullShare p.2.2.2.2.2 ∗ semVal ((c : Thread nD τ), SemLoc.dma 23) 0 ∗ semVal ((c : Thread nD τ), SemLoc.dma 24) 0 ∗ semVal ((c : Thread nD τ), SemLoc.dma 25) 0 ∗ hbPt c hb0 g0 ∗ hbPt c hb1 g1 ∗ hbPt c hb2 g2 ∗ owes (c : Thread nD τ) 0 W
            ∗ (iprop(ins c b x ∗ (∃ f, b.a15.view.loc (c : Thread nD τ) ↦[b.a15.view.set]{fullShare} b.a15.view.writes (Elt F) f L15) ∗ (∃ f, b.a17.view.loc (c : Thread nD τ) ↦[b.a17.view.set]{fullShare} b.a17.view.writes (Elt F) f L17) ∗ (∃ f, b.a21.view.loc (c : Thread nD τ) ↦[b.a21.view.set]{fullShare} b.a21.view.writes (Elt F) f L21) ∗ (∃ f, b.a22.view.loc (c : Thread nD τ) ↦[b.a22.view.set]{fullShare} b.a22.view.writes (Elt F) f L22) ∗ (∃ f, b.a23.view.loc (c : Thread nD τ) ↦[b.a23.view.set]{fullShare} b.a23.view.writes (Elt F) f L23) ∗ semVal ((c : Thread nD τ), SemLoc.dma 23) 0 ∗ semVal ((c : Thread nD τ), SemLoc.dma 24) 0 ∗ semVal ((c : Thread nD τ), SemLoc.dma 25) 0 ∗ hbPt c hb0 G0 ∗ hbPt c hb1 G1 ∗ hbPt c hb2 G2 ∗ (∃ W', owes (c : Thread nD τ) 0 W')) -∗ K ⟨⟩))
          ⊢ wp frame (wpE (defs₀ (F := F)) Variants.none c none) Set.univ (bodyOf i b) K } := by
  refine ⟨?_, ?_, ?_, ?_, ?_, ?_, ?_, ?_, fun W K => ?run⟩
  case run =>
    unfold bodyOf
    simp only [cc0_in_proj_bwd_eq_skeleton]; unfold cc0_in_proj_bwd_skel
    simp only [k0_part3_eq_skeleton, k0_part4_eq_skeleton, k0_part5_eq_skeleton]
    unfold ins owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨%d15, %f15, -, H15⟩, ⟨%f17, %hf17, H17⟩, ⟨%f21, %hf21, H21⟩, ⟨%f22, %hf22, H22⟩, ⟨%f23, %hf23, H23⟩, Hq0, Hq1, Hq2, Hh0, Hh1, Hh2, HW, Hk⟩
    obtain rfl := b.h1.eq_unread hf1
    obtain rfl := b.h2.eq_unread hf2
    obtain rfl := b.h3.eq_unread hf3
    obtain rfl := b.h4.eq_unread hf4
    obtain rfl := b.h5.eq_unread hf5
    obtain rfl := b.h6.eq_unread hf6
    obtain rfl := b.h7.eq_unread hf7
    obtain rfl := b.h8.eq_unread hf8
    obtain rfl := b.h9.eq_unread hf9
    obtain rfl := b.h10.eq_unread hf10
    obtain rfl := b.h11.eq_unread hf11
    obtain rfl := b.h12.eq_unread hf12
    obtain rfl := b.h13.eq_unread hf13
    obtain rfl := b.h14.eq_unread hf14
    obtain rfl := b.h17.eq_unread hf17
    obtain rfl := b.h21.eq_unread hf21
    obtain rfl := b.h22.eq_unread hf22
    obtain rfl := b.h23.eq_unread hf23
    sl_exec (disch := first | sl_exact hc0 | sl_exact hc1)
    sl_step
    iapply Hk
    isplitl [H1 H2 H3 H4 H5 H6 H7 H8 H9 H10 H11 H12 H13 H14]
    · isplitl [H1]
      · iexists _; isplitr; · ipureintro; exact b.h1.read_unread _
        iexact H1
      isplitl [H2]
      · iexists _; isplitr; · ipureintro; exact b.h2.read_unread _
        iexact H2
      isplitl [H3]
      · iexists _; isplitr; · ipureintro; exact b.h3.read_unread _
        iexact H3
      isplitl [H4]
      · iexists _; isplitr; · ipureintro; exact b.h4.read_unread _
        iexact H4
      isplitl [H5]
      · iexists _; isplitr; · ipureintro; exact b.h5.read_unread _
        iexact H5
      isplitl [H6]
      · iexists _; isplitr; · ipureintro; exact b.h6.read_unread _
        iexact H6
      isplitl [H7]
      · iexists _; isplitr; · ipureintro; exact b.h7.read_unread _
        iexact H7
      isplitl [H8]
      · iexists _; isplitr; · ipureintro; exact b.h8.read_unread _
        iexact H8
      isplitl [H9]
      · iexists _; isplitr; · ipureintro; exact b.h9.read_unread _
        iexact H9
      isplitl [H10]
      · iexists _; isplitr; · ipureintro; exact b.h10.read_unread _
        iexact H10
      isplitl [H11]
      · iexists _; isplitr; · ipureintro; exact b.h11.read_unread _
        iexact H11
      isplitl [H12]
      · iexists _; isplitr; · ipureintro; exact b.h12.read_unread _
        iexact H12
      isplitl [H13]
      · iexists _; isplitr; · ipureintro; exact b.h13.read_unread _
        iexact H13
      iexists _; isplitr; · ipureintro; exact b.h14.read_unread _
      iexact H14
    isplitl [H15]; · iexists _; iexact H15
    isplitl [H17]; · iexists _; iexact H17
    isplitl [H21]; · iexists _; iexact H21
    isplitl [H22]; · iexists _; iexact H22
    isplitl [H23]; · iexists _; iexact H23
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW

end Cert.Back
-- ==== Proof.BackOut.lean ====
/-
  What the body leaves at each of the three kinds of point: the pieces found by the runs cover their buffers, so each
  buffer's contents are those of its pieces, and the triple holds with the contents named.
-/
module

public import proofs.«01_k».proof.Proof.BackRunC

@[expose] public section

-- memberships in rectangles over long axes are looked at coordinate by coordinate
set_option maxRecDepth 16384

noncomputable section

namespace Cert.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- At the first point the pieces of the block of `dx` cover it. -/
theorem coverA15 (c : Dev nD) (i : grid0.Coords) (b : Bufs) (hc0 : first i) (hc1 : ¬final i) (x : Blocks F) :
    ∀ y, ∃ pc ∈ (runA c i b hc0 hc1 x).1, y ∈ pc.1.set :=
  fun y => View.cover_of_tiledL (runA c i b hc0 hc1 x).1 S512x1024.size (by sl_kernel_rfl) y

/-- At the first point the pieces of the block of the lead rows' `dx` cover it. -/
theorem coverA16 (c : Dev nD) (i : grid0.Coords) (b : Bufs) (hc0 : first i) (hc1 : ¬final i) (x : Blocks F) :
    ∀ y, ∃ pc ∈ (runA c i b hc0 hc1 x).2.1, y ∈ pc.1.set :=
  fun y => View.cover_of_tiledL (runA c i b hc0 hc1 x).2.1 S64x1024.size (by sl_kernel_rfl) y

/-- At the first point the pieces of the gradient of the norm's weights cover it. -/
theorem coverA17 (c : Dev nD) (i : grid0.Coords) (b : Bufs) (hc0 : first i) (hc1 : ¬final i) (x : Blocks F) :
    ∀ y, ∃ pc ∈ (runA c i b hc0 hc1 x).2.2.1, y ∈ pc.1.set :=
  fun y => View.cover_of_tiledL (runA c i b hc0 hc1 x).2.2.1 S1x1024.size (by sl_kernel_rfl) y

/-- At the first point the pieces of the first running sum cover it. -/
theorem coverA21 (c : Dev nD) (i : grid0.Coords) (b : Bufs) (hc0 : first i) (hc1 : ¬final i) (x : Blocks F) :
    ∀ y, ∃ pc ∈ (runA c i b hc0 hc1 x).2.2.2.1, y ∈ pc.1.set :=
  fun y => View.cover_of_tiledL (runA c i b hc0 hc1 x).2.2.2.1 S512x1024.size (by sl_kernel_rfl) y

/-- At the first point the pieces of the second running sum cover it. -/
theorem coverA22 (c : Dev nD) (i : grid0.Coords) (b : Bufs) (hc0 : first i) (hc1 : ¬final i) (x : Blocks F) :
    ∀ y, ∃ pc ∈ (runA c i b hc0 hc1 x).2.2.2.2.1, y ∈ pc.1.set :=
  fun y => View.cover_of_tiledL (runA c i b hc0 hc1 x).2.2.2.2.1 S512x1024.size (by sl_kernel_rfl) y

/-- At the first point the pieces of the third running sum cover it. -/
theorem coverA23 (c : Dev nD) (i : grid0.Coords) (b : Bufs) (hc0 : first i) (hc1 : ¬final i) (x : Blocks F) :
    ∀ y, ∃ pc ∈ (runA c i b hc0 hc1 x).2.2.2.2.2.1, y ∈ pc.1.set :=
  fun y => View.cover_of_tiledL (runA c i b hc0 hc1 x).2.2.2.2.2.1 S128x1024.size (by sl_kernel_rfl) y

/-- What the first point leaves in the six buffers the body writes. -/
def outA (c : Dev nD) (i : grid0.Coords) (b : Bufs) (hc0 : first i) (hc1 : ¬final i) (x : Blocks F) : Outs F :=
  (View.canon (runA c i b hc0 hc1 x).1, View.canon (runA c i b hc0 hc1 x).2.1, View.canon (runA c i b hc0 hc1 x).2.2.1, View.canon (runA c i b hc0 hc1 x).2.2.2.1, View.canon (runA c i b hc0 hc1 x).2.2.2.2.1, View.canon (runA c i b hc0 hc1 x).2.2.2.2.2.1)

theorem outA_15 (c : Dev nD) (i : grid0.Coords) (b : Bufs) (hc0 : first i) (hc1 : ¬final i) (x : Blocks F) : (outA c i b hc0 hc1 x).1 = View.canon (runA c i b hc0 hc1 x).1 := by unfold outA; dsimp only
theorem outA_16 (c : Dev nD) (i : grid0.Coords) (b : Bufs) (hc0 : first i) (hc1 : ¬final i) (x : Blocks F) : (outA c i b hc0 hc1 x).2.1 = View.canon (runA c i b hc0 hc1 x).2.1 := by unfold outA; dsimp only
theorem outA_17 (c : Dev nD) (i : grid0.Coords) (b : Bufs) (hc0 : first i) (hc1 : ¬final i) (x : Blocks F) : (outA c i b hc0 hc1 x).2.2.1 = View.canon (runA c i b hc0 hc1 x).2.2.1 := by unfold outA; dsimp only
theorem outA_21 (c : Dev nD) (i : grid0.Coords) (b : Bufs) (hc0 : first i) (hc1 : ¬final i) (x : Blocks F) : (outA c i b hc0 hc1 x).2.2.2.1 = View.canon (runA c i b hc0 hc1 x).2.2.2.1 := by unfold outA; dsimp only
theorem outA_22 (c : Dev nD) (i : grid0.Coords) (b : Bufs) (hc0 : first i) (hc1 : ¬final i) (x : Blocks F) : (outA c i b hc0 hc1 x).2.2.2.2.1 = View.canon (runA c i b hc0 hc1 x).2.2.2.2.1 := by unfold outA; dsimp only
theorem outA_23 (c : Dev nD) (i : grid0.Coords) (b : Bufs) (hc0 : first i) (hc1 : ¬final i) (x : Blocks F) : (outA c i b hc0 hc1 x).2.2.2.2.2 = View.canon (runA c i b hc0 hc1 x).2.2.2.2.2.1 := by unfold outA; dsimp only

set_option maxHeartbeats 2000000 in
/-- The body's triple at the first point. -/
theorem soundA (c : Dev nD) (i : grid0.Coords) (b : Bufs) (hc0 : first i) (hc1 : ¬final i) (x : Blocks F) (W : Waits sig Unit) (K : PUnit → sProp 𝕄) :
    iprop(ins c b x ∗ (∃ d, owns (c : Thread nD τ) b.a15 fullShare d) ∗ (∃ d, owns (c : Thread nD τ) b.a16 fullShare d) ∗ (∃ d, owns (c : Thread nD τ) b.a17 fullShare d) ∗ (∃ d, owns (c : Thread nD τ) b.a21 fullShare d) ∗ (∃ d, owns (c : Thread nD τ) b.a22 fullShare d) ∗ (∃ d, owns (c : Thread nD τ) b.a23 fullShare d) ∗ owes (c : Thread nD τ) 0 W
        ∗ (iprop(ins c b x ∗ owns (c : Thread nD τ) b.a15 fullShare (outA c i b hc0 hc1 x).1 ∗ owns (c : Thread nD τ) b.a16 fullShare (outA c i b hc0 hc1 x).2.1 ∗ owns (c : Thread nD τ) b.a17 fullShare (outA c i b hc0 hc1 x).2.2.1 ∗ owns (c : Thread nD τ) b.a21 fullShare (outA c i b hc0 hc1 x).2.2.2.1 ∗ owns (c : Thread nD τ) b.a22 fullShare (outA c i b hc0 hc1 x).2.2.2.2.1 ∗ owns (c : Thread nD τ) b.a23 fullShare (outA c i b hc0 hc1 x).2.2.2.2.2 ∗ (∃ W', owes (c : Thread nD τ) 0 W')) -∗ K ⟨⟩))
      ⊢ wp frame (wpE (defs₀ (F := F)) Variants.none c none) Set.univ (bodyOf i b) K := by
  iintro ⟨Hin, H15, H16, H17, H21, H22, H23, HW, Hk⟩
  iapply ((runA c i b hc0 hc1 x).2.2.2.2.2.2 W K)
  isplitl [Hin]; · iexact Hin
  isplitl [H15]; · iexact H15
  isplitl [H16]; · iexact H16
  isplitl [H17]; · iexact H17
  isplitl [H21]; · iexact H21
  isplitl [H22]; · iexact H22
  isplitl [H23]; · iexact H23
  isplitl [HW]; · iexact HW
  iintro ⟨Hin, ⟨%e15, H15⟩, ⟨%e16, H16⟩, ⟨%e17, H17⟩, ⟨%e21, H21⟩, ⟨%e22, H22⟩, ⟨%e23, H23⟩, HW⟩
  iapply Hk
  isplitl [Hin]; · iexact Hin
  isplitl [H15]
  · unfold owns; iexists _; isplitr
    swap; · iexact H15
    ipureintro; rw [outA_15]; exact View.read_writes_eq_canon _ _ _ (coverA15 c i b hc0 hc1 x)
  isplitl [H16]
  · unfold owns; iexists _; isplitr
    swap; · iexact H16
    ipureintro; rw [outA_16]; exact View.read_writes_eq_canon _ _ _ (coverA16 c i b hc0 hc1 x)
  isplitl [H17]
  · unfold owns; iexists _; isplitr
    swap; · iexact H17
    ipureintro; rw [outA_17]; exact View.read_writes_eq_canon _ _ _ (coverA17 c i b hc0 hc1 x)
  isplitl [H21]
  · unfold owns; iexists _; isplitr
    swap; · iexact H21
    ipureintro; rw [outA_21]; exact View.read_writes_eq_canon _ _ _ (coverA21 c i b hc0 hc1 x)
  isplitl [H22]
  · unfold owns; iexists _; isplitr
    swap; · iexact H22
    ipureintro; rw [outA_22]; exact View.read_writes_eq_canon _ _ _ (coverA22 c i b hc0 hc1 x)
  isplitl [H23]
  · unfold owns; iexists _; isplitr
    swap; · iexact H23
    ipureintro; rw [outA_23]; exact View.read_writes_eq_canon _ _ _ (coverA23 c i b hc0 hc1 x)
  iexact HW

/-- At a middle point the pieces of the block of `dx` cover it. -/
theorem coverB15 (c : Dev nD) (i : grid0.Coords) (b : Bufs) (hc0 : ¬first i) (hc1 : ¬final i) (x : Blocks F) (p : Outs F) :
    ∀ y, ∃ pc ∈ (runB c i b hc0 hc1 x p).1, y ∈ pc.1.set :=
  fun y => View.cover_of_tiledL (runB c i b hc0 hc1 x p).1 S512x1024.size (by sl_kernel_rfl) y

/-- At a middle point the pieces of the gradient of the norm's weights cover it. -/
theorem coverB17 (c : Dev nD) (i : grid0.Coords) (b : Bufs) (hc0 : ¬first i) (hc1 : ¬final i) (x : Blocks F) (p : Outs F) :
    ∀ y, ∃ pc ∈ (runB c i b hc0 hc1 x p).2.1, y ∈ pc.1.set :=
  fun y => View.cover_of_tiledL (runB c i b hc0 hc1 x p).2.1 S1x1024.size (by sl_kernel_rfl) y

/-- At a middle point the pieces of the first running sum cover it. -/
theorem coverB21 (c : Dev nD) (i : grid0.Coords) (b : Bufs) (hc0 : ¬first i) (hc1 : ¬final i) (x : Blocks F) (p : Outs F) :
    ∀ y, ∃ pc ∈ (runB c i b hc0 hc1 x p).2.2.1, y ∈ pc.1.set :=
  fun y => View.cover_of_tiledL (runB c i b hc0 hc1 x p).2.2.1 S512x1024.size (by sl_kernel_rfl) y

/-- At a middle point the pieces of the second running sum cover it. -/
theorem coverB22 (c : Dev nD) (i : grid0.Coords) (b : Bufs) (hc0 : ¬first i) (hc1 : ¬final i) (x : Blocks F) (p : Outs F) :
    ∀ y, ∃ pc ∈ (runB c i b hc0 hc1 x p).2.2.2.1, y ∈ pc.1.set :=
  fun y => View.cover_of_tiledL (runB c i b hc0 hc1 x p).2.2.2.1 S512x1024.size (by sl_kernel_rfl) y

/-- At a middle point the pieces of the third running sum cover it. -/
theorem coverB23 (c : Dev nD) (i : grid0.Coords) (b : Bufs) (hc0 : ¬first i) (hc1 : ¬final i) (x : Blocks F) (p : Outs F) :
    ∀ y, ∃ pc ∈ (runB c i b hc0 hc1 x p).2.2.2.2.1, y ∈ pc.1.set :=
  fun y => View.cover_of_tiledL (runB c i b hc0 hc1 x p).2.2.2.2.1 S128x1024.size (by sl_kernel_rfl) y

/-- What a middle point leaves in the six buffers the body writes; the lead rows' block stays as it was. -/
def outB (c : Dev nD) (i : grid0.Coords) (b : Bufs) (hc0 : ¬first i) (hc1 : ¬final i) (x : Blocks F) (p : Outs F) : Outs F :=
  (View.canon (runB c i b hc0 hc1 x p).1, p.2.1, View.canon (runB c i b hc0 hc1 x p).2.1, View.canon (runB c i b hc0 hc1 x p).2.2.1, View.canon (runB c i b hc0 hc1 x p).2.2.2.1, View.canon (runB c i b hc0 hc1 x p).2.2.2.2.1)

theorem outB_15 (c : Dev nD) (i : grid0.Coords) (b : Bufs) (hc0 : ¬first i) (hc1 : ¬final i) (x : Blocks F) (p : Outs F) : (outB c i b hc0 hc1 x p).1 = View.canon (runB c i b hc0 hc1 x p).1 := by unfold outB; dsimp only
theorem outB_17 (c : Dev nD) (i : grid0.Coords) (b : Bufs) (hc0 : ¬first i) (hc1 : ¬final i) (x : Blocks F) (p : Outs F) : (outB c i b hc0 hc1 x p).2.2.1 = View.canon (runB c i b hc0 hc1 x p).2.1 := by unfold outB; dsimp only
theorem outB_21 (c : Dev nD) (i : grid0.Coords) (b : Bufs) (hc0 : ¬first i) (hc1 : ¬final i) (x : Blocks F) (p : Outs F) : (outB c i b hc0 hc1 x p).2.2.2.1 = View.canon (runB c i b hc0 hc1 x p).2.2.1 := by unfold outB; dsimp only
theorem outB_22 (c : Dev nD) (i : grid0.Coords) (b : Bufs) (hc0 : ¬first i) (hc1 : ¬final i) (x : Blocks F) (p : Outs F) : (outB c i b hc0 hc1 x p).2.2.2.2.1 = View.canon (runB c i b hc0 hc1 x p).2.2.2.1 := by unfold outB; dsimp only
theorem outB_23 (c : Dev nD) (i : grid0.Coords) (b : Bufs) (hc0 : ¬first i) (hc1 : ¬final i) (x : Blocks F) (p : Outs F) : (outB c i b hc0 hc1 x p).2.2.2.2.2 = View.canon (runB c i b hc0 hc1 x p).2.2.2.2.1 := by unfold outB; dsimp only

set_option maxHeartbeats 2000000 in
/-- The body's triple at a middle point. -/
theorem soundB (c : Dev nD) (i : grid0.Coords) (b : Bufs) (hc0 : ¬first i) (hc1 : ¬final i) (x : Blocks F) (p : Outs F) (W : Waits sig Unit) (K : PUnit → sProp 𝕄) :
    iprop(ins c b x ∗ (∃ d, owns (c : Thread nD τ) b.a15 fullShare d) ∗ owns (c : Thread nD τ) b.a17 fullShare p.2.2.1 ∗ owns (c : Thread nD τ) b.a21 fullShare p.2.2.2.1 ∗ owns (c : Thread nD τ) b.a22 fullShare p.2.2.2.2.1 ∗ owns (c : Thread nD τ) b.a23 fullShare p.2.2.2.2.2 ∗ owes (c : Thread nD τ) 0 W
        ∗ (iprop(ins c b x ∗ owns (c : Thread nD τ) b.a15 fullShare (outB c i b hc0 hc1 x p).1 ∗ owns (c : Thread nD τ) b.a17 fullShare (outB c i b hc0 hc1 x p).2.2.1 ∗ owns (c : Thread nD τ) b.a21 fullShare (outB c i b hc0 hc1 x p).2.2.2.1 ∗ owns (c : Thread nD τ) b.a22 fullShare (outB c i b hc0 hc1 x p).2.2.2.2.1 ∗ owns (c : Thread nD τ) b.a23 fullShare (outB c i b hc0 hc1 x p).2.2.2.2.2 ∗ (∃ W', owes (c : Thread nD τ) 0 W')) -∗ K ⟨⟩))
      ⊢ wp frame (wpE (defs₀ (F := F)) Variants.none c none) Set.univ (bodyOf i b) K := by
  iintro ⟨Hin, H15, H17, H21, H22, H23, HW, Hk⟩
  iapply ((runB c i b hc0 hc1 x p).2.2.2.2.2 W K)
  isplitl [Hin]; · iexact Hin
  isplitl [H15]; · iexact H15
  isplitl [H17]; · iexact H17
  isplitl [H21]; · iexact H21
  isplitl [H22]; · iexact H22
  isplitl [H23]; · iexact H23
  isplitl [HW]; · iexact HW
  iintro ⟨Hin, ⟨%e15, H15⟩, ⟨%e17, H17⟩, ⟨%e21, H21⟩, ⟨%e22, H22⟩, ⟨%e23, H23⟩, HW⟩
  iapply Hk
  isplitl [Hin]; · iexact Hin
  isplitl [H15]
  · unfold owns; iexists _; isplitr
    swap; · iexact H15
    ipureintro; rw [outB_15]; exact View.read_writes_eq_canon _ _ _ (coverB15 c i b hc0 hc1 x p)
  isplitl [H17]
  · unfold owns; iexists _; isplitr
    swap; · iexact H17
    ipureintro; rw [outB_17]; exact View.read_writes_eq_canon _ _ _ (coverB17 c i b hc0 hc1 x p)
  isplitl [H21]
  · unfold owns; iexists _; isplitr
    swap; · iexact H21
    ipureintro; rw [outB_21]; exact View.read_writes_eq_canon _ _ _ (coverB21 c i b hc0 hc1 x p)
  isplitl [H22]
  · unfold owns; iexists _; isplitr
    swap; · iexact H22
    ipureintro; rw [outB_22]; exact View.read_writes_eq_canon _ _ _ (coverB22 c i b hc0 hc1 x p)
  isplitl [H23]
  · unfold owns; iexists _; isplitr
    swap; · iexact H23
    ipureintro; rw [outB_23]; exact View.read_writes_eq_canon _ _ _ (coverB23 c i b hc0 hc1 x p)
  iexact HW

/-- At the last point the pieces of the block of `dx` cover it. -/
theorem coverC15 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) :
    ∀ y, ∃ pc ∈ (runC c i b hc0 hc1 x p g0 g1 g2).1, y ∈ pc.1.set :=
  fun y => View.cover_of_tiledL (runC c i b hc0 hc1 x p g0 g1 g2).1 S512x1024.size (by sl_kernel_rfl) y

/-- At the last point the pieces of the gradient of the norm's weights cover it. -/
theorem coverC17 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) :
    ∀ y, ∃ pc ∈ (runC c i b hc0 hc1 x p g0 g1 g2).2.1, y ∈ pc.1.set :=
  fun y => View.cover_of_tiledL (runC c i b hc0 hc1 x p g0 g1 g2).2.1 S1x1024.size (by sl_kernel_rfl) y

/-- At the last point the pieces of the first running sum cover it. -/
theorem coverC21 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) :
    ∀ y, ∃ pc ∈ (runC c i b hc0 hc1 x p g0 g1 g2).2.2.1, y ∈ pc.1.set :=
  fun y => View.cover_of_tiledL (runC c i b hc0 hc1 x p g0 g1 g2).2.2.1 S512x1024.size (by sl_kernel_rfl) y

/-- At the last point the pieces of the second running sum cover it. -/
theorem coverC22 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) :
    ∀ y, ∃ pc ∈ (runC c i b hc0 hc1 x p g0 g1 g2).2.2.2.1, y ∈ pc.1.set :=
  fun y => View.cover_of_tiledL (runC c i b hc0 hc1 x p g0 g1 g2).2.2.2.1 S512x1024.size (by sl_kernel_rfl) y

/-- At the last point the pieces of the third running sum cover it. -/
theorem coverC23 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) :
    ∀ y, ∃ pc ∈ (runC c i b hc0 hc1 x p g0 g1 g2).2.2.2.2.1, y ∈ pc.1.set :=
  fun y => View.cover_of_tiledL (runC c i b hc0 hc1 x p g0 g1 g2).2.2.2.2.1 S128x1024.size (by sl_kernel_rfl) y

/-- What the last point leaves in the six buffers the body writes; the lead rows' block stays as it was. -/
def outC (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) : Outs F :=
  (View.canon (runC c i b hc0 hc1 x p g0 g1 g2).1, p.2.1, View.canon (runC c i b hc0 hc1 x p g0 g1 g2).2.1, View.canon (runC c i b hc0 hc1 x p g0 g1 g2).2.2.1, View.canon (runC c i b hc0 hc1 x p g0 g1 g2).2.2.2.1, View.canon (runC c i b hc0 hc1 x p g0 g1 g2).2.2.2.2.1)

theorem outC_15 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) : (outC c i b hc0 hc1 x p g0 g1 g2).1 = View.canon (runC c i b hc0 hc1 x p g0 g1 g2).1 := by unfold outC; dsimp only
theorem outC_17 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) : (outC c i b hc0 hc1 x p g0 g1 g2).2.2.1 = View.canon (runC c i b hc0 hc1 x p g0 g1 g2).2.1 := by unfold outC; dsimp only
theorem outC_21 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) : (outC c i b hc0 hc1 x p g0 g1 g2).2.2.2.1 = View.canon (runC c i b hc0 hc1 x p g0 g1 g2).2.2.1 := by unfold outC; dsimp only
theorem outC_22 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) : (outC c i b hc0 hc1 x p g0 g1 g2).2.2.2.2.1 = View.canon (runC c i b hc0 hc1 x p g0 g1 g2).2.2.2.1 := by unfold outC; dsimp only
theorem outC_23 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) : (outC c i b hc0 hc1 x p g0 g1 g2).2.2.2.2.2 = View.canon (runC c i b hc0 hc1 x p g0 g1 g2).2.2.2.2.1 := by unfold outC; dsimp only

/-- What the last point's copies leave in result 0 of the three. -/
def copy0 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) : HbBuf (F := F) c hb0 :=
  (runC c i b hc0 hc1 x p g0 g1 g2).2.2.2.2.2.1

/-- What the last point's copies leave in result 1 of the three. -/
def copy1 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) : HbBuf (F := F) c hb1 :=
  (runC c i b hc0 hc1 x p g0 g1 g2).2.2.2.2.2.2.1

/-- What the last point's copies leave in result 2 of the three. -/
def copy2 (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) : HbBuf (F := F) c hb2 :=
  (runC c i b hc0 hc1 x p g0 g1 g2).2.2.2.2.2.2.2.1

set_option maxHeartbeats 2000000 in
/-- The body's triple at the last point. -/
theorem soundC (c : Dev nD) (i : grid0.Coords) (b : Bufs) (hc0 : ¬first i) (hc1 : final i) (x : Blocks F) (p : Outs F)
    (g0 : HbBuf (F := F) c hb0) (g1 : HbBuf (F := F) c hb1) (g2 : HbBuf (F := F) c hb2) (W : Waits sig Unit) (K : PUnit → sProp 𝕄) :
    iprop(ins c b x ∗ (∃ d, owns (c : Thread nD τ) b.a15 fullShare d) ∗ owns (c : Thread nD τ) b.a17 fullShare p.2.2.1 ∗ owns (c : Thread nD τ) b.a21 fullShare p.2.2.2.1 ∗ owns (c : Thread nD τ) b.a22 fullShare p.2.2.2.2.1 ∗ owns (c : Thread nD τ) b.a23 fullShare p.2.2.2.2.2 ∗ semVal ((c : Thread nD τ), SemLoc.dma 23) 0 ∗ semVal ((c : Thread nD τ), SemLoc.dma 24) 0 ∗ semVal ((c : Thread nD τ), SemLoc.dma 25) 0 ∗ hbPt c hb0 g0 ∗ hbPt c hb1 g1 ∗ hbPt c hb2 g2 ∗ owes (c : Thread nD τ) 0 W
        ∗ (iprop(ins c b x ∗ owns (c : Thread nD τ) b.a15 fullShare (outC c i b hc0 hc1 x p g0 g1 g2).1 ∗ owns (c : Thread nD τ) b.a17 fullShare (outC c i b hc0 hc1 x p g0 g1 g2).2.2.1 ∗ owns (c : Thread nD τ) b.a21 fullShare (outC c i b hc0 hc1 x p g0 g1 g2).2.2.2.1 ∗ owns (c : Thread nD τ) b.a22 fullShare (outC c i b hc0 hc1 x p g0 g1 g2).2.2.2.2.1 ∗ owns (c : Thread nD τ) b.a23 fullShare (outC c i b hc0 hc1 x p g0 g1 g2).2.2.2.2.2 ∗ semVal ((c : Thread nD τ), SemLoc.dma 23) 0 ∗ semVal ((c : Thread nD τ), SemLoc.dma 24) 0 ∗ semVal ((c : Thread nD τ), SemLoc.dma 25) 0 ∗ hbPt c hb0 (copy0 c i b hc0 hc1 x p g0 g1 g2) ∗ hbPt c hb1 (copy1 c i b hc0 hc1 x p g0 g1 g2) ∗ hbPt c hb2 (copy2 c i b hc0 hc1 x p g0 g1 g2) ∗ (∃ W', owes (c : Thread nD τ) 0 W')) -∗ K ⟨⟩))
      ⊢ wp frame (wpE (defs₀ (F := F)) Variants.none c none) Set.univ (bodyOf i b) K := by
  unfold copy0 copy1 copy2
  iintro ⟨Hin, H15, H17, H21, H22, H23, Hq0, Hq1, Hq2, Hh0, Hh1, Hh2, HW, Hk⟩
  iapply ((runC c i b hc0 hc1 x p g0 g1 g2).2.2.2.2.2.2.2.2 W K)
  isplitl [Hin]; · iexact Hin
  isplitl [H15]; · iexact H15
  isplitl [H17]; · iexact H17
  isplitl [H21]; · iexact H21
  isplitl [H22]; · iexact H22
  isplitl [H23]; · iexact H23
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨Hin, ⟨%e15, H15⟩, ⟨%e17, H17⟩, ⟨%e21, H21⟩, ⟨%e22, H22⟩, ⟨%e23, H23⟩, Hq0, Hq1, Hq2, Hh0, Hh1, Hh2, HW⟩
  iapply Hk
  isplitl [Hin]; · iexact Hin
  isplitl [H15]
  · unfold owns; iexists _; isplitr
    swap; · iexact H15
    ipureintro; rw [outC_15]; exact View.read_writes_eq_canon _ _ _ (coverC15 c i b hc0 hc1 x p g0 g1 g2)
  isplitl [H17]
  · unfold owns; iexists _; isplitr
    swap; · iexact H17
    ipureintro; rw [outC_17]; exact View.read_writes_eq_canon _ _ _ (coverC17 c i b hc0 hc1 x p g0 g1 g2)
  isplitl [H21]
  · unfold owns; iexists _; isplitr
    swap; · iexact H21
    ipureintro; rw [outC_21]; exact View.read_writes_eq_canon _ _ _ (coverC21 c i b hc0 hc1 x p g0 g1 g2)
  isplitl [H22]
  · unfold owns; iexists _; isplitr
    swap; · iexact H22
    ipureintro; rw [outC_22]; exact View.read_writes_eq_canon _ _ _ (coverC22 c i b hc0 hc1 x p g0 g1 g2)
  isplitl [H23]
  · unfold owns; iexists _; isplitr
    swap; · iexact H23
    ipureintro; rw [outC_23]; exact View.read_writes_eq_canon _ _ _ (coverC23 c i b hc0 hc1 x p g0 g1 g2)
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  iexact HW

end Cert.Back
-- ==== Proof.BackDat.lean ====
/-
  The input projection's backward over the grid: what its buffers hold after every point, and the obligation the
  pipeline asks of the body.
-/
module

public import proofs.«01_k».proof.Proof.BackOut
public import Idealize.ShloMosaic.Lib.Pipeline.TableIdle

@[expose] public section

-- memberships in rectangles over long axes are looked at coordinate by coordinate
set_option maxRecDepth 16384

noncomputable section

namespace Cert.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] outA outB outC runA runB runC View.canon copy0 copy1 copy2

variable (m : (ℓ : Loc nD τ sig) → Buf (Elt F) ℓ) (ρ : Dev nD → PrngReg)

set_option maxHeartbeats 800000 in
/-- The host operations, then the pipeline. -/
theorem toRegion (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input 0's buffer holds its block at every point, for any proof data that leaves it there. -/
theorem found0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's buffer holds its block at every point, for any proof data that leaves it there. -/
theorem found1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's buffer holds its block at every point, for any proof data that leaves it there. -/
theorem found2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's buffer holds its block at every point, for any proof data that leaves it there. -/
theorem found3 {c : Dev nD} (dat : Dat τ (Elt F) Unit ℕ (Pipeline.UD sig nD τ) ℕ cfg0 c) (hA : dat.A 3 = V m c (Pipeline.arrRef spec0 3))
    (hafter : ∀ t, dat.after 3 t = X0_3 m c t) (t : Fin cfg0.N) (d) : dat.before 3 t d = X0_3 m c t :=
  (dat.before_in_eq_fetched 3 rfl (fun _ => rfl)
      (fun t t' h => funext fun a => congrArg (fun n => Pipeline.Clip.of n ((cfg0.win 3).size a) (S4224x1024.size a)) (congrFun h a)) (fun t => by rw [hafter]; unfold X0_3; rw [Pipeline.Window.cut_fill]; unfold Dat.blockOf iblk; rw [hA]; try rfl) t d).trans
    (by unfold Dat.fetched X0_3; rw [fill0_3 t d dflt0_3]; unfold Dat.blockOf iblk; rw [hA]; try rfl)
/-- Input 4's buffer holds its block at every point, for any proof data that leaves it there. -/
theorem found4 {c : Dev nD} (dat : Dat τ (Elt F) Unit ℕ (Pipeline.UD sig nD τ) ℕ cfg0 c) (hA : dat.A 4 = V m c (Pipeline.arrRef spec0 4))
    (hafter : ∀ t, dat.after 4 t = X0_4 m c t) (t : Fin cfg0.N) (d) : dat.before 4 t d = X0_4 m c t :=
  (dat.before_in_eq_fetched 4 rfl (fun _ => rfl)
      (fun t t' h => funext fun a => congrArg (fun n => Pipeline.Clip.of n ((cfg0.win 4).size a) (S4224x1024.size a)) (congrFun h a)) (fun t => by rw [hafter]; unfold X0_4; rw [Pipeline.Window.cut_fill]; unfold Dat.blockOf iblk; rw [hA]; try rfl) t d).trans
    (by unfold Dat.fetched X0_4; rw [fill0_4 t d dflt0_4]; unfold Dat.blockOf iblk; rw [hA]; try rfl)
/-- Input 5's buffer holds its block at every point, for any proof data that leaves it there. -/
theorem found5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's buffer holds its block at every point, for any proof data that leaves it there. -/
theorem found6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's buffer holds its block at every point, for any proof data that leaves it there. -/
theorem found7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8's buffer holds its block at every point, for any proof data that leaves it there. -/
theorem found8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input 9's buffer holds its block at every point, for any proof data that leaves it there. -/
theorem found9 {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input 10's buffer holds its block at every point, for any proof data that leaves it there. -/
theorem found10 {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input 11's buffer holds its block at every point, for any proof data that leaves it there. -/
theorem found11 {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input 12's buffer holds its block at every point, for any proof data that leaves it there. -/
theorem found12 {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input 13's buffer holds its block at every point, for any proof data that leaves it there. -/
theorem found13 {c : Dev nD} (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- The buffers the body is called with at point `t`. -/
def bufs (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a21 := Memref.whole cc0_scratch0
  h21 := Memref.isWhole_whole _
  a22 := Memref.whole cc0_scratch1
  h22 := Memref.isWhole_whole _
  a23 := Memref.whole cc0_scratch2
  h23 := Memref.isWhole_whole _

/-- The blocks the inputs hold at point `t`. -/
def blks (c : Dev nD) (t : Fin cfg0.N) : Blocks F where
  x0 := iblk m c 0 t
  x1 := iblk m c 1 t
  x2 := iblk m c 2 t
  x3 := X0_3 m c t
  x4 := X0_4 m c t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t

/-- The six buffers the body writes, after each point: the first point sets them, every later one goes on from the one
    before. -/
def outsAt (c : Dev nD) : (n : ℕ) → n < cfg0.N → Outs F
  | 0, hn => outA c (grid0.coords ⟨0, hn⟩) (bufs ⟨0, hn⟩) ((first_iff ⟨0, hn⟩).mpr rfl)
      (fun h => absurd ((final_iff ⟨0, hn⟩).mp h) (by simp)) (blks m c ⟨0, hn⟩)
  | n + 1, hn =>
    if h : n + 1 = 7 then
      outC c (grid0.coords ⟨n + 1, hn⟩) (bufs ⟨n + 1, hn⟩) (fun h => absurd ((first_iff ⟨n + 1, hn⟩).mp h) (Nat.succ_ne_zero n))
        ((final_iff ⟨n + 1, hn⟩).mpr h) (blks m c ⟨n + 1, hn⟩) (outsAt c n (Nat.lt_of_succ_lt hn))
        (V m c main_v13_3) (V m c main_v13_4) (V m c main_v13_5)
    else
      outB c (grid0.coords ⟨n + 1, hn⟩) (bufs ⟨n + 1, hn⟩) (fun h => absurd ((first_iff ⟨n + 1, hn⟩).mp h) (Nat.succ_ne_zero n))
        (fun h' => h ((final_iff ⟨n + 1, hn⟩).mp h')) (blks m c ⟨n + 1, hn⟩) (outsAt c n (Nat.lt_of_succ_lt hn))

/-- The point before a later one is a point. -/
theorem pred_lt (t : Fin cfg0.N) : t.val - 1 < cfg0.N := Nat.lt_of_le_of_lt (Nat.sub_le _ _) t.isLt

theorem outsAt_A (c : Dev nD) (t : Fin cfg0.N) (h0 : t.val = 0) :
    outsAt m c t.val t.isLt = outA c (grid0.coords t) (bufs t) ((first_iff t).mpr h0)
      (fun h => absurd ((final_iff t).mp h) (by omega)) (blks m c t) := by
  obtain ⟨n, hn⟩ := t
  cases n with
  | zero => rfl
  | succ n => exact absurd h0 (Nat.succ_ne_zero n)

theorem outsAt_B (c : Dev nD) (t : Fin cfg0.N) (h0 : t.val ≠ 0) (h7 : t.val ≠ 7) :
    outsAt m c t.val t.isLt = outB c (grid0.coords t) (bufs t) (fun h => h0 ((first_iff t).mp h))
      (fun h => h7 ((final_iff t).mp h)) (blks m c t) (outsAt m c (t.val - 1) (pred_lt t)) := by
  obtain ⟨n, hn⟩ := t
  cases n with
  | zero => exact absurd rfl h0
  | succ n => simp only [outsAt]; exact dif_neg h7

theorem outsAt_C (c : Dev nD) (t : Fin cfg0.N) (h0 : t.val ≠ 0) (h7 : t.val = 7) :
    outsAt m c t.val t.isLt = outC c (grid0.coords t) (bufs t) (fun h => h0 ((first_iff t).mp h))
      ((final_iff t).mpr h7) (blks m c t) (outsAt m c (t.val - 1) (pred_lt t))
      (V m c main_v13_3) (V m c main_v13_4) (V m c main_v13_5) := by
  obtain ⟨n, hn⟩ := t
  cases n with
  | zero => exact absurd rfl h0
  | succ n => simp only [outsAt]; exact dif_pos h7

/-- The lead rows' block is carried. -/
theorem outsAt_carry (c : Dev nD) (t : Fin cfg0.N) (h0 : t.val ≠ 0) :
    (outsAt m c t.val t.isLt).2.1 = (outsAt m c (t.val - 1) (pred_lt t)).2.1 := by
  by_cases h7 : t.val = 7
  · rw [outsAt_C m c t h0 h7]; unfold outC; dsimp only
  · rw [outsAt_B m c t h0 h7]; unfold outB; dsimp only

/-- The last point. -/
def last : Fin cfg0.N := ⟨7, by rw [show cfg0.N = 8 from N_0]; decide⟩

/-- What the copies of the last point leave in result 0 of the three. -/
def copied0 (c : Dev nD) (t : Fin cfg0.N) (h0 : t.val ≠ 0) (h7 : t.val = 7) : HbBuf (F := F) c hb0 :=
  copy0 c (grid0.coords t) (bufs t) (fun h => h0 ((first_iff t).mp h)) ((final_iff t).mpr h7) (blks m c t)
    (outsAt m c (t.val - 1) (pred_lt t)) (V m c main_v13_3) (V m c main_v13_4) (V m c main_v13_5)
def left0 (c : Dev nD) : HbBuf (F := F) c hb0 := copied0 m c last (by decide) rfl
theorem left0_at (c : Dev nD) (t : Fin cfg0.N) (h0 : t.val ≠ 0) (h7 : t.val = 7) : left0 m c = copied0 m c t h0 h7 := by
  have e : t = last := Fin.ext h7
  subst e
  unfold left0; rfl

/-- What the copies of the last point leave in result 1 of the three. -/
def copied1 (c : Dev nD) (t : Fin cfg0.N) (h0 : t.val ≠ 0) (h7 : t.val = 7) : HbBuf (F := F) c hb1 :=
  copy1 c (grid0.coords t) (bufs t) (fun h => h0 ((first_iff t).mp h)) ((final_iff t).mpr h7) (blks m c t)
    (outsAt m c (t.val - 1) (pred_lt t)) (V m c main_v13_3) (V m c main_v13_4) (V m c main_v13_5)
def left1 (c : Dev nD) : HbBuf (F := F) c hb1 := copied1 m c last (by decide) rfl
theorem left1_at (c : Dev nD) (t : Fin cfg0.N) (h0 : t.val ≠ 0) (h7 : t.val = 7) : left1 m c = copied1 m c t h0 h7 := by
  have e : t = last := Fin.ext h7
  subst e
  unfold left1; rfl

/-- What the copies of the last point leave in result 2 of the three. -/
def copied2 (c : Dev nD) (t : Fin cfg0.N) (h0 : t.val ≠ 0) (h7 : t.val = 7) : HbBuf (F := F) c hb2 :=
  copy2 c (grid0.coords t) (bufs t) (fun h => h0 ((first_iff t).mp h)) ((final_iff t).mpr h7) (blks m c t)
    (outsAt m c (t.val - 1) (pred_lt t)) (V m c main_v13_3) (V m c main_v13_4) (V m c main_v13_5)
def left2 (c : Dev nD) : HbBuf (F := F) c hb2 := copied2 m c last (by decide) rfl
theorem left2_at (c : Dev nD) (t : Fin cfg0.N) (h0 : t.val ≠ 0) (h7 : t.val = 7) : left2 m c = copied2 m c t h0 h7 := by
  have e : t = last := Fin.ext h7
  subst e
  unfold left2; rfl

/-- The kernel's own cells. -/
abbrev cells : Fin 3 → SemLoc sig := fun j => (![SemLoc.dma 23, SemLoc.dma 24, SemLoc.dma 25] : Fin 3 → SemLoc sig) j
theorem cellFacts : Pipeline.OwnSemFacts spec0 cells := by decide

/-- The cells at zero. -/
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 23) 0 ∗ semVal ((c : Thread nD τ), SemLoc.dma 24) 0 ∗ semVal ((c : Thread nD τ), SemLoc.dma 25) 0) := by
  rw [Pipeline.ownSems0_eq_of_list c cells [0, 1, 2] (by decide) (by decide)]; rfl

/-- The results the body writes by copies, and (none) the operands it reads so. -/
def written : Finset (Ref sig .tc) := {main_v13_3, main_v13_4, main_v13_5}
def readOnly : Finset (Ref sig .tc) := {}
theorem readOnly_sub : readOnly ⊆ Pipeline.restRefs sig spec0 := by decide
theorem written_sub : written ⊆ Pipeline.restRefs sig spec0 \ readOnly := by decide

theorem readOnly_eq (c : Dev nD) :
    (bigSep readOnly (fun b => ((c : Thread nD τ).loc b) ↦{fullShare} V m c b) : sProp 𝕄) = iprop(emp) := by
  rw [BI.bigSep_eq_bigSepL_of_eq [] (by decide) (by decide)]; rfl

/-- The three results held, listed. -/
theorem written_eq (c : Dev nD) (W : (b : Ref sig .tc) → Buf (Elt F) ((c.tc : Thread nD τ).loc b)) :
    (Pipeline.routed written c W : sProp 𝕄) = iprop(hbPt c hb0 (W main_v13_3) ∗ hbPt c hb1 (W main_v13_4) ∗ hbPt c hb2 (W main_v13_5)) := by
  unfold Pipeline.routed; rw [BI.bigSep_eq_bigSepL_of_eq [main_v13_3, main_v13_4, main_v13_5] (by decide) (by decide)]; rfl

/-- What the whole launch leaves: the three results at what the copies left, all else as launched. -/
def leaves (c : Dev nD) (b : Ref sig .tc) : Buf (Elt F) ((c.tc : Thread nD τ).loc b) :=
  Function.update (Function.update (Function.update (V m c) main_v13_3 (left0 m c)) main_v13_4 (left1 m c)) main_v13_5 (left2 m c) b

theorem leaves_0 (c : Dev nD) : leaves m c main_v13_3 = left0 m c := by
  unfold leaves; rw [Function.update_of_ne (by decide), Function.update_of_ne (by decide), Function.update_self]
theorem leaves_1 (c : Dev nD) : leaves m c main_v13_4 = left1 m c := by
  unfold leaves; rw [Function.update_of_ne (by decide), Function.update_self]
theorem leaves_2 (c : Dev nD) : leaves m c main_v13_5 = left2 m c := by
  unfold leaves; rw [Function.update_self]

/-- The running sums at any contents, with the register, the cells at zero and the three results. -/
theorem start_eq (c : Dev nD) (W : (c : Dev nD) → (b : Ref sig .tc) → Buf (Elt F) ((c.tc : Thread nD τ).loc b)) :
    (Pipeline.ΦDRG cells spec0 readOnly written (V m) W c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d))
          ∗ (∃ r, prngReg c r)
          ∗ (semVal ((c : Thread nD τ), SemLoc.dma 23) 0 ∗ semVal ((c : Thread nD τ), SemLoc.dma 24) 0 ∗ semVal ((c : Thread nD τ), SemLoc.dma 25) 0)
          ∗ emp ∗ (hbPt c hb0 (W c main_v13_3) ∗ hbPt c hb1 (W c main_v13_4) ∗ hbPt c hb2 (W c main_v13_5))) := by
  rw [Pipeline.ΦDRG_eq, scopedRest0_eq, cells_eq, readOnly_eq, written_eq]; simp only [owns_whole]; try rfl

/-- What the three results hold once `n` points have run. -/
def heldAt (c : Dev nD) (n : ℕ) : sProp 𝕄 :=
  if n = 8 then iprop(hbPt c hb0 (left0 m c) ∗ hbPt c hb1 (left1 m c) ∗ hbPt c hb2 (left2 m c))
  else iprop(hbPt c hb0 (V m c main_v13_3) ∗ hbPt c hb1 (V m c main_v13_4) ∗ hbPt c hb2 (V m c main_v13_5))

/-- The invariant after `n` points. -/
def invAt (c : Dev nD) : (n : ℕ) → n ≤ cfg0.N → sProp 𝕄
  | 0, _ => Pipeline.ΦDRG cells spec0 readOnly written (V m) (V m) c
  | n + 1, hn => iprop((owns (c : Thread nD τ) (bufs ⟨n, hn⟩).a21 fullShare (outsAt m c n hn).2.2.2.1
        ∗ owns (c : Thread nD τ) (bufs ⟨n, hn⟩).a22 fullShare (outsAt m c n hn).2.2.2.2.1
        ∗ owns (c : Thread nD τ) (bufs ⟨n, hn⟩).a23 fullShare (outsAt m c n hn).2.2.2.2.2)
      ∗ (∃ r, prngReg c r)
      ∗ (semVal ((c : Thread nD τ), SemLoc.dma 23) 0 ∗ semVal ((c : Thread nD τ), SemLoc.dma 24) 0 ∗ semVal ((c : Thread nD τ), SemLoc.dma 25) 0)
      ∗ heldAt m c (n + 1))

theorem invAt_zero (c : Dev nD) (n : ℕ) (h : n ≤ cfg0.N) (hz : n = 0) :
    invAt m c n h = Pipeline.ΦDRG cells spec0 readOnly written (V m) (V m) c := by
  subst hz; rfl

theorem invAt_pos (c : Dev nD) (t : Fin cfg0.N) (hz : t.val ≠ 0) :
    invAt m c t.val (Nat.le_of_lt t.isLt) = iprop((owns (c : Thread nD τ) (bufs t).a21 fullShare (outsAt m c (t.val - 1) (pred_lt t)).2.2.2.1
        ∗ owns (c : Thread nD τ) (bufs t).a22 fullShare (outsAt m c (t.val - 1) (pred_lt t)).2.2.2.2.1
        ∗ owns (c : Thread nD τ) (bufs t).a23 fullShare (outsAt m c (t.val - 1) (pred_lt t)).2.2.2.2.2)
      ∗ (∃ r, prngReg c r)
      ∗ (semVal ((c : Thread nD τ), SemLoc.dma 23) 0 ∗ semVal ((c : Thread nD τ), SemLoc.dma 24) 0 ∗ semVal ((c : Thread nD τ), SemLoc.dma 25) 0)
      ∗ (hbPt c hb0 (V m c main_v13_3) ∗ hbPt c hb1 (V m c main_v13_4) ∗ hbPt c hb2 (V m c main_v13_5))) := by
  have hN : t.val < 8 := lt_of_lt_of_eq t.isLt (show cfg0.N = 8 from N_0)
  obtain ⟨n, hn⟩ := t
  cases n with
  | zero => exact absurd rfl hz
  | succ n =>
    have e : heldAt m c (n + 1) = iprop(hbPt c hb0 (V m c main_v13_3) ∗ hbPt c hb1 (V m c main_v13_4) ∗ hbPt c hb2 (V m c main_v13_5)) :=
      if_neg (by dsimp only at hN; omega)
    rw [← e]; rfl

theorem invAt_succ (c : Dev nD) (t : Fin cfg0.N) :
    invAt m c (t.val + 1) t.isLt = iprop((owns (c : Thread nD τ) (bufs t).a21 fullShare (outsAt m c t.val t.isLt).2.2.2.1
        ∗ owns (c : Thread nD τ) (bufs t).a22 fullShare (outsAt m c t.val t.isLt).2.2.2.2.1
        ∗ owns (c : Thread nD τ) (bufs t).a23 fullShare (outsAt m c t.val t.isLt).2.2.2.2.2)
      ∗ (∃ r, prngReg c r)
      ∗ (semVal ((c : Thread nD τ), SemLoc.dma 23) 0 ∗ semVal ((c : Thread nD τ), SemLoc.dma 24) 0 ∗ semVal ((c : Thread nD τ), SemLoc.dma 25) 0)
      ∗ heldAt m c (t.val + 1)) := rfl

/-- The proof data of the pipeline: the arrays as launched, the inputs' buffers at their blocks, the outputs' at
    `outsAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt m c t.val t.isLt).1
    | ⟨15, _⟩ => (outsAt m c t.val t.isLt).2.1
    | ⟨16, _⟩ => (outsAt m c t.val t.isLt).2.2.1
    | ⟨_ + 17, h⟩ => absurd h (Nat.not_lt.2 (Nat.le_add_left _ _))
  Φ t := invAt m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = invAt m c t.val (Nat.le_of_lt t.isLt) := by
  dsimp only [dats]; exact Pipeline.Dat.Φ_castSucc (invAt m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = (outsAt m c t.val t.isLt).1 := by dsimp only [dats]
theorem after_15 (c : Dev nD) (t : Fin cfg0.N) : (dats m 0 c).after 15 t = (outsAt m c t.val t.isLt).2.1 := by dsimp only [dats]
theorem after_16 (c : Dev nD) (t : Fin cfg0.N) : (dats m 0 c).after 16 t = (outsAt m c t.val t.isLt).2.2.1 := by dsimp only [dats]
theorem before_0 (c : Dev nD) (t : Fin cfg0.N) (d) : (dats m 0 c).before 0 t d = iblk m c 0 t :=
  found0 m (dats m 0 c) (A_eq m c 0) (after_0 m c) t d
theorem before_1 (c : Dev nD) (t : Fin cfg0.N) (d) : (dats m 0 c).before 1 t d = iblk m c 1 t :=
  found1 m (dats m 0 c) (A_eq m c 1) (after_1 m c) t d
theorem before_2 (c : Dev nD) (t : Fin cfg0.N) (d) : (dats m 0 c).before 2 t d = iblk m c 2 t :=
  found2 m (dats m 0 c) (A_eq m c 2) (after_2 m c) t d
theorem before_3 (c : Dev nD) (t : Fin cfg0.N) (d) : (dats m 0 c).before 3 t d = X0_3 m c t :=
  found3 m (dats m 0 c) (A_eq m c 3) (after_3 m c) t d
theorem before_4 (c : Dev nD) (t : Fin cfg0.N) (d) : (dats m 0 c).before 4 t d = X0_4 m c t :=
  found4 m (dats m 0 c) (A_eq m c 4) (after_4 m c) t d
theorem before_5 (c : Dev nD) (t : Fin cfg0.N) (d) : (dats m 0 c).before 5 t d = iblk m c 5 t :=
  found5 m (dats m 0 c) (A_eq m c 5) (after_5 m c) t d
theorem before_6 (c : Dev nD) (t : Fin cfg0.N) (d) : (dats m 0 c).before 6 t d = iblk m c 6 t :=
  found6 m (dats m 0 c) (A_eq m c 6) (after_6 m c) t d
theorem before_7 (c : Dev nD) (t : Fin cfg0.N) (d) : (dats m 0 c).before 7 t d = iblk m c 7 t :=
  found7 m (dats m 0 c) (A_eq m c 7) (after_7 m c) t d
theorem before_8 (c : Dev nD) (t : Fin cfg0.N) (d) : (dats m 0 c).before 8 t d = iblk m c 8 t :=
  found8 m (dats m 0 c) (A_eq m c 8) (after_8 m c) t d
theorem before_9 (c : Dev nD) (t : Fin cfg0.N) (d) : (dats m 0 c).before 9 t d = iblk m c 9 t :=
  found9 m (dats m 0 c) (A_eq m c 9) (after_9 m c) t d
theorem before_10 (c : Dev nD) (t : Fin cfg0.N) (d) : (dats m 0 c).before 10 t d = iblk m c 10 t :=
  found10 m (dats m 0 c) (A_eq m c 10) (after_10 m c) t d
theorem before_11 (c : Dev nD) (t : Fin cfg0.N) (d) : (dats m 0 c).before 11 t d = iblk m c 11 t :=
  found11 m (dats m 0 c) (A_eq m c 11) (after_11 m c) t d
theorem before_12 (c : Dev nD) (t : Fin cfg0.N) (d) : (dats m 0 c).before 12 t d = iblk m c 12 t :=
  found12 m (dats m 0 c) (A_eq m c 12) (after_12 m c) t d
theorem before_13 (c : Dev nD) (t : Fin cfg0.N) (d) : (dats m 0 c).before 13 t d = iblk m c 13 t :=
  found13 m (dats m 0 c) (A_eq m c 13) (after_13 m c) t d

/-- At a later point the weights' gradient is what the point before left. -/
theorem before_16 (c : Dev nD) (t : Fin cfg0.N) (h0 : t.val ≠ 0) (d) :
    (dats m 0 c).before 16 t d = (outsAt m c (t.val - 1) (pred_lt t)).2.2.1 := by
  have hN : t.val < 8 := lt_of_lt_of_eq t.isLt (show cfg0.N = 8 from N_0)
  rw [Dat.before_out_kept _ 16 rfl t h0 (Bool.eq_false_iff.mpr fun h => by have := (flush0_16 _).mp h; dsimp only at this; omega)
    (fun _ => rfl) (fun _ _ => rfl)]
  dsimp only [dats]

/-- The lead rows' block is stored at the first point only. -/
theorem fresh_15 : ∀ t : Fin cfg0.N, t.val ≠ 0 → cfg0.fresh 15 t.val = false := by decide +kernel

/-- At a later point the lead rows' block is what the point before left. -/
theorem before_15 (c : Dev nD) (t : Fin cfg0.N) (h0 : t.val ≠ 0) (d) :
    (dats m 0 c).before 15 t d = (outsAt m c (t.val - 1) (pred_lt t)).2.1 := by
  rw [Dat.before_out_traj (dats m 0 c) 15 rfl (fun _ _ => rfl)
    (fun t h0 _ _ => by rw [after_15, after_15]; exact outsAt_carry m c t h0) t.val t rfl d, fresh_15 t h0]
  exact after_15 m c _

end Cert.Back
-- ==== Proof.BackStep.lean ====
/-
  What one grid point of the input projection's backward leaves in the six buffers its body writes, entry by entry, from
  the blocks its inputs hold and from what the point before left.
-/
module

public import proofs.«01_k».proof.Proof.BackPay
public import proofs.«01_k».proof.Proof.BackOut
public import Idealize.ShloMosaic.Lib.Pipeline.ValueKit.Acc
public import Idealize.ShloMosaic.Lib.Pipeline.ValueKit.Geometry
public import Idealize.ShloMosaic.Lib.Pipeline.ValueKit.Tiles

@[expose] public section

noncomputable section

namespace Cert.Back

open Cert.Kernel2Ideal Cert.Kernel2Ideal.Gen Cert.Scale
open Idealize.ShloMosaic Idealize.ShloMosaic.TcCoe Idealize.SL.Sem

/-! ## Buffers written band by band -/

section Canon

variable (o : ℕ) (ho : o + 512 ≤ 2048) (inb : ∀ a, (![o, 0] : Fin 2 → ℕ) a + (![512, 1024] : Fin 2 → ℕ) a ≤ S2048x1024.size a)
  (p : (Rect.unit (s := S2048x1024) ![o, 0] ![512, 1024] inb).shape.Idx → Elt Ideal .f32)
  (L : List (View.Piece (Elt Ideal) S2048x1024 .f32)) (l : Fin 1024)

theorem emb_band (i : Fin 512) : (Rect.unit (s := S2048x1024) ![o, 0] ![512, 1024] inb).emb (ix2 i l) = ix2 (band o ho i) l := by
  funext a; apply Fin.ext; fin_cases a <;> simp [ix2, band, Rect.emb_apply]

/-- A row of the band stored last reads that store. -/
theorem canon_here (i : Fin 512) : View.canon (⟨Rect.unit ![o, 0] ![512, 1024] inb, p⟩ :: L) (ix2 (band o ho i) l) = p (ix2 i l) := by
  rw [← emb_band o ho inb]; exact View.canon_cons_emb _ p L _

/-- A row outside it reads the stores before. -/
theorem canon_skip (r : Fin 2048) (hr : r.val < o ∨ o + 512 ≤ r.val) :
    View.canon (⟨Rect.unit ![o, 0] ![512, 1024] inb, p⟩ :: L) (ix2 r l) = View.canon L (ix2 r l) := by
  refine View.canon_cons_of_not_mem (⟨Rect.unit ![o, 0] ![512, 1024] inb, p⟩ : View.Piece (Elt Ideal) S2048x1024 .f32) _ ?_
  rw [Rect.mem_set_unit]
  intro h
  have h1 := (h 0).1
  have h2 := (h 0).2
  simp [ix2] at h1 h2
  omega

/-- A load of a band reads the stores at the band's rows. -/
theorem read_band {κ : Kind} {sp : Space} (v : View sig κ sp S2048x1024 .f32) (i : Fin 512) :
    v.readCov L (Rect.unit (s := S2048x1024) ![o, 0] ![512, 1024] inb).toLoadRect (ix2 i l) = View.canon L (ix2 (band o ho i) l) := by
  rw [View.readCov_eq_canon', ← emb_band o ho inb]; rfl

end Canon

section Four

variable (p0 : (Rect.unit (s := S2048x1024) ![0, 0] ![512, 1024] inb_S2048x1024_S512x1024_0_0).shape.Idx → Elt Ideal .f32)
  (p1 : (Rect.unit (s := S2048x1024) ![512, 0] ![512, 1024] inb_S2048x1024_S512x1024_512_0).shape.Idx → Elt Ideal .f32)
  (p2 : (Rect.unit (s := S2048x1024) ![1024, 0] ![512, 1024] inb_S2048x1024_S512x1024_1024_0).shape.Idx → Elt Ideal .f32)
  (p3 : (Rect.unit (s := S2048x1024) ![1536, 0] ![512, 1024] inb_S2048x1024_S512x1024_1536_0).shape.Idx → Elt Ideal .f32)
  (L : List (View.Piece (Elt Ideal) S2048x1024 .f32)) (f : Fin 2048 → Fin 1024 → EReal)

/-- The four bands' stores, the last one first. -/
abbrev four : List (View.Piece (Elt Ideal) S2048x1024 .f32) :=
  ⟨Rect.unit ![1536, 0] ![512, 1024] inb_S2048x1024_S512x1024_1536_0, p3⟩
    :: ⟨Rect.unit ![1024, 0] ![512, 1024] inb_S2048x1024_S512x1024_1024_0, p2⟩
    :: ⟨Rect.unit ![512, 0] ![512, 1024] inb_S2048x1024_S512x1024_512_0, p1⟩
    :: ⟨Rect.unit ![0, 0] ![512, 1024] inb_S2048x1024_S512x1024_0_0, p0⟩ :: L

variable {p0 p1 p2 p3 f}

/-- Four stores that agree with one function of the row fill the buffer with it. -/
theorem canon_four (h0 : ∀ i l, p0 (ix2 i l) = f (band 0 (by decide) i) l) (h1 : ∀ i l, p1 (ix2 i l) = f (band 512 (by decide) i) l)
    (h2 : ∀ i l, p2 (ix2 i l) = f (band 1024 (by decide) i) l) (h3 : ∀ i l, p3 (ix2 i l) = f (band 1536 (by decide) i) l)
    (r : Fin 2048) (l : Fin 1024) : View.canon (four p0 p1 p2 p3 L) (ix2 r l) = f r l := by
  by_cases c3 : 1536 ≤ r.val
  · obtain ⟨i, rfl⟩ : ∃ i, r = band 1536 (by decide) i := ⟨⟨r.val - 1536, by omega⟩, by apply Fin.ext; simp only [band]; omega⟩
    exact (canon_here 1536 (by decide) _ _ _ _ _).trans (h3 i l)
  refine (canon_skip 1536 _ _ _ _ _ (by omega)).trans ?_
  by_cases c2 : 1024 ≤ r.val
  · obtain ⟨i, rfl⟩ : ∃ i, r = band 1024 (by decide) i := ⟨⟨r.val - 1024, by omega⟩, by apply Fin.ext; simp only [band]; omega⟩
    exact (canon_here 1024 (by decide) _ _ _ _ _).trans (h2 i l)
  refine (canon_skip 1024 _ _ _ _ _ (by omega)).trans ?_
  by_cases c1 : 512 ≤ r.val
  · obtain ⟨i, rfl⟩ : ∃ i, r = band 512 (by decide) i := ⟨⟨r.val - 512, by omega⟩, by apply Fin.ext; simp only [band]; omega⟩
    exact (canon_here 512 (by decide) _ _ _ _ _).trans (h1 i l)
  refine (canon_skip 512 _ _ _ _ _ (by omega)).trans ?_
  obtain ⟨i, rfl⟩ : ∃ i, r = band 0 (by decide) i := ⟨⟨r.val, by omega⟩, by apply Fin.ext; simp only [band]; omega⟩
  exact (canon_here 0 (by decide) _ _ _ _ _).trans (h0 i l)

end Four

/-- A load of a band of whole contents reads them at the band's rows. -/
theorem ld_band (o : ℕ) (ho : o + 512 ≤ 2048) (inb : ∀ a, (![o, 0] : Fin 2 → ℕ) a + (![512, 1024] : Fin 2 → ℕ) a ≤ S2048x1024.size a)
    (X : S2048x1024.Idx → Elt Ideal .f32) (i : Fin 512) (l : Fin 1024) :
    View.ld X (Rect.unit (s := S2048x1024) ![o, 0] ![512, 1024] inb) (ix2 i l) = X (ix2 (band o ho i) l) :=
  View.ld_unit_apply_of _ _ _ _ _ (ix2 (band o ho i) l) (by intro a; fin_cases a <;> simp [ix2, band])

/-! ## The blocks' values -/

/-- The gradient by the projection's input, the normalised rows, and those with the norm's scale, of the point's blocks. -/
abbrev bDu (x : Blocks Ideal) : FVec Ideal S512x1024 .f32 := k0_pay19 x.x0 x.x1 x.x2 x.x3 x.x4 x.x5
abbrev bN (x : Blocks Ideal) : FVec Ideal S512x1024 .f32 := k0_pay21 x.x6
abbrev bU (x : Blocks Ideal) : FVec Ideal S512x1024 .bf16 := k0_pay27 x.x8 (bN x)
/-- The block of the gradient by the layer's input. -/
abbrev bDx (x : Blocks Ideal) : FVec Ideal S512x1024 .f32 :=
  k0_pay25 (k0_pay20 x.x6) (bN x) (k0_pay22 x.x8 x.x0 x.x1 x.x2 x.x3 x.x4 x.x5) (k0_pay23 x.x8 x.x0 x.x1 x.x2 x.x6 x.x3 x.x4 x.x5) k0_pay24 x.x7

section A

variable (c : Dev nD) (i : grid0.Coords) (b : Bufs) (hc0 : first i) (hc1 : ¬final i) (x : Blocks Ideal)

theorem a15 (j : S512x1024.Idx) : (outA c i b hc0 hc1 x).1 j = bDx x j := by
  rw [outA_15]; frame_out
theorem a16 (j : S64x1024.Idx) : (outA c i b hc0 hc1 x).2.1 j = k0_pay6 x.x8 x.x11 x.x12 x.x13 x.x9 x.x3 x.x4 x.x5 j := by
  rw [outA_16]; frame_out
theorem a17 (j : S1x1024.Idx) : (outA c i b hc0 hc1 x).2.2.1 j
    = k0_pay26 (bDu x) (bN x) (k0_pay7 x.x11 x.x12 x.x13 x.x9 x.x3 x.x4 x.x5) j := by
  rw [outA_17]; frame_out
theorem a21 (r : Fin 2048) (l : Fin 1024) : (outA c i b hc0 hc1 x).2.2.2.1 (ix2 r l)
    = setW x.x11 x.x10 r l + addW x.x0 (bU x) r l := by
  rw [outA_21]
  frame_out
  have hl := fun L => canon_four L (f := setW x.x11 x.x10) (pay9_at x.x11 x.x10) (pay10_at x.x11 x.x10) (pay11_at x.x11 x.x10) (pay12_at x.x11 x.x10)
  refine canon_four _ (f := fun r l => setW x.x11 x.x10 r l + addW x.x0 (bU x) r l) (fun i l => ?_) (fun i l => ?_) (fun i l => ?_) (fun i l => ?_) r l
  · refine (pay28_at _ _ _ _ i l).trans (congrArg (· + _) ?_)
    exact (read_band 0 (by omega) _ _ _ _ _).trans (hl _ _ _)
  · refine (pay29_at _ _ _ _ i l).trans (congrArg (· + _) ?_)
    refine (read_band 512 (by omega) _ _ _ _ _).trans ?_
    exact (canon_skip 0 _ _ _ _ _ (by simp only [band]; omega)).trans (hl _ _ _)
  · refine (pay31_at _ _ _ _ i l).trans (congrArg (· + _) ?_)
    refine (read_band 1024 (by omega) _ _ _ _ _).trans ?_
    refine (canon_skip 512 _ _ _ _ _ (by simp only [band]; omega)).trans ?_
    exact (canon_skip 0 _ _ _ _ _ (by simp only [band]; omega)).trans (hl _ _ _)
  · refine (pay32_at _ _ _ i l).trans (congrArg (· + _) ?_)
    refine (read_band 1536 (by omega) _ _ _ _ _).trans ?_
    refine (canon_skip 1024 _ _ _ _ _ (by simp only [band]; omega)).trans ?_
    refine (canon_skip 512 _ _ _ _ _ (by simp only [band]; omega)).trans ?_
    exact (canon_skip 0 _ _ _ _ _ (by simp only [band]; omega)).trans (hl _ _ _)
theorem a22 (r : Fin 2048) (l : Fin 1024) : (outA c i b hc0 hc1 x).2.2.2.2.1 (ix2 r l)
    = setW x.x12 x.x10 r l + addW x.x1 (bU x) r l := by
  rw [outA_22]
  frame_out
  have hl := fun L => canon_four L (f := setW x.x12 x.x10) (pay13_at x.x12 x.x10) (pay15_at x.x12 x.x10) (pay16_at x.x12 x.x10) (pay17_at x.x12 x.x10)
  refine canon_four _ (f := fun r l => setW x.x12 x.x10 r l + addW x.x1 (bU x) r l) (fun i l => ?_) (fun i l => ?_) (fun i l => ?_) (fun i l => ?_) r l
  · refine (pay33_at _ _ _ i l).trans (congrArg (· + _) ?_)
    exact (read_band 0 (by omega) _ _ _ _ _).trans (hl _ _ _)
  · refine (pay34_at _ _ _ i l).trans (congrArg (· + _) ?_)
    refine (read_band 512 (by omega) _ _ _ _ _).trans ?_
    exact (canon_skip 0 _ _ _ _ _ (by simp only [band]; omega)).trans (hl _ _ _)
  · refine (pay35_at _ _ _ i l).trans (congrArg (· + _) ?_)
    refine (read_band 1024 (by omega) _ _ _ _ _).trans ?_
    refine (canon_skip 512 _ _ _ _ _ (by simp only [band]; omega)).trans ?_
    exact (canon_skip 0 _ _ _ _ _ (by simp only [band]; omega)).trans (hl _ _ _)
  · refine (pay1_at _ _ _ i l).trans (congrArg (· + _) ?_)
    refine (read_band 1536 (by omega) _ _ _ _ _).trans ?_
    refine (canon_skip 1024 _ _ _ _ _ (by simp only [band]; omega)).trans ?_
    refine (canon_skip 512 _ _ _ _ _ (by simp only [band]; omega)).trans ?_
    exact (canon_skip 0 _ _ _ _ _ (by simp only [band]; omega)).trans (hl _ _ _)
theorem a23 (r : Fin 128) (l : Fin 1024) : (outA c i b hc0 hc1 x).2.2.2.2.2 (ix2 r l)
    = setW x.x13 x.x10 r l + addW x.x2 (bU x) r l := by
  rw [outA_23]
  frame_out
  exact (pay2_at _ _ _ _ _).trans (congrArg (· + _) (pay18_at _ _ _ _))

end A

section B

variable (c : Dev nD) (i : grid0.Coords) (b : Bufs) (hc0 : ¬first i) (hc1 : ¬final i) (x : Blocks Ideal) (p : Outs Ideal)

theorem b15 (j : S512x1024.Idx) : (outB c i b hc0 hc1 x p).1 j = bDx x j := by
  rw [outB_15]; frame_out
theorem b17 (j : S1x1024.Idx) : (outB c i b hc0 hc1 x p).2.2.1 j = k0_pay26 (bDu x) (bN x) p.2.2.1 j := by
  rw [outB_17]; frame_out
theorem b21 (r : Fin 2048) (l : Fin 1024) : (outB c i b hc0 hc1 x p).2.2.2.1 (ix2 r l) = p.2.2.2.1 (ix2 r l) + addW x.x0 (bU x) r l := by
  rw [outB_21]
  frame_out
  exact canon_four (f := fun r l => p.2.2.2.1 (ix2 r l) + addW x.x0 (bU x) r l) _
    (fun i l => (pay28_at _ _ _ _ i l).trans (congrArg (· + _) (ld_band 0 _ _ _ _ _)))
    (fun i l => (pay29_at _ _ _ _ i l).trans (congrArg (· + _) (ld_band 512 _ _ _ _ _)))
    (fun i l => (pay31_at _ _ _ _ i l).trans (congrArg (· + _) (ld_band 1024 _ _ _ _ _)))
    (fun i l => (pay32_at _ _ _ i l).trans (congrArg (· + _) (ld_band 1536 _ _ _ _ _))) r l
theorem b22 (r : Fin 2048) (l : Fin 1024) : (outB c i b hc0 hc1 x p).2.2.2.2.1 (ix2 r l) = p.2.2.2.2.1 (ix2 r l) + addW x.x1 (bU x) r l := by
  rw [outB_22]
  frame_out
  exact canon_four (f := fun r l => p.2.2.2.2.1 (ix2 r l) + addW x.x1 (bU x) r l) _
    (fun i l => (pay33_at _ _ _ i l).trans (congrArg (· + _) (ld_band 0 _ _ _ _ _)))
    (fun i l => (pay34_at _ _ _ i l).trans (congrArg (· + _) (ld_band 512 _ _ _ _ _)))
    (fun i l => (pay35_at _ _ _ i l).trans (congrArg (· + _) (ld_band 1024 _ _ _ _ _)))
    (fun i l => (pay1_at _ _ _ i l).trans (congrArg (· + _) (ld_band 1536 _ _ _ _ _))) r l
theorem b23 (r : Fin 128) (l : Fin 1024) : (outB c i b hc0 hc1 x p).2.2.2.2.2 (ix2 r l) = p.2.2.2.2.2 (ix2 r l) + addW x.x2 (bU x) r l := by
  rw [outB_23]
  frame_out
  exact pay2_at _ _ _ _ _

end B

section C

variable (c : Dev nD) (i : grid0.Coords) (b : Bufs) (hc0 : ¬first i) (hc1 : final i) (x : Blocks Ideal) (p : Outs Ideal)
  (g0 : HbBuf (F := Ideal) c hb0) (g1 : HbBuf (F := Ideal) c hb1) (g2 : HbBuf (F := Ideal) c hb2)

theorem c15 (j : S512x1024.Idx) : (outC c i b hc0 hc1 x p g0 g1 g2).1 j = bDx x j := by
  rw [outC_15]; frame_out
theorem c17 (j : S1x1024.Idx) : (outC c i b hc0 hc1 x p g0 g1 g2).2.2.1 j = k0_pay26 (bDu x) (bN x) p.2.2.1 j := by
  rw [outC_17]; frame_out

/-- The copies carry what the accumulators end with. -/
theorem copy0_is (j : S2048x1024.Idx) : copy0 c i b hc0 hc1 x p g0 g1 g2 j = (outC c i b hc0 hc1 x p g0 g1 g2).2.2.2.1 j := by
  rw [outC_21]
  unfold copy0
  frame_out
  rw [View.write_whole_univ]
  refine congrFun (View.read_writes_eq_canon _ _ _ ?_) j
  exact fun y => View.cover_of_tiledL (s := S2048x1024) _ S512x1024.size (by sl_kernel_rfl) y
theorem copy1_is (j : S2048x1024.Idx) : copy1 c i b hc0 hc1 x p g0 g1 g2 j = (outC c i b hc0 hc1 x p g0 g1 g2).2.2.2.2.1 j := by
  rw [outC_22]
  unfold copy1
  frame_out
  rw [View.write_whole_univ]
  refine congrFun (View.read_writes_eq_canon _ _ _ ?_) j
  exact fun y => View.cover_of_tiledL (s := S2048x1024) _ S512x1024.size (by sl_kernel_rfl) y
theorem copy2_is (j : S128x1024.Idx) : copy2 c i b hc0 hc1 x p g0 g1 g2 j = (outC c i b hc0 hc1 x p g0 g1 g2).2.2.2.2.2 j := by
  rw [outC_23]
  unfold copy2
  frame_out
  rw [View.write_whole_univ]
  refine (congrFun (View.read_writes_eq_canon _ _ _ ?_) j).trans ?_
  · exact fun y => View.cover_of_tiledL (s := S128x1024) _ S128x1024.size (by sl_kernel_rfl) y
  · rw [View.canon_unit_zero (S := S128x1024) (funext fun a => by fin_cases a <;> rfl)]

theorem c21 (r : Fin 2048) (l : Fin 1024) : (outC c i b hc0 hc1 x p g0 g1 g2).2.2.2.1 (ix2 r l) = p.2.2.2.1 (ix2 r l) + addW x.x0 (bU x) r l := by
  rw [outC_21]
  frame_out
  exact canon_four (f := fun r l => p.2.2.2.1 (ix2 r l) + addW x.x0 (bU x) r l) _
    (fun i l => (pay28_at _ _ _ _ i l).trans (congrArg (· + _) (ld_band 0 _ _ _ _ _)))
    (fun i l => (pay29_at _ _ _ _ i l).trans (congrArg (· + _) (ld_band 512 _ _ _ _ _)))
    (fun i l => (pay31_at _ _ _ _ i l).trans (congrArg (· + _) (ld_band 1024 _ _ _ _ _)))
    (fun i l => (pay32_at _ _ _ i l).trans (congrArg (· + _) (ld_band 1536 _ _ _ _ _))) r l
theorem c22 (r : Fin 2048) (l : Fin 1024) : (outC c i b hc0 hc1 x p g0 g1 g2).2.2.2.2.1 (ix2 r l) = p.2.2.2.2.1 (ix2 r l) + addW x.x1 (bU x) r l := by
  rw [outC_22]
  frame_out
  exact canon_four (f := fun r l => p.2.2.2.2.1 (ix2 r l) + addW x.x1 (bU x) r l) _
    (fun i l => (pay33_at _ _ _ i l).trans (congrArg (· + _) (ld_band 0 _ _ _ _ _)))
    (fun i l => (pay34_at _ _ _ i l).trans (congrArg (· + _) (ld_band 512 _ _ _ _ _)))
    (fun i l => (pay35_at _ _ _ i l).trans (congrArg (· + _) (ld_band 1024 _ _ _ _ _)))
    (fun i l => (pay1_at _ _ _ i l).trans (congrArg (· + _) (ld_band 1536 _ _ _ _ _))) r l
theorem c23 (r : Fin 128) (l : Fin 1024) : (outC c i b hc0 hc1 x p g0 g1 g2).2.2.2.2.2 (ix2 r l) = p.2.2.2.2.2 (ix2 r l) + addW x.x2 (bU x) r l := by
  rw [outC_23]
  frame_out
  exact pay2_at _ _ _ _ _

end C

end Cert.Back
-- ==== Proof.BackIn.lean ====
/-
  The input projection's backward: what its grid points read, over the argument arrays, and with it what each point
  computes there.
-/
module

public import proofs.«01_k».proof.Proof.BackPay
public import proofs.«01_k».proof.Proof.BackDat
public import proofs.«01_k».proof.Proof.BackStep
public import Idealize.ShloMosaic.Lib.Pipeline.ValueKit.Geometry
public import Idealize.ShloMosaic.Lib.Pipeline.ValueKit.Tiles

@[expose] public section

noncomputable section

namespace Cert.Back

open Cert.Kernel2Ideal Cert.Kernel2Ideal.Gen Cert.Scale
open Idealize.ShloMosaic Idealize.ShloMosaic.TcCoe Idealize.SL.Sem

attribute [local irreducible] outA outB outC runA runB runC View.canon outsAt copy0 copy1 copy2

variable (m : (ℓ : Loc nD τ sig) → Buf (Elt Ideal) ℓ) (c : Dev nD)

/-- The argument arrays. -/
def kArgs : Args where
  rows := ⟨m ((c : Thread nD τ).loc main_arg4), m ((c : Thread nD τ).loc main_arg0), m ((c : Thread nD τ).loc main_arg1),
    m ((c : Thread nD τ).loc main_arg2)⟩
  lead := ⟨m ((c : Thread nD τ).loc main_arg7), m ((c : Thread nD τ).loc main_arg8), m ((c : Thread nD τ).loc main_arg9),
    m ((c : Thread nD τ).loc main_arg10)⟩
  D := m ((c : Thread nD τ).loc main_arg5)
  W := m ((c : Thread nD τ).loc main_arg3)
  G := m ((c : Thread nD τ).loc main_arg6)

/-- The array row that row `r` of the block at point `t` is. -/
def row (t : Fin cfg0.N) (r : Fin 512) : Fin 4096 :=
  ⟨t.val * 512 + r.val, by have h := t.isLt; have hN : cfg0.N = 8 := N_0; omega⟩

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![1, 0] := (by decide +kernel : ∀ t : Fin grid0.N, _)
theorem ix_5 : ∀ t : Fin cfg0.N, win0_5.index t = ![32, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![0, 0] := (by decide +kernel : ∀ t : Fin grid0.N, _)
theorem ix_13 : ∀ t : Fin cfg0.N, win0_13.index t = ![0, 0] := (by decide +kernel : ∀ t : Fin grid0.N, _)
theorem ix_14 : ∀ t : Fin cfg0.N, win0_14.index t = ![t.val, 0] := (by decide +kernel : ∀ t : Fin grid0.N, _)

/-! ## The blocks -/

variable (t : Fin cfg0.N)

theorem in0 (r : Fin 512) (l : Fin 2048) : (blks m c t).x0 (ix2 r l) = (kArgs m c).rows.P0 (ix2 (row t r) l) := by
  show iblk m c 0 t (ix2 r l) = m ((c : Thread nD τ).loc main_arg0) (ix2 (row t r) l)
  blk_simp [iblk]
  refine (congrFun (V_main_arg0 m c) _).trans ?_
  congr 1
  blk_ext [ix_0 t, row]
theorem in1 (r : Fin 512) (l : Fin 2048) : (blks m c t).x1 (ix2 r l) = (kArgs m c).rows.P1 (ix2 (row t r) l) := by
  show iblk m c 1 t (ix2 r l) = m ((c : Thread nD τ).loc main_arg1) (ix2 (row t r) l)
  blk_simp [iblk]
  refine (congrFun (V_main_arg1 m c) _).trans ?_
  congr 1
  blk_ext [ix_1 t, row]
theorem in2 (r : Fin 512) (l : Fin 128) : (blks m c t).x2 (ix2 r l) = (kArgs m c).rows.P2 (ix2 (row t r) l) := by
  show iblk m c 2 t (ix2 r l) = m ((c : Thread nD τ).loc main_arg2) (ix2 (row t r) l)
  blk_simp [iblk]
  refine (congrFun (V_main_arg2 m c) _).trans ?_
  congr 1
  blk_ext [ix_2 t, row]
theorem in3 (r : Fin 2048) (l : Fin 1024) : (blks m c t).x3 (ix2 r l) = (kArgs m c).W (ix2 (w0 r) l) := by
  show X0_3 m c t (ix2 r l) = m ((c : Thread nD τ).loc main_arg3) (ix2 (w0 r) l)
  unfold X0_3 Pipeline.Window.fill
  rw [dif_pos (moved0_3 t _)]
  blk_simp [iblk]
  refine (congrFun (V_main_arg3 m c) _).trans ?_
  congr 1
  blk_ext [ix_3 t, w0]
theorem in4 (r : Fin 2048) (l : Fin 1024) : (blks m c t).x4 (ix2 r l) = (kArgs m c).W (ix2 (w1 r) l) := by
  show X0_4 m c t (ix2 r l) = m ((c : Thread nD τ).loc main_arg3) (ix2 (w1 r) l)
  unfold X0_4 Pipeline.Window.fill
  rw [dif_pos (moved0_4 t _)]
  blk_simp [iblk]
  refine (congrFun (V_main_arg3 m c) _).trans ?_
  congr 1
  blk_ext [ix_4 t, w1]
theorem in5 (r : Fin 128) (l : Fin 1024) : (blks m c t).x5 (ix2 r l) = (kArgs m c).W (ix2 (w2 r) l) := by
  show iblk m c 5 t (ix2 r l) = m ((c : Thread nD τ).loc main_arg3) (ix2 (w2 r) l)
  blk_simp [iblk]
  refine (congrFun (V_main_arg3 m c) _).trans ?_
  congr 1
  blk_ext [ix_5 t, w2]
theorem in6 (r : Fin 512) (l : Fin 1024) : (blks m c t).x6 (ix2 r l) = (kArgs m c).rows.H (ix2 (row t r) l) := by
  show iblk m c 6 t (ix2 r l) = m ((c : Thread nD τ).loc main_arg4) (ix2 (row t r) l)
  blk_simp [iblk]
  refine (congrFun (V_main_arg4 m c) _).trans ?_
  congr 1
  blk_ext [ix_6 t, row]
theorem in7 (r : Fin 512) (l : Fin 1024) : (blks m c t).x7 (ix2 r l) = (kArgs m c).D (ix2 (row t r) l) := by
  show iblk m c 7 t (ix2 r l) = m ((c : Thread nD τ).loc main_arg5) (ix2 (row t r) l)
  blk_simp [iblk]
  refine (congrFun (V_main_arg5 m c) _).trans ?_
  congr 1
  blk_ext [ix_7 t, row]
theorem in8 (r : Fin 1) (l : Fin 1024) : (blks m c t).x8 (ix2 r l) = (kArgs m c).G (ix2 r l) := by
  show iblk m c 8 t (ix2 r l) = m ((c : Thread nD τ).loc main_arg6) (ix2 r l)
  blk_simp [iblk]
  refine (congrFun (V_main_arg6 m c) _).trans ?_
  congr 1
  blk_ext [ix_8 t]
theorem in9 (r : Fin 64) (l : Fin 1024) : (blks m c t).x9 (ix2 r l) = (kArgs m c).lead.H (ix2 r l) := by
  show iblk m c 9 t (ix2 r l) = m ((c : Thread nD τ).loc main_arg7) (ix2 r l)
  blk_simp [iblk]
  refine (congrFun (V_main_arg7 m c) _).trans ?_
  congr 1
  blk_ext [ix_9 t]
theorem in11 (r : Fin 64) (l : Fin 2048) : (blks m c t).x11 (ix2 r l) = (kArgs m c).lead.P0 (ix2 r l) := by
  show iblk m c 11 t (ix2 r l) = m ((c : Thread nD τ).loc main_arg8) (ix2 r l)
  blk_simp [iblk]
  refine (congrFun (V_main_arg8 m c) _).trans ?_
  congr 1
  blk_ext [ix_11 t]
theorem in12 (r : Fin 64) (l : Fin 2048) : (blks m c t).x12 (ix2 r l) = (kArgs m c).lead.P1 (ix2 r l) := by
  show iblk m c 12 t (ix2 r l) = m ((c : Thread nD τ).loc main_arg9) (ix2 r l)
  blk_simp [iblk]
  refine (congrFun (V_main_arg9 m c) _).trans ?_
  congr 1
  blk_ext [ix_12 t]
theorem in13 (r : Fin 64) (l : Fin 128) : (blks m c t).x13 (ix2 r l) = (kArgs m c).lead.P2 (ix2 r l) := by
  show iblk m c 13 t (ix2 r l) = m ((c : Thread nD τ).loc main_arg10) (ix2 r l)
  blk_simp [iblk]
  refine (congrFun (V_main_arg10 m c) _).trans ?_
  congr 1
  blk_ext [ix_13 t]

/-! ## The leading rows normalised and scaled, as the host hands them over -/

section Host

variable (H : FVec Ideal S64x1024 .f32) (G : FVec Ideal S1x1024 .f32)

def hR : FVec Ideal S64x1 .f32 :=
  Host.rsqrt (addf (Host.divf (broadcastInDim S64x1 ![0] bcast_S64_S64x1_0
      (Host.reduceAdd (mulf H H) (constant S_ .f32 0x00000000#32) reducesTo_S64x1024_S64_d1 h_S_))
    (broadcastInDim S64x1 ![] bcast_S_S64x1 (constant S_ .f32 0x44800000#32))) (broadcastInDim S64x1 ![] bcast_S_S64x1 (constant S_ .f32 0x358637BD#32)))
def hU (q : FVec Ideal S64x1 .f32) : FVec Ideal S64x1024 .bf16 :=
  truncf .bf16 (mulf (mulf H (broadcastInDim S64x1024 ![0, 1] bcast_S64x1_S64x1024_0_1 q))
    (broadcastInDim S64x1024 ![0, 1] bcast_S1x1024_S64x1024_0_1 G)) bitsLt_bf16_f32

theorem hR_at (r : Fin 64) : hR H (ix2 r 0) = rinv fun l => H (ix2 r l) := by
  unfold rinv meanSq
  pointwise [hR]

theorem hU_at (q : FVec Ideal S64x1 .f32) (r : Fin 64) (l : Fin 1024) : hU H G q (ix2 r l) = H (ix2 r l) * q (ix2 r 0) * G (ix2 0 l) := by
  pointwise [hU]

end Host

theorem in10 (r : Fin 64) (l : Fin 1024) : (blks m c t).x10 (ix2 r l) = sN (kArgs m c).lead r l * (kArgs m c).G (ix2 0 l) := by
  have h : V m c main_v12 = hU (kArgs m c).lead.H (kArgs m c).G (hR (kArgs m c).lead.H) := by
    unfold V
    after_results_simp
    rfl
  refine Eq.trans ?_ ((congrFun h (ix2 r l)).trans ?_)
  · show iblk m c 10 t (ix2 r l) = V m c main_v12 (ix2 r l)
    blk_simp [iblk]
    congr 1
    blk_ext [ix_10 t]
  · rw [hU_at, hR_at]; rfl

/-! ## What the body computes of them -/

theorem bDu_at (r : Fin 512) (l : Fin 1024) : bDu (blks m c t) (ix2 r l) = sDu (kArgs m c).rows (kArgs m c) (row t r) l := by
  rw [bDu, pay19_at]
  unfold sDu
  simp only [in0, in1, in2, in3, in4, in5]

theorem bN_at (r : Fin 512) (l : Fin 1024) : bN (blks m c t) (ix2 r l) = sN (kArgs m c).rows (row t r) l := by
  rw [bN, pay21_at]
  unfold sN
  simp only [in6]

theorem bU_at (r : Fin 512) (l : Fin 1024) : bU (blks m c t) (ix2 r l) = sN (kArgs m c).rows (row t r) l * (kArgs m c).G (ix2 0 l) := by
  rw [bU, pay27_at, bN_at, in8]

theorem bDx_at (r : Fin 512) (l : Fin 1024) : bDx (blks m c t) (ix2 r l)
    = (kArgs m c).D (ix2 (row t r) l) + sDh (kArgs m c).rows (kArgs m c) (row t r) l := by
  refine (dx_at _ _ _ _ _ _ _ _ _ r l).trans ?_
  unfold sDh
  rw [in7]
  simp only [in6, in8]
  exact congrArg (_ + ·) (congrFun (congrArg _ (funext fun l => congrArg (· * _) (bDu_at m c t r l))) l)

/-- The gradient by the leading rows of the projection's input. -/
abbrev bLu (x : Blocks Ideal) : FVec Ideal S64x1024 .f32 := k0_pay3 x.x11 x.x12 x.x13 x.x3 x.x4 x.x5

theorem bLu_at (r : Fin 64) (l : Fin 1024) : bLu (blks m c t) (ix2 r l) = sDu (kArgs m c).lead (kArgs m c) r l := by
  rw [bLu, pay3_at]
  unfold sDu
  simp only [in3, in4, in5, in11, in12, in13]

theorem dx0_is (r : Fin 64) (l : Fin 1024) :
    k0_pay6 (blks m c t).x8 (blks m c t).x11 (blks m c t).x12 (blks m c t).x13 (blks m c t).x9 (blks m c t).x3 (blks m c t).x4 (blks m c t).x5 (ix2 r l)
      = sDh (kArgs m c).lead (kArgs m c) r l := by
  refine (dx0_at _ _ _ _ _ _ _ _ r l).trans ?_
  unfold sDh
  simp only [in9, in8]
  exact congrFun (congrArg _ (funext fun l => congrArg (· * _) (bLu_at m c t r l))) l

theorem dg0_is (l : Fin 1024) :
    k0_pay7 (blks m c t).x11 (blks m c t).x12 (blks m c t).x13 (blks m c t).x9 (blks m c t).x3 (blks m c t).x4 (blks m c t).x5 (ix2 0 l)
      = sDg (kArgs m c).lead (kArgs m c) l := by
  refine (pay7_at _ _ _ _ _ _ _ l).trans (sumc fun r => congrArg₂ (· * ·) (bLu_at m c t r l) ((pay5_at _ r l).trans ?_))
  unfold sN
  simp only [in9]

/-- The leading rows' part of the gradient by the weights. -/
theorem setW_is {k : ℕ} (v : Arr 64 k) (P : Arr 64 k) (h : ∀ r i, v (ix2 r i) = P (ix2 r i)) (i : Fin k) (l : Fin 1024) :
    setW v (blks m c t).x10 i l = sDw (kArgs m c).lead (kArgs m c) P i l :=
  sumc fun r => congrArg₂ (· * ·) (h r i) (in10 m c t r l)

/-- What a point adds to the gradient by the weights, and to that by the norm's scale. -/
def termW {k : ℕ} (P : Arr 4096 k) (i : Fin k) (l : Fin 1024) : EReal :=
  ∑ r : Fin 512, P (ix2 (row t r) i) * (sN (kArgs m c).rows (row t r) l * (kArgs m c).G (ix2 0 l))
def termG (l : Fin 1024) : EReal := ∑ r : Fin 512, sDu (kArgs m c).rows (kArgs m c) (row t r) l * sN (kArgs m c).rows (row t r) l

theorem addW_is {k : ℕ} (v : Arr 512 k) (P : Arr 4096 k) (h : ∀ r i, v (ix2 r i) = P (ix2 (row t r) i)) (i : Fin k) (l : Fin 1024) :
    addW v (bU (blks m c t)) i l = termW m c t P i l :=
  sumc fun r => congrArg₂ (· * ·) (h r i) (bU_at m c t r l)

theorem addG_is (w : Vec Ideal S1x1024 .f32) (l : Fin 1024) :
    k0_pay26 (bDu (blks m c t)) (bN (blks m c t)) w (ix2 0 l) = w (ix2 0 l) + termG m c t l :=
  (pay26_at _ _ w l).trans (congrArg (_ + ·) (sumc fun r => congrArg₂ (· * ·) (bDu_at m c t r l) (bN_at m c t r l)))

/-- A sum over the grid's points and the rows of their blocks is the sum over the array's rows. -/
theorem sum_rows (f : Fin 4096 → EReal) : ∑ t : Fin cfg0.N, ∑ r : Fin 512, f (row t r) = ∑ R, f R := by
  rw [Fin.sum_univ_tiles 8 512 (by norm_num) f]
  rfl

theorem sum_termW {k : ℕ} (P : Arr 4096 k) (i : Fin k) (l : Fin 1024) :
    ∑ t : Fin cfg0.N, termW m c t P i l = sDw (kArgs m c).rows (kArgs m c) P i l :=
  sum_rows fun R => P (ix2 R i) * (sN (kArgs m c).rows R l * (kArgs m c).G (ix2 0 l))

theorem sum_termG (l : Fin 1024) : ∑ t : Fin cfg0.N, termG m c t l = sDg (kArgs m c).rows (kArgs m c) l :=
  sum_rows fun R => sDu (kArgs m c).rows (kArgs m c) R l * sN (kArgs m c).rows R l

end Cert.Back
-- ==== Proof.BackBody.lean ====
/-
  What the pipeline hands the body of the input projection's backward at a point and what it asks back, in the terms
  of the body's own triples.
-/
module

public import proofs.«01_k».proof.Proof.BackDat

@[expose] public section

-- memberships in rectangles over long axes are looked at coordinate by coordinate
set_option maxRecDepth 16384

noncomputable section

namespace Cert.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] outA outB outC runA runB runC View.canon copy0 copy1 copy2

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (bufs t).a1 fullShare ((dats m 0 c).before 0 t d))
    ∗ (∃ d, owns (c : Thread nD τ) (bufs t).a2 fullShare ((dats m 0 c).before 1 t d))
    ∗ (∃ d, owns (c : Thread nD τ) (bufs t).a3 fullShare ((dats m 0 c).before 2 t d))
    ∗ (∃ d, owns (c : Thread nD τ) (bufs t).a4 fullShare ((dats m 0 c).before 3 t d))
    ∗ (∃ d, owns (c : Thread nD τ) (bufs t).a5 fullShare ((dats m 0 c).before 4 t d))
    ∗ (∃ d, owns (c : Thread nD τ) (bufs t).a6 fullShare ((dats m 0 c).before 5 t d))
    ∗ (∃ d, owns (c : Thread nD τ) (bufs t).a7 fullShare ((dats m 0 c).before 6 t d))
    ∗ (∃ d, owns (c : Thread nD τ) (bufs t).a8 fullShare ((dats m 0 c).before 7 t d))
    ∗ (∃ d, owns (c : Thread nD τ) (bufs t).a9 fullShare ((dats m 0 c).before 8 t d))
    ∗ (∃ d, owns (c : Thread nD τ) (bufs t).a10 fullShare ((dats m 0 c).before 9 t d))
    ∗ (∃ d, owns (c : Thread nD τ) (bufs t).a11 fullShare ((dats m 0 c).before 10 t d))
    ∗ (∃ d, owns (c : Thread nD τ) (bufs t).a12 fullShare ((dats m 0 c).before 11 t d))
    ∗ (∃ d, owns (c : Thread nD τ) (bufs t).a13 fullShare ((dats m 0 c).before 12 t d))
    ∗ (∃ d, owns (c : Thread nD τ) (bufs t).a14 fullShare ((dats m 0 c).before 13 t d))
    ∗ (∃ d, owns (c : Thread nD τ) (bufs t).a15 fullShare ((dats m 0 c).before 14 t d))
    ∗ (∃ d, owns (c : Thread nD τ) (bufs t).a16 fullShare ((dats m 0 c).before 15 t d))
    ∗ (∃ d, owns (c : Thread nD τ) (bufs t).a17 fullShare ((dats m 0 c).before 16 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 2000000 in
/-- The inputs hold their blocks. -/
theorem pre_ins (c : Dev nD) (t : Fin cfg0.N) :
    bodyPre m c t ⊢ iprop((dats m 0 c).Φ t.castSucc ∗ (dats m 0 c).owesAt () t.castSucc ∗ ins c (bufs t) (blks m c t)
      ∗ (∃ d, owns (c : Thread nD τ) (bufs t).a15 fullShare ((dats m 0 c).before 14 t d))
      ∗ (∃ d, owns (c : Thread nD τ) (bufs t).a16 fullShare ((dats m 0 c).before 15 t d))
      ∗ (∃ d, owns (c : Thread nD τ) (bufs t).a17 fullShare ((dats m 0 c).before 16 t d))) := by
  unfold bodyPre ins
  simp only [before_0, before_1, before_2, before_3, before_4, before_5, before_6, before_7, before_8, before_9, before_10, before_11, before_12, before_13]
  iintro ⟨HI, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16⟩
  isplitl [HI]; · iexact HI
  isplitl [HO]; · iexact HO
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexact H14
  isplitl [H15]; · iexact H15
  iexact H16

/-- The lead rows' block, held at what the run of points left, is what the pipeline asks for. -/
theorem post_15 (c : Dev nD) (t : Fin cfg0.N) :
    owns (c : Thread nD τ) (bufs t).a16 fullShare (outsAt m c t.val t.isLt).2.1 ⊢ (dats m 0 c).leavesExact 15 t := by
  have hN : t.val < 8 := lt_of_lt_of_eq t.isLt (show cfg0.N = 8 from N_0)
  by_cases h0 : t.val = 0
  · have hi : cfg0.idle 15 (cfg0.grid.coords t) = false := by
      show (!(k0_cond1 (grid0.coords t) == 1#1)) = false
      rw [(first_iff t).mpr h0]; rfl
    unfold Dat.leavesExact; rw [hi, after_15]; exact Idealize.SL.BI.Entails.refl _
  · have hi : cfg0.idle 15 (cfg0.grid.coords t) = true := by
      show (!(k0_cond1 (grid0.coords t) == 1#1)) = true
      rw [Bool.not_eq_true', beq_eq_false_iff_ne]; exact fun h => h0 ((first_iff t).mp h)
    by_cases h7 : t.val = 7
    · have hf : (cfg0.win 15).flush t = true := (flush0_15 t).mpr (by omega)
      unfold Dat.leavesExact; rw [hi, hf, after_15]; exact Idealize.SL.BI.Entails.refl _
    · have hf : (cfg0.win 15).flush t = false := Bool.eq_false_iff.mpr fun h => by have := (flush0_15 t).mp h; omega
      rw [Dat.leavesExact_idle _ 15 t hi hf]
      iintro H
      iexists (outsAt m c t.val t.isLt).2.1
      rw [before_15 m c t h0, ← outsAt_carry m c t h0]
      iexact H

set_option maxHeartbeats 2000000 in
/-- What the runs leave is what the pipeline asks for. -/
theorem outs_post (c : Dev nD) (t : Fin cfg0.N) :
    iprop((dats m 0 c).Φ t.succ ∗ (dats m 0 c).owesAt () t.succ ∗ ins c (bufs t) (blks m c t)
      ∗ owns (c : Thread nD τ) (bufs t).a15 fullShare (outsAt m c t.val t.isLt).1
      ∗ owns (c : Thread nD τ) (bufs t).a16 fullShare (outsAt m c t.val t.isLt).2.1
      ∗ owns (c : Thread nD τ) (bufs t).a17 fullShare (outsAt m c t.val t.isLt).2.2.1) ⊢ bodyPost m c t := by
  unfold bodyPost ins
  rw [show (dats m 0 c).leavesExact 0 t = owns (c : Thread nD τ) (bufs t).a1 fullShare ((dats m 0 c).after 0 t) from rfl, after_0]
  rw [show (dats m 0 c).leavesExact 1 t = owns (c : Thread nD τ) (bufs t).a2 fullShare ((dats m 0 c).after 1 t) from rfl, after_1]
  rw [show (dats m 0 c).leavesExact 2 t = owns (c : Thread nD τ) (bufs t).a3 fullShare ((dats m 0 c).after 2 t) from rfl, after_2]
  rw [show (dats m 0 c).leavesExact 3 t = owns (c : Thread nD τ) (bufs t).a4 fullShare ((dats m 0 c).after 3 t) from rfl, after_3]
  rw [show (dats m 0 c).leavesExact 4 t = owns (c : Thread nD τ) (bufs t).a5 fullShare ((dats m 0 c).after 4 t) from rfl, after_4]
  rw [show (dats m 0 c).leavesExact 5 t = owns (c : Thread nD τ) (bufs t).a6 fullShare ((dats m 0 c).after 5 t) from rfl, after_5]
  rw [show (dats m 0 c).leavesExact 6 t = owns (c : Thread nD τ) (bufs t).a7 fullShare ((dats m 0 c).after 6 t) from rfl, after_6]
  rw [show (dats m 0 c).leavesExact 7 t = owns (c : Thread nD τ) (bufs t).a8 fullShare ((dats m 0 c).after 7 t) from rfl, after_7]
  rw [show (dats m 0 c).leavesExact 8 t = owns (c : Thread nD τ) (bufs t).a9 fullShare ((dats m 0 c).after 8 t) from rfl, after_8]
  rw [show (dats m 0 c).leavesExact 9 t = owns (c : Thread nD τ) (bufs t).a10 fullShare ((dats m 0 c).after 9 t) from rfl, after_9]
  rw [show (dats m 0 c).leavesExact 10 t = owns (c : Thread nD τ) (bufs t).a11 fullShare ((dats m 0 c).after 10 t) from rfl, after_10]
  rw [show (dats m 0 c).leavesExact 11 t = owns (c : Thread nD τ) (bufs t).a12 fullShare ((dats m 0 c).after 11 t) from rfl, after_11]
  rw [show (dats m 0 c).leavesExact 12 t = owns (c : Thread nD τ) (bufs t).a13 fullShare ((dats m 0 c).after 12 t) from rfl, after_12]
  rw [show (dats m 0 c).leavesExact 13 t = owns (c : Thread nD τ) (bufs t).a14 fullShare ((dats m 0 c).after 13 t) from rfl, after_13]
  rw [show (dats m 0 c).leavesExact 14 t = owns (c : Thread nD τ) (bufs t).a15 fullShare ((dats m 0 c).after 14 t) from rfl, after_14]
  rw [show (dats m 0 c).leavesExact 16 t = owns (c : Thread nD τ) (bufs t).a17 fullShare ((dats m 0 c).after 16 t) from rfl, after_16]
  iintro ⟨HI, HO, ⟨H0, H1, H2, H3, H4, H5, H6, H7, H8, H9, H10, H11, H12, H13⟩, H14, H15, H16⟩
  isplitl [HI]; · iexact HI
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iapply (post_15 m c t); iexact H15
  iexact H16

end Cert.Back
-- ==== Proof.BackSound.lean ====
/-
  The body of the input projection's backward meets the pipeline's obligation at every point.
-/
module

public import proofs.«01_k».proof.Proof.BackBody

@[expose] public section

-- memberships in rectangles over long axes are looked at coordinate by coordinate
set_option maxRecDepth 16384

noncomputable section

namespace Cert.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] outA outB outC runA runB runC View.canon outsAt copy0 copy1 copy2

variable (m : (ℓ : Loc nD τ sig) → Buf (Elt F) ℓ) (ρ : Dev nD → PrngReg)

theorem held_lt (c : Dev nD) (n : ℕ) (h : n ≠ 8) :
    heldAt m c n = iprop(hbPt c hb0 (V m c main_v13_3) ∗ hbPt c hb1 (V m c main_v13_4) ∗ hbPt c hb2 (V m c main_v13_5)) :=
  if_neg h

theorem held_8 (c : Dev nD) :
    heldAt m c 8 = iprop(hbPt c hb0 (left0 m c) ∗ hbPt c hb1 (left1 m c) ∗ hbPt c hb2 (left2 m c)) := if_pos rfl

set_option maxHeartbeats 4000000 in
/-- The first point. -/
theorem sound_first (c : Dev nD) (t : Fin cfg0.N) (h0 : t.val = 0) :
    bodyPre m c t ⊢ wp frame (wpE (defs₀ (F := F)) Variants.none c none) Set.univ (bodyOf (grid0.coords t) (bufs t)) (fun _ => bodyPost m c t) := by
  have hN : t.val < 8 := lt_of_lt_of_eq t.isLt (show cfg0.N = 8 from N_0)
  refine BIBase.Entails.trans (pre_ins m c t) ?_
  unfold Dat.owesAt Pipeline.owesWithin
  rw [show (dats m 0 c).owed t.castSucc = 0 from rfl]
  rw [inv_castSucc, invAt_zero m c _ _ h0, start_eq m c (V m)]
  iintro ⟨⟨⟨HS0, HS1, HS2⟩, Hg, ⟨Hq0, Hq1, Hq2⟩, -, Hh0, Hh1, Hh2⟩, ⟨%W, -, HW⟩, Hin, ⟨%d14, H14⟩, ⟨%d15, H15⟩, ⟨%d16, H16⟩⟩
  iapply (soundA c (grid0.coords t) (bufs t) ((first_iff t).mpr h0) (fun h => absurd ((final_iff t).mp h) (by omega)) (blks m c t) W _)
  isplitl [Hin]; · iexact Hin
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HW]; · iexact HW
  iintro ⟨Hin, H14, H15, H16, HS0, HS1, HS2, ⟨%W', HW'⟩⟩
  iapply (outs_post m c t)
  unfold Dat.owesAt Pipeline.owesWithin
  rw [show (dats m 0 c).owed t.succ = 0 from rfl]
  rw [show (dats m 0 c).Φ t.succ = invAt m c (t.val + 1) t.isLt from rfl, invAt_succ]
  rw [outsAt_A m c t h0, held_lt m c _ (by omega)]
  isplitl [HS0 HS1 HS2 Hg Hq0 Hq1 Hq2 Hh0 Hh1 Hh2]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [Hin]; · iexact Hin
  isplitl [H14]; · iexact H14
  isplitl [H15]; · iexact H15
  iexact H16

set_option maxHeartbeats 4000000 in
/-- The middle points. -/
theorem sound_middle (c : Dev nD) (t : Fin cfg0.N) (h0 : t.val ≠ 0) (h7 : t.val ≠ 7) :
    bodyPre m c t ⊢ wp frame (wpE (defs₀ (F := F)) Variants.none c none) Set.univ (bodyOf (grid0.coords t) (bufs t)) (fun _ => bodyPost m c t) := by
  have hN : t.val < 8 := lt_of_lt_of_eq t.isLt (show cfg0.N = 8 from N_0)
  refine BIBase.Entails.trans (pre_ins m c t) ?_
  unfold Dat.owesAt Pipeline.owesWithin
  rw [show (dats m 0 c).owed t.castSucc = 0 from rfl]
  simp only [before_15 m c t h0, before_16 m c t h0]
  rw [inv_castSucc, invAt_pos m c t h0]
  iintro ⟨⟨⟨HS0, HS1, HS2⟩, Hg, ⟨Hq0, Hq1, Hq2⟩, Hh0, Hh1, Hh2⟩, ⟨%W, -, HW⟩, Hin, ⟨%d14, H14⟩, ⟨%d15, H15⟩, ⟨%d16, H16⟩⟩
  iapply (soundB c (grid0.coords t) (bufs t) (fun h => h0 ((first_iff t).mp h)) (fun h => h7 ((final_iff t).mp h)) (blks m c t) (outsAt m c (t.val - 1) (pred_lt t)) W _)
  isplitl [Hin]; · iexact Hin
  isplitl [H14]; · iexists _; iexact H14
  isplitl [H16]; · iexact H16
  isplitl [HS0]; · iexact HS0
  isplitl [HS1]; · iexact HS1
  isplitl [HS2]; · iexact HS2
  isplitl [HW]; · iexact HW
  iintro ⟨Hin, H14, H16, HS0, HS1, HS2, ⟨%W', HW'⟩⟩
  iapply (outs_post m c t)
  unfold Dat.owesAt Pipeline.owesWithin
  rw [show (dats m 0 c).owed t.succ = 0 from rfl]
  rw [show (dats m 0 c).Φ t.succ = invAt m c (t.val + 1) t.isLt from rfl, invAt_succ]
  rw [outsAt_carry m c t h0]
  rw [outsAt_B m c t h0 h7, held_lt m c _ (by omega)]
  isplitl [HS0 HS1 HS2 Hg Hq0 Hq1 Hq2 Hh0 Hh1 Hh2]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [Hin]; · iexact Hin
  isplitl [H14]; · iexact H14
  isplitl [H15]; · iexact H15
  iexact H16

set_option maxHeartbeats 4000000 in
/-- The last point. -/
theorem sound_last (c : Dev nD) (t : Fin cfg0.N) (h7 : t.val = 7) :
    bodyPre m c t ⊢ wp frame (wpE (defs₀ (F := F)) Variants.none c none) Set.univ (bodyOf (grid0.coords t) (bufs t)) (fun _ => bodyPost m c t) := by
  have hN : t.val < 8 := lt_of_lt_of_eq t.isLt (show cfg0.N = 8 from N_0)
  have h0 : t.val ≠ 0 := by omega
  refine BIBase.Entails.trans (pre_ins m c t) ?_
  unfold Dat.owesAt Pipeline.owesWithin
  rw [show (dats m 0 c).owed t.castSucc = 0 from rfl]
  simp only [before_15 m c t h0, before_16 m c t h0]
  rw [inv_castSucc, invAt_pos m c t h0]
  iintro ⟨⟨⟨HS0, HS1, HS2⟩, Hg, ⟨Hq0, Hq1, Hq2⟩, Hh0, Hh1, Hh2⟩, ⟨%W, -, HW⟩, Hin, ⟨%d14, H14⟩, ⟨%d15, H15⟩, ⟨%d16, H16⟩⟩
  iapply (soundC c (grid0.coords t) (bufs t) (fun h => h0 ((first_iff t).mp h)) ((final_iff t).mpr h7) (blks m c t) (outsAt m c (t.val - 1) (pred_lt t)) (V m c main_v13_3) (V m c main_v13_4) (V m c main_v13_5) W _)
  isplitl [Hin]; · iexact Hin
  isplitl [H14]; · iexists _; iexact H14
  isplitl [H16]; · iexact H16
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨Hin, H14, H16, HS0, HS1, HS2, Hq0, Hq1, Hq2, Hh0, Hh1, Hh2, ⟨%W', HW'⟩⟩
  iapply (outs_post m c t)
  unfold Dat.owesAt Pipeline.owesWithin
  rw [show (dats m 0 c).owed t.succ = 0 from rfl]
  rw [show (dats m 0 c).Φ t.succ = invAt m c (t.val + 1) t.isLt from rfl, invAt_succ]
  rw [outsAt_carry m c t h0]
  rw [outsAt_C m c t h0 h7, show t.val + 1 = 8 from by omega, held_8, left0_at m c t h0 h7, left1_at m c t h0 h7, left2_at m c t h0 h7]
  unfold copied0 copied1 copied2
  isplitl [HS0 HS1 HS2 Hg Hq0 Hq1 Hq2 Hh0 Hh1 Hh2]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [Hin]; · iexact Hin
  isplitl [H14]; · iexact H14
  isplitl [H15]; · iexact H15
  iexact H16

/-- The body's triple at every point. -/
theorem sound_body (c : Dev nD) (t : Fin cfg0.N) :
    bodyPre m c t ⊢ wp frame (wpE (defs₀ (F := F)) Variants.none c none) Set.univ (bodyAt0 t) (fun _ => bodyPost m c t) := by
  rw [show bodyAt0 t = bodyOf (grid0.coords t) (bufs t) from rfl]
  by_cases h0 : t.val = 0
  · exact sound_first m c t h0
  · by_cases h7 : t.val = 7
    · exact sound_last m c t h7
    · exact sound_middle m c t h0 h7

/-- The pipeline's table holds this body. -/
theorem body_row (t : Fin cfg0.N) : defs₀ (F := F) .tc cfg0.body (cfg0.bodyArgs t (cfg0.slots t)) = bodyAt0 t := by
  unfold defs₀; rw [Defs.onTc_tc]

/-- What the pipeline asks of its body. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem invAt_congr (c : Dev nD) (n n' : ℕ) (h : n ≤ cfg0.N) (h' : n' ≤ cfg0.N) (e : n = n') : invAt m c n h = invAt m c n' h' := by
  subst e; rfl

/-- The launch hands the invariant over. -/
theorem inv_in (c : Dev nD) : Pipeline.ΦDRG cells spec0 readOnly written (V m) (V m) c ⊢ (dats m 0 c).Φ 0 := by
  rw [show (dats m 0 c).Φ 0 = invAt m c 0 (Nat.zero_le _) from rfl, invAt_zero m c _ _ rfl]
  try exact Idealize.SL.BI.Entails.refl _

/-- The last point's invariant gives the launch what it asks. -/
theorem inv_out (c : Dev nD) : (dats m 0 c).Φ (Fin.last cfg0.N) ⊢ Pipeline.ΦDRG cells spec0 readOnly written (V m) (leaves m) c := by
  have e : (dats m 0 c).Φ (Fin.last cfg0.N) = invAt m c (last.val + 1) last.isLt := by
    dsimp only [dats]; exact invAt_congr m c _ _ _ _ N_0
  rw [e, invAt_succ, start_eq m c (leaves m), show last.val + 1 = 8 from rfl, held_8, leaves_0, leaves_1, leaves_2]
  iintro ⟨⟨HS0, HS1, HS2⟩, Hg, Hq, Hh⟩
  isplitl [HS0 HS1 HS2]
  · isplitl [HS0]; · iexists _; iexact HS0
    isplitl [HS1]; · iexists _; iexact HS1
    iexists _; iexact HS2
  isplitl [Hg]; · iexact Hg
  isplitl [Hq]; · iexact Hq
  isplitr; · iempintro
  iexact Hh

end Cert.Back
-- ==== Proof.BackRun.lean ====
/-
  The run of the input projection's backward: every result at what the points leave, the arguments as they were, and
  every counter at zero.
-/
module

public import proofs.«01_k».proof.Proof.BackSound

@[expose] public section

-- memberships in rectangles over long axes are looked at coordinate by coordinate
set_option maxRecDepth 16384

noncomputable section

namespace Cert.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the launch's implicit arguments are found from its conclusion, through definitions in types
set_option backward.isDefEq.respectTransparency.types false in
/-- The launch. -/
theorem launched : θ_run defs (onTc (τ := τ) (main (F := F))) (s₀ m ρ)
    (fun r => Pipeline.FramePostRG cfgs (dats m) 0 written (V m) (leaves m) r ∧ r.2.sem = fun _ => 0) :=
  Pipeline.θ_run_frame_dmaRG_shared (Q' := _) cfgs (dats m) (0 : Fin 1) launch₀0 cells defs₀ Variants.none cellFacts readOnly written readOnly_sub written_sub m ρ main
    (hbody := fun c => (body_obligation m c).loose) (hq := fun _ _ _ => rfl)
    (howed := fun _ _ => rfl) (V := V m) (hmain := toRegion m Variants.none) (hA := A_eq m) (G := leaves m) (hin := inv_in m) (hout := inv_out m)

/-- The arguments end as they were. -/
theorem args_kept (r : PUnit × MemSt nD τ sig (Elt F)) (h : Pipeline.FramePostRG cfgs (dats m) 0 written (V m) (leaves m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h.toR c).1 0).trans (((dats m 0 c).arrAt_in 0 rfl _).trans ((A_eq m c 0).trans (V_main_arg0 m c))),
    ((h.toR c).1 1).trans (((dats m 0 c).arrAt_in 1 rfl _).trans ((A_eq m c 1).trans (V_main_arg1 m c))),
    ((h.toR c).1 2).trans (((dats m 0 c).arrAt_in 2 rfl _).trans ((A_eq m c 2).trans (V_main_arg2 m c))),
    ((h.toR c).1 5).trans (((dats m 0 c).arrAt_in 5 rfl _).trans ((A_eq m c 5).trans (V_main_arg3 m c))),
    ((h.toR c).1 6).trans (((dats m 0 c).arrAt_in 6 rfl _).trans ((A_eq m c 6).trans (V_main_arg4 m c))),
    ((h.toR c).1 7).trans (((dats m 0 c).arrAt_in 7 rfl _).trans ((A_eq m c 7).trans (V_main_arg5 m c))),
    ((h.toR c).1 8).trans (((dats m 0 c).arrAt_in 8 rfl _).trans ((A_eq m c 8).trans (V_main_arg6 m c))),
    ((h.toR c).1 9).trans (((dats m 0 c).arrAt_in 9 rfl _).trans ((A_eq m c 9).trans (V_main_arg7 m c))),
    ((h.toR c).1 11).trans (((dats m 0 c).arrAt_in 11 rfl _).trans ((A_eq m c 11).trans (V_main_arg8 m c))),
    ((h.toR c).1 12).trans (((dats m 0 c).arrAt_in 12 rfl _).trans ((A_eq m c 12).trans (V_main_arg9 m c))),
    ((h.toR c).1 13).trans (((dats m 0 c).arrAt_in 13 rfl _).trans ((A_eq m c 13).trans (V_main_arg10 m c)))⟩

/-- The frame, over any floats. -/
theorem framed : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_kept m r h.1 c, h.2⟩) (launched m ρ)

end Cert.Back
-- ==== Proof.BackVal.lean ====
/-
  The six results of the input projection's backward: the two accumulated gradients that leave through the pipeline, the
  row-blocked one, and the three that the last point copies, each as a function of the argument arrays.
-/
module

public import proofs.«01_k».proof.Proof.BackIn
public import proofs.«01_k».proof.Proof.BackRun

@[expose] public section

noncomputable section

namespace Cert.Back

open Cert.Kernel2Ideal Cert.Kernel2Ideal.Gen Cert.Scale
open Idealize.ShloMosaic Idealize.ShloMosaic.TcCoe Idealize.SL.Sem
open Idealize.ShloMosaic.Pipeline (Dat)

attribute [local irreducible] outA outB outC runA runB runC View.canon outsAt copy0 copy1 copy2

variable (m : (ℓ : Loc nD τ sig) → Buf (Elt Ideal) ℓ) (c : Dev nD)

/-- Of the eight points, the first is the one whose number eight divides. -/
theorem first_of (t : Fin cfg0.N) (h : t.val % 8 = 0) : t.val = 0 := by
  have hN : t.val < 8 := lt_of_lt_of_eq t.isLt (show cfg0.N = 8 from N_0)
  omega
theorem later_of (t : Fin cfg0.N) (h : ¬t.val % 8 = 0) : t.val ≠ 0 := fun e => h (by rw [e])

/-! ## The row-blocked result -/

theorem step15 (t : Fin cfg0.N) (j : S512x1024.Idx) : (outsAt m c t.val t.isLt).1 j = bDx (blks m c t) j := by
  by_cases h0 : t.val = 0
  · rw [outsAt_A m c t h0]; exact a15 _ _ _ _ _ _ j
  by_cases h7 : t.val = 7
  · rw [outsAt_C m c t h0 h7]; exact c15 _ _ _ _ _ _ _ _ _ _ j
  · rw [outsAt_B m c t h0 h7]; exact b15 _ _ _ _ _ _ _ j

theorem emb14 (t : Fin cfg0.N) (r : Fin 512) (l : Fin 1024) : (win0_14.blk t).view.emb (ix2 r l) = ix2 (row t r) l := by
  blk_ext [ix_14 t, row]

theorem final14 : (dats m 0 c).arrAt 14 cfg0.N = y0 (kArgs m c) := by
  refine (dats m 0 c).arrAt_eq_of_covers 14 _ (by decide +kernel) fun t hf y => ?_
  blk_simp
  rw [after_14, step15]
  obtain ⟨r, l, rfl⟩ : ∃ r l, y = ix2 r l := ⟨y 0, y 1, by idx_ext⟩
  exact (bDx_at m c t r l).trans (congrArg (y0 (kArgs m c)) (emb14 t r l)).symm

/-! ## The leading rows' gradient -/

theorem lead_at : ∀ (n : ℕ) (hn : n < cfg0.N) (r : Fin 64) (l : Fin 1024), (outsAt m c n hn).2.1 (ix2 r l) = y1 (kArgs m c) (ix2 r l)
  | 0, hn, r, l => by
    refine (congrFun (congrArg (fun o => o.2.1) (outsAt_A m c ⟨0, hn⟩ rfl)) (ix2 r l)).trans ?_
    exact (a16 _ _ _ _ _ _ _).trans (dx0_is m c ⟨0, hn⟩ r l)
  | n + 1, hn, r, l => by
    refine (congrFun (outsAt_carry m c ⟨n + 1, hn⟩ (Nat.succ_ne_zero n)) (ix2 r l)).trans ?_
    exact lead_at n (Nat.lt_of_succ_lt hn) r l

theorem final15 : (dats m 0 c).arrAt 15 cfg0.N = y1 (kArgs m c) := by
  refine (dats m 0 c).arrAt_eq_of_after_last 15 last (by decide +kernel) _ fun j => ?_
  blk_simp
  obtain ⟨r, l, rfl⟩ : ∃ r l, j = ix2 r l := ⟨j 0, j 1, by idx_ext⟩
  rw [after_15]
  exact lead_at m c _ _ r l

/-! ## The accumulated gradients -/

theorem step17 (l : Fin 1024) : (outsAt m c last.val last.isLt).2.2.1 (ix2 0 l) = y2 (kArgs m c) (ix2 0 l) := by
  refine (Pipeline.eq_sum_fin_of_reset_step_apply_last (fun n h (l : Fin 1024) => ((outsAt m c n h).2.2.1 (ix2 0 l) : EReal)) 8
    (fun l => sDg (kArgs m c).lead (kArgs m c) l) (fun t l => termG m c t l)
    (fun t h l => ?_) (fun t h l => ?_) (le_of_eq N_0) last rfl l).trans (congrArg (_ + ·) (sum_termG m c l))
  · refine (congrFun (congrArg (fun o => o.2.2.1) (outsAt_A m c t (first_of t h))) (ix2 0 l)).trans ?_
    exact (a17 _ _ _ _ _ _ _).trans ((addG_is m c t _ l).trans (congrArg (· + _) (dg0_is m c t l)))
  · by_cases h7 : t.val = 7
    · refine (congrFun (congrArg (fun o => o.2.2.1) (outsAt_C m c t (later_of t h) h7)) (ix2 0 l)).trans ?_
      exact (c17 _ _ _ _ _ _ _ _ _ _ _).trans (addG_is m c t _ l)
    · refine (congrFun (congrArg (fun o => o.2.2.1) (outsAt_B m c t (later_of t h) h7)) (ix2 0 l)).trans ?_
      exact (b17 _ _ _ _ _ _ _ _).trans (addG_is m c t _ l)

theorem final16 : (dats m 0 c).arrAt 16 cfg0.N = y2 (kArgs m c) := by
  refine (dats m 0 c).arrAt_eq_of_after_last 16 last (by decide +kernel) _ fun j => ?_
  blk_simp
  obtain ⟨l, rfl⟩ : ∃ l, j = ix2 0 l := ⟨j 1, by idx_ext⟩
  rw [after_16]
  exact step17 m c l

theorem step21 (r : Fin 2048) (l : Fin 1024) : (outsAt m c last.val last.isLt).2.2.2.1 (ix2 r l) = y3 (kArgs m c) (ix2 r l) := by
  refine (Pipeline.eq_sum_fin_of_reset_step_apply_last (fun n h (j : Fin 2048 × Fin 1024) => ((outsAt m c n h).2.2.2.1 (ix2 j.1 j.2) : EReal)) 8
    (fun j => sDw (kArgs m c).lead (kArgs m c) (kArgs m c).lead.P0 j.1 j.2) (fun t j => termW m c t (kArgs m c).rows.P0 j.1 j.2)
    (fun t h j => ?_) (fun t h j => ?_) (le_of_eq N_0) last rfl (r, l)).trans (congrArg (_ + ·) (sum_termW m c (kArgs m c).rows.P0 r l))
  · refine (congrFun (congrArg (fun o => o.2.2.2.1) (outsAt_A m c t (first_of t h))) (ix2 j.1 j.2)).trans ?_
    exact (a21 _ _ _ _ _ _ _ _).trans (congrArg₂ _ (setW_is m c t _ _ (in11 m c t) j.1 j.2) (addW_is m c t _ _ (in0 m c t) j.1 j.2))
  · by_cases h7 : t.val = 7
    · refine (congrFun (congrArg (fun o => o.2.2.2.1) (outsAt_C m c t (later_of t h) h7)) (ix2 j.1 j.2)).trans ?_
      exact (c21 _ _ _ _ _ _ _ _ _ _ _ _).trans (congrArg (_ + ·) (addW_is m c t _ _ (in0 m c t) j.1 j.2))
    · refine (congrFun (congrArg (fun o => o.2.2.2.1) (outsAt_B m c t (later_of t h) h7)) (ix2 j.1 j.2)).trans ?_
      exact (b21 _ _ _ _ _ _ _ _ _).trans (congrArg (_ + ·) (addW_is m c t _ _ (in0 m c t) j.1 j.2))

theorem copied0_is (t : Fin cfg0.N) (h0 : t.val ≠ 0) (h7 : t.val = 7) (j : S2048x1024.Idx) :
    copied0 m c t h0 h7 j = (outsAt m c t.val t.isLt).2.2.2.1 j := by
  unfold copied0
  refine (copy0_is _ _ _ _ _ _ _ _ _ _ j).trans ?_
  exact (congrFun (congrArg (fun o => o.2.2.2.1) (outsAt_C m c t h0 h7)) j).symm

theorem final_0 : leaves m c main_v13_3 = y3 (kArgs m c) := by
  rw [leaves_0]
  funext j
  obtain ⟨r, l, rfl⟩ : ∃ (r : Fin 2048) (l : Fin 1024), j = ix2 r l := ⟨j 0, j 1, by idx_ext⟩
  exact (congrFun (left0_at m c last (by decide) rfl) (ix2 r l)).trans ((copied0_is m c last (by decide) rfl (ix2 r l)).trans (step21 m c r l))

theorem step22 (r : Fin 2048) (l : Fin 1024) : (outsAt m c last.val last.isLt).2.2.2.2.1 (ix2 r l) = y4 (kArgs m c) (ix2 r l) := by
  refine (Pipeline.eq_sum_fin_of_reset_step_apply_last (fun n h (j : Fin 2048 × Fin 1024) => ((outsAt m c n h).2.2.2.2.1 (ix2 j.1 j.2) : EReal)) 8
    (fun j => sDw (kArgs m c).lead (kArgs m c) (kArgs m c).lead.P1 j.1 j.2) (fun t j => termW m c t (kArgs m c).rows.P1 j.1 j.2)
    (fun t h j => ?_) (fun t h j => ?_) (le_of_eq N_0) last rfl (r, l)).trans (congrArg (_ + ·) (sum_termW m c (kArgs m c).rows.P1 r l))
  · refine (congrFun (congrArg (fun o => o.2.2.2.2.1) (outsAt_A m c t (first_of t h))) (ix2 j.1 j.2)).trans ?_
    exact (a22 _ _ _ _ _ _ _ _).trans (congrArg₂ _ (setW_is m c t _ _ (in12 m c t) j.1 j.2) (addW_is m c t _ _ (in1 m c t) j.1 j.2))
  · by_cases h7 : t.val = 7
    · refine (congrFun (congrArg (fun o => o.2.2.2.2.1) (outsAt_C m c t (later_of t h) h7)) (ix2 j.1 j.2)).trans ?_
      exact (c22 _ _ _ _ _ _ _ _ _ _ _ _).trans (congrArg (_ + ·) (addW_is m c t _ _ (in1 m c t) j.1 j.2))
    · refine (congrFun (congrArg (fun o => o.2.2.2.2.1) (outsAt_B m c t (later_of t h) h7)) (ix2 j.1 j.2)).trans ?_
      exact (b22 _ _ _ _ _ _ _ _ _).trans (congrArg (_ + ·) (addW_is m c t _ _ (in1 m c t) j.1 j.2))

theorem copied1_is (t : Fin cfg0.N) (h0 : t.val ≠ 0) (h7 : t.val = 7) (j : S2048x1024.Idx) :
    copied1 m c t h0 h7 j = (outsAt m c t.val t.isLt).2.2.2.2.1 j := by
  unfold copied1
  refine (copy1_is _ _ _ _ _ _ _ _ _ _ j).trans ?_
  exact (congrFun (congrArg (fun o => o.2.2.2.2.1) (outsAt_C m c t h0 h7)) j).symm

theorem final_1 : leaves m c main_v13_4 = y4 (kArgs m c) := by
  rw [leaves_1]
  funext j
  obtain ⟨r, l, rfl⟩ : ∃ (r : Fin 2048) (l : Fin 1024), j = ix2 r l := ⟨j 0, j 1, by idx_ext⟩
  exact (congrFun (left1_at m c last (by decide) rfl) (ix2 r l)).trans ((copied1_is m c last (by decide) rfl (ix2 r l)).trans (step22 m c r l))

theorem step23 (r : Fin 128) (l : Fin 1024) : (outsAt m c last.val last.isLt).2.2.2.2.2 (ix2 r l) = y5 (kArgs m c) (ix2 r l) := by
  refine (Pipeline.eq_sum_fin_of_reset_step_apply_last (fun n h (j : Fin 128 × Fin 1024) => ((outsAt m c n h).2.2.2.2.2 (ix2 j.1 j.2) : EReal)) 8
    (fun j => sDw (kArgs m c).lead (kArgs m c) (kArgs m c).lead.P2 j.1 j.2) (fun t j => termW m c t (kArgs m c).rows.P2 j.1 j.2)
    (fun t h j => ?_) (fun t h j => ?_) (le_of_eq N_0) last rfl (r, l)).trans (congrArg (_ + ·) (sum_termW m c (kArgs m c).rows.P2 r l))
  · refine (congrFun (congrArg (fun o => o.2.2.2.2.2) (outsAt_A m c t (first_of t h))) (ix2 j.1 j.2)).trans ?_
    exact (a23 _ _ _ _ _ _ _ _).trans (congrArg₂ _ (setW_is m c t _ _ (in13 m c t) j.1 j.2) (addW_is m c t _ _ (in2 m c t) j.1 j.2))
  · by_cases h7 : t.val = 7
    · refine (congrFun (congrArg (fun o => o.2.2.2.2.2) (outsAt_C m c t (later_of t h) h7)) (ix2 j.1 j.2)).trans ?_
      exact (c23 _ _ _ _ _ _ _ _ _ _ _ _).trans (congrArg (_ + ·) (addW_is m c t _ _ (in2 m c t) j.1 j.2))
    · refine (congrFun (congrArg (fun o => o.2.2.2.2.2) (outsAt_B m c t (later_of t h) h7)) (ix2 j.1 j.2)).trans ?_
      exact (b23 _ _ _ _ _ _ _ _ _).trans (congrArg (_ + ·) (addW_is m c t _ _ (in2 m c t) j.1 j.2))

theorem copied2_is (t : Fin cfg0.N) (h0 : t.val ≠ 0) (h7 : t.val = 7) (j : S128x1024.Idx) :
    copied2 m c t h0 h7 j = (outsAt m c t.val t.isLt).2.2.2.2.2 j := by
  unfold copied2
  refine (copy2_is _ _ _ _ _ _ _ _ _ _ j).trans ?_
  exact (congrFun (congrArg (fun o => o.2.2.2.2.2) (outsAt_C m c t h0 h7)) j).symm

theorem final_2 : leaves m c main_v13_5 = y5 (kArgs m c) := by
  rw [leaves_2]
  funext j
  obtain ⟨r, l, rfl⟩ : ∃ (r : Fin 128) (l : Fin 1024), j = ix2 r l := ⟨j 0, j 1, by idx_ext⟩
  exact (congrFun (left2_at m c last (by decide) rfl) (ix2 r l)).trans ((copied2_is m c last (by decide) rfl (ix2 r l)).trans (step23 m c r l))

/-- The launch leaves the six gradients of its arguments, and its arguments as they were. -/
theorem valued (ρ : Dev nD → PrngReg) : θ_run (defs (F := Ideal)) (onTc (τ := τ) (main (F := Ideal))) ⟨m, fun _ => 0, ρ⟩ (fun r => ∀ c : Dev nD,
    r.2.mem ((c.tc : Thread nD τ).loc main_v13_0) = y0 (kArgs m c)
      ∧ r.2.mem ((c.tc : Thread nD τ).loc main_v13_1) = y1 (kArgs m c)
      ∧ r.2.mem ((c.tc : Thread nD τ).loc main_v13_2) = y2 (kArgs m c)
      ∧ r.2.mem ((c.tc : Thread nD τ).loc main_v13_3) = y3 (kArgs m c)
      ∧ r.2.mem ((c.tc : Thread nD τ).loc main_v13_4) = y4 (kArgs m c)
      ∧ r.2.mem ((c.tc : Thread nD τ).loc main_v13_5) = y5 (kArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h.1.toR c).1 14).trans (final14 m c), ((h.1.toR c).1 15).trans (final15 m c),
    ((h.1.toR c).1 16).trans (final16 m c), (h.1.written c (by decide)).trans (final_0 m c), (h.1.written c (by decide)).trans (final_1 m c),
    (h.1.written c (by decide)).trans (final_2 m c), args_kept m r h.1 c⟩) (launched m ρ)

end Cert.Back
-- ==== Proof.BackRef.lean ====
/-
  The reference of the input projection's backward: its intermediate arrays in the order of its operations, each read
  entry by entry, and its six results as the functions of the argument arrays that the kernel's results are.
-/
module

public import proofs.«01_k».proof.Proof.BackSpec
public import proofs.«01_k».proof.Proof.Gen.Reference2Ideal.Run

@[expose] public section

noncomputable section

namespace Cert.Reference2Ideal.Value

open Cert.Reference2Ideal Cert.Reference2Ideal.Gen Cert.Back Cert.Scale Idealize.ShloMosaic Idealize.ShloMosaic.TcCoe Idealize.SL.Sem

variable (W : FVec Ideal S4224x1024 .bf16) (G : FVec Ideal S1x1024 .f32)

/-! ## The rows -/

section Main

variable (P0 P1 : FVec Ideal S4096x2048 .bf16) (P2 : FVec Ideal S4096x128 .bf16) (H D U : FVec Ideal S4096x1024 .f32)

/-- The gradient by the projection's output, its three parts side by side. -/
def mC : FVec Ideal S4096x4224 .f32 :=
  concatenate S4096x4224 1 [⟨S4096x2048, extf .f32 P0 bitsLt_bf16_f32⟩, ⟨S4096x2048, extf .f32 P1 bitsLt_bf16_f32⟩, ⟨S4096x128, extf .f32 P2 bitsLt_bf16_f32⟩]
    concatenates_S4096x2048_S4096x2048_S4096x128_S4096x4224_d1
/-- The gradient by the projection's input. -/
def mDu (C : FVec Ideal S4096x4224 .f32) : FVec Ideal S4096x1024 .f32 :=
  Host.dotGeneral dot_S4096x4224_S4224x1024_S4096x1024_1_0_0_1_n_n none C (extf .f32 W bitsLt_bf16_f32)
/-- The means of squares. -/
def mMs : FVec Ideal S4096x1 .f32 :=
  addf (Host.divf (broadcastInDim S4096x1 ![0] bcast_S4096_S4096x1_0 (Host.reduceAdd (mulf H H) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
/-- The normalised rows. -/
def mN : FVec Ideal S4096x1024 .f32 :=
  mulf H (broadcastInDim S4096x1024 ![0, 1] bcast_S4096x1_S4096x1024_0_1 (Host.rsqrt (mMs H)))
/-- Rows times the norm's scale. -/
def mS : FVec Ideal S4096x1024 .f32 :=
  mulf D (broadcastInDim S4096x1024 ![0, 1] bcast_S1x1024_S4096x1024_0_1 G)
/-- The scale of each row in the derivative of its mean of squares. -/
def mCo : FVec Ideal S4096x1024 .f32 :=
  broadcastInDim S4096x1024 ![0] bcast_S4096_S4096x1024_0 (Host.reduceAdd
    (Host.divf (mulf (shapeCast _ (Host.reduceAdd (mulf H D) (constant S_ .f32 0x00000000#32) reducesTo_S4096x1024_S4096_d1 h_S_) shapeCasts_S4096_S4096x1)
        (mulf (broadcastInDim S4096x1 ![] bcast_S_S4096x1 (constant S_ .f32 0xBF000000#32)) (Host.divf (Host.rsqrt (mMs H)) (mMs H))))
      (broadcastInDim S4096x1 ![] bcast_S_S4096x1 (constant S_ .f32 0x44800000#32)))
    (constant S_ .f32 0x00000000#32) reducesTo_S4096x1_S4096_d1 h_S_)
/-- The gradient by the rows, through the norm. -/
def mDh (C : FVec Ideal S4096x1024 .f32) : FVec Ideal S4096x1024 .f32 :=
  addf (addf (mulf D (broadcastInDim S4096x1024 ![0, 1] bcast_S4096x1_S4096x1024_0_1 (Host.rsqrt (mMs H)))) (mulf H C)) (mulf C H)
/-- The rows' part of the gradient by the norm's scale. -/
def mDg : FVec Ideal S1x1024 .f32 :=
  shapeCast _ (Host.reduceAdd (mulf H D) (constant S_ .f32 0x00000000#32) reducesTo_S4096x1024_S1024_d0 h_S_) shapeCasts_S1024_S1x1024
/-- The rows' part of the gradient by the weights. -/
def mDw (C : FVec Ideal S4096x4224 .f32) : FVec Ideal S4224x1024 .f32 :=
  Host.dotGeneral dot_S4096x4224_S4096x1024_S4224x1024_0_0_1_1_n_n none C U

theorem mC_0 (R : Fin 4096) (k : Fin 2048) : mC P0 P1 P2 (ix2 R (w0 k)) = P0 (ix2 R k) := by
  unfold w0; pointwise [mC]
theorem mC_1 (R : Fin 4096) (k : Fin 2048) : mC P0 P1 P2 (ix2 R (w1 k)) = P1 (ix2 R k) := by
  unfold w1; pointwise [mC]
theorem mC_2 (R : Fin 4096) (k : Fin 128) : mC P0 P1 P2 (ix2 R (w2 k)) = P2 (ix2 R k) := by
  unfold w2; pointwise [mC]
  rw [dif_neg (by omega), dif_neg (by omega)]
  exact congrArg P2 (congrArg (ix2 R) (Fin.ext (by show 4096 + k.val - 2048 - 2048 = k.val; omega)))
theorem mDu_at (C : FVec Ideal S4096x4224 .f32) (R : Fin 4096) (l : Fin 1024) : mDu W C (ix2 R l) = ∑ k : Fin 4224, C (ix2 R k) * W (ix2 k l) := by
  pointwise [mDu]
theorem mMs_at (R : Fin 4096) (j : Fin 1) : mMs H (ix2 R j) = meanSq (fun l => H (ix2 R l)) := by
  unfold meanSq
  pointwise [mMs]
theorem mN_at (R : Fin 4096) (l : Fin 1024) : mN H (ix2 R l) = rowNorm (fun l => H (ix2 R l)) l := by
  unfold rowNorm rinv
  rw [← mMs_at H R 0]
  pointwise [mN]
theorem mS_at (R : Fin 4096) (l : Fin 1024) : mS G D (ix2 R l) = D (ix2 R l) * G (ix2 0 l) := by
  pointwise [mS]
theorem mCo_at (R : Fin 4096) (l : Fin 1024) : mCo H D (ix2 R l) = rmsCo (fun l => H (ix2 R l)) (fun l => D (ix2 R l)) := by
  unfold rmsCo rinv
  rw [← mMs_at H R 0]
  pointwise [mCo]
  exact (Fin.sum_univ_one _).trans rfl
theorem mDh_at (C : FVec Ideal S4096x1024 .f32) (R : Fin 4096) (l : Fin 1024) :
    mDh H D C (ix2 R l) = D (ix2 R l) * rinv (fun l => H (ix2 R l)) + H (ix2 R l) * C (ix2 R l) + C (ix2 R l) * H (ix2 R l) := by
  unfold rinv
  rw [← mMs_at H R 0]
  pointwise [mDh]
theorem mDg_at (l : Fin 1024) : mDg H D (ix2 0 l) = ∑ R, D (ix2 R l) * H (ix2 R l) := by
  refine Eq.trans ?_ (Finset.sum_congr rfl fun R _ => mul_comm _ _)
  pointwise [mDg]
theorem mDw_at (C : FVec Ideal S4096x4224 .f32) (r : Fin 4224) (l : Fin 1024) : mDw U C (ix2 r l) = ∑ R, C (ix2 R r) * U (ix2 R l) := by
  pointwise [mDw]

end Main

/-! ## The leading rows -/

section Lead

variable (P0 P1 : FVec Ideal S64x2048 .bf16) (P2 : FVec Ideal S64x128 .bf16) (H D U : FVec Ideal S64x1024 .f32)

/-- The gradient by the projection's output, its three parts side by side. -/
def lC : FVec Ideal S64x4224 .f32 :=
  concatenate S64x4224 1 [⟨S64x2048, extf .f32 P0 bitsLt_bf16_f32⟩, ⟨S64x2048, extf .f32 P1 bitsLt_bf16_f32⟩, ⟨S64x128, extf .f32 P2 bitsLt_bf16_f32⟩]
    concatenates_S64x2048_S64x2048_S64x128_S64x4224_d1
/-- The gradient by the projection's input. -/
def lDu (C : FVec Ideal S64x4224 .f32) : FVec Ideal S64x1024 .f32 :=
  Host.dotGeneral dot_S64x4224_S4224x1024_S64x1024_1_0_0_1_n_n none C (extf .f32 W bitsLt_bf16_f32)
/-- The means of squares. -/
def lMs : FVec Ideal S64x1 .f32 :=
  addf (Host.divf (broadcastInDim S64x1 ![0] bcast_S64_S64x1_0 (Host.reduceAdd (mulf H H) (constant S_ .f32 0x00000000#32) reducesTo_S64x1024_S64_d1 h_S_))
    (broadcastInDim S64x1 ![] bcast_S_S64x1 (constant S_ .f32 0x44800000#32))) (broadcastInDim S64x1 ![] bcast_S_S64x1 (constant S_ .f32 0x358637BD#32))
/-- The normalised rows. -/
def lN : FVec Ideal S64x1024 .f32 :=
  mulf H (broadcastInDim S64x1024 ![0, 1] bcast_S64x1_S64x1024_0_1 (Host.rsqrt (lMs H)))
/-- Rows times the norm's scale. -/
def lS : FVec Ideal S64x1024 .f32 :=
  mulf D (broadcastInDim S64x1024 ![0, 1] bcast_S1x1024_S64x1024_0_1 G)
/-- The scale of each row in the derivative of its mean of squares. -/
def lCo : FVec Ideal S64x1024 .f32 :=
  broadcastInDim S64x1024 ![0] bcast_S64_S64x1024_0 (Host.reduceAdd
    (Host.divf (mulf (shapeCast _ (Host.reduceAdd (mulf H D) (constant S_ .f32 0x00000000#32) reducesTo_S64x1024_S64_d1 h_S_) shapeCasts_S64_S64x1)
        (mulf (broadcastInDim S64x1 ![] bcast_S_S64x1 (constant S_ .f32 0xBF000000#32)) (Host.divf (Host.rsqrt (lMs H)) (lMs H))))
      (broadcastInDim S64x1 ![] bcast_S_S64x1 (constant S_ .f32 0x44800000#32)))
    (constant S_ .f32 0x00000000#32) reducesTo_S64x1_S64_d1 h_S_)
/-- The gradient by the leading rows, through the norm. -/
def lDh (C : FVec Ideal S64x1024 .f32) : FVec Ideal S64x1024 .f32 :=
  addf (addf (mulf D (broadcastInDim S64x1024 ![0, 1] bcast_S64x1_S64x1024_0_1 (Host.rsqrt (lMs H)))) (mulf H C)) (mulf C H)
/-- The leading rows' part of the gradient by the norm's scale. -/
def lDg : FVec Ideal S1x1024 .f32 :=
  shapeCast _ (Host.reduceAdd (mulf H D) (constant S_ .f32 0x00000000#32) reducesTo_S64x1024_S1024_d0 h_S_) shapeCasts_S1024_S1x1024
/-- The leading rows' part of the gradient by the weights. -/
def lDw (C : FVec Ideal S64x4224 .f32) : FVec Ideal S4224x1024 .f32 :=
  Host.dotGeneral dot_S64x4224_S64x1024_S4224x1024_0_0_1_1_n_n none C U

theorem lC_0 (R : Fin 64) (k : Fin 2048) : lC P0 P1 P2 (ix2 R (w0 k)) = P0 (ix2 R k) := by
  unfold w0; pointwise [lC]
theorem lC_1 (R : Fin 64) (k : Fin 2048) : lC P0 P1 P2 (ix2 R (w1 k)) = P1 (ix2 R k) := by
  unfold w1; pointwise [lC]
theorem lC_2 (R : Fin 64) (k : Fin 128) : lC P0 P1 P2 (ix2 R (w2 k)) = P2 (ix2 R k) := by
  unfold w2; pointwise [lC]
  rw [dif_neg (by omega), dif_neg (by omega)]
  exact congrArg P2 (congrArg (ix2 R) (Fin.ext (by show 4096 + k.val - 2048 - 2048 = k.val; omega)))
theorem lDu_at (C : FVec Ideal S64x4224 .f32) (R : Fin 64) (l : Fin 1024) : lDu W C (ix2 R l) = ∑ k : Fin 4224, C (ix2 R k) * W (ix2 k l) := by
  pointwise [lDu]
theorem lMs_at (R : Fin 64) (j : Fin 1) : lMs H (ix2 R j) = meanSq (fun l => H (ix2 R l)) := by
  unfold meanSq
  pointwise [lMs]
theorem lN_at (R : Fin 64) (l : Fin 1024) : lN H (ix2 R l) = rowNorm (fun l => H (ix2 R l)) l := by
  unfold rowNorm rinv
  rw [← lMs_at H R 0]
  pointwise [lN]
theorem lS_at (R : Fin 64) (l : Fin 1024) : lS G D (ix2 R l) = D (ix2 R l) * G (ix2 0 l) := by
  pointwise [lS]
theorem lCo_at (R : Fin 64) (l : Fin 1024) : lCo H D (ix2 R l) = rmsCo (fun l => H (ix2 R l)) (fun l => D (ix2 R l)) := by
  unfold rmsCo rinv
  rw [← lMs_at H R 0]
  pointwise [lCo]
  exact (Fin.sum_univ_one _).trans rfl
theorem lDh_at (C : FVec Ideal S64x1024 .f32) (R : Fin 64) (l : Fin 1024) :
    lDh H D C (ix2 R l) = D (ix2 R l) * rinv (fun l => H (ix2 R l)) + H (ix2 R l) * C (ix2 R l) + C (ix2 R l) * H (ix2 R l) := by
  unfold rinv
  rw [← lMs_at H R 0]
  pointwise [lDh]
theorem lDg_at (l : Fin 1024) : lDg H D (ix2 0 l) = ∑ R, D (ix2 R l) * H (ix2 R l) := by
  refine Eq.trans ?_ (Finset.sum_congr rfl fun R _ => mul_comm _ _)
  pointwise [lDg]
theorem lDw_at (C : FVec Ideal S64x4224 .f32) (r : Fin 4224) (l : Fin 1024) : lDw U C (ix2 r l) = ∑ R, C (ix2 R r) * U (ix2 R l) := by
  pointwise [lDw]

end Lead

/-! ## The results -/

section Results

variable (m : (ℓ : Loc nD τ sig) → Buf (Elt Ideal) ℓ) (c : Dev nD)

/-- The argument arrays. -/
def rArgs : Args where
  rows := ⟨m ((c.tc : Thread nD τ).loc main_arg4), m ((c.tc : Thread nD τ).loc main_arg0), m ((c.tc : Thread nD τ).loc main_arg1),
    m ((c.tc : Thread nD τ).loc main_arg2)⟩
  lead := ⟨m ((c.tc : Thread nD τ).loc main_arg7), m ((c.tc : Thread nD τ).loc main_arg8), m ((c.tc : Thread nD τ).loc main_arg9),
    m ((c.tc : Thread nD τ).loc main_arg10)⟩
  D := m ((c.tc : Thread nD τ).loc main_arg5)
  W := m ((c.tc : Thread nD τ).loc main_arg3)
  G := m ((c.tc : Thread nD τ).loc main_arg6)

variable (a : Args)

/-- The gradient by the projection's output, and by its input, of the argument arrays. -/
abbrev mC1 : FVec Ideal S4096x4224 .f32 := mC a.rows.P0 a.rows.P1 a.rows.P2
abbrev lC1 : FVec Ideal S64x4224 .f32 := lC a.lead.P0 a.lead.P1 a.lead.P2
abbrev mDu1 : FVec Ideal S4096x1024 .f32 := mDu a.W (mC1 a)
abbrev lDu1 : FVec Ideal S64x1024 .f32 := lDu a.W (lC1 a)
/-- The gradient by the weights. -/
def rDw : FVec Ideal S4224x1024 .f32 :=
  addf (lDw (lS a.G (lN a.lead.H)) (lC1 a)) (mDw (mS a.G (mN a.rows.H)) (mC1 a))

theorem mDu1_at (R : Fin 4096) (l : Fin 1024) : mDu1 a (ix2 R l) = sDu a.rows a R l := by
  rw [mDu1, mDu_at, sum_parts]
  unfold sDu rowDu
  refine congrArg₂ _ (congrArg₂ _ (sumc fun k => ?_) (sumc fun k => ?_)) (sumc fun k => ?_)
  · rw [mC1, mC_0]
  · rw [mC1, mC_1]
  · rw [mC1, mC_2]

theorem lDu1_at (R : Fin 64) (l : Fin 1024) : lDu1 a (ix2 R l) = sDu a.lead a R l := by
  rw [lDu1, lDu_at, sum_parts]
  unfold sDu rowDu
  refine congrArg₂ _ (congrArg₂ _ (sumc fun k => ?_) (sumc fun k => ?_)) (sumc fun k => ?_)
  · rw [lC1, lC_0]
  · rw [lC1, lC_1]
  · rw [lC1, lC_2]

theorem mD_row (R : Fin 4096) : (fun l => mS a.G (mDu1 a) (ix2 R l)) = fun l => sDu a.rows a R l * a.G (ix2 0 l) :=
  funext fun l => by rw [mS_at, mDu1_at]
theorem lD_row (R : Fin 64) : (fun l => lS a.G (lDu1 a) (ix2 R l)) = fun l => sDu a.lead a R l * a.G (ix2 0 l) :=
  funext fun l => by rw [lS_at, lDu1_at]

/-- The gradients by the rows, through the norm. -/
def mB : FVec Ideal S4096x1024 .f32 := mDh a.rows.H (mS a.G (mDu1 a)) (mCo a.rows.H (mS a.G (mDu1 a)))
def lB : FVec Ideal S64x1024 .f32 := lDh a.lead.H (lS a.G (lDu1 a)) (lCo a.lead.H (lS a.G (lDu1 a)))

theorem mB_at (R : Fin 4096) (l : Fin 1024) : mB a (ix2 R l) = sDh a.rows a R l := by
  rw [mB, mDh_at, mCo_at, mD_row, mS_at, mDu1_at]
  exact (rmsBack_eq _ (fun l => sDu a.rows a R l * a.G (ix2 0 l)) l).symm

theorem lB_at (R : Fin 64) (l : Fin 1024) : lB a (ix2 R l) = sDh a.lead a R l := by
  rw [lB, lDh_at, lCo_at, lD_row, lS_at, lDu1_at]
  exact (rmsBack_eq _ (fun l => sDu a.lead a R l * a.G (ix2 0 l)) l).symm

theorem rDw_at (r : Fin 4224) (l : Fin 1024) : rDw a (ix2 r l)
    = ∑ R, lC1 a (ix2 R r) * (sN a.lead R l * a.G (ix2 0 l)) + ∑ R, mC1 a (ix2 R r) * (sN a.rows R l * a.G (ix2 0 l)) := by
  have h : rDw a (ix2 r l) = lDw (lS a.G (lN a.lead.H)) (lC1 a) (ix2 r l) + mDw (mS a.G (mN a.rows.H)) (mC1 a) (ix2 r l) := rfl
  rw [h, lDw_at, mDw_at]
  refine congrArg₂ _ (sumc fun R => ?_) (sumc fun R => ?_)
  · rw [lS_at, lN_at]; rfl
  · rw [mS_at, mN_at]; rfl

theorem out0_eq : res_out0 m c = addf (rArgs m c).D (mB (rArgs m c)) := rfl
theorem out1_eq : res_out1 m c = lB (rArgs m c) := rfl
def r2 : FVec Ideal S1x1024 .f32 := addf (lDg (lN a.lead.H) (lDu1 a)) (mDg (mN a.rows.H) (mDu1 a))
def r3 : FVec Ideal S2048x1024 .f32 := extractStridedSlice S2048x1024 ![0, 0] (rDw a) slices_S4224x1024_S2048x1024_0_0
def r4 : FVec Ideal S2048x1024 .f32 := extractStridedSlice S2048x1024 ![2048, 0] (rDw a) slices_S4224x1024_S2048x1024_2048_0
def r5 : FVec Ideal S128x1024 .f32 := extractStridedSlice S128x1024 ![4096, 0] (rDw a) slices_S4224x1024_S128x1024_4096_0

theorem out0_is : res_out0 m c = y0 (rArgs m c) := by
  funext i
  obtain ⟨R, l, rfl⟩ : ∃ (R : Fin 4096) (l : Fin 1024), i = ix2 R l := ⟨i 0, i 1, by idx_ext⟩
  rw [out0_eq]
  exact congrArg ((rArgs m c).D (ix2 R l) + ·) (mB_at (rArgs m c) R l)

theorem out1_is : res_out1 m c = y1 (rArgs m c) := by
  funext i
  obtain ⟨R, l, rfl⟩ : ∃ (R : Fin 64) (l : Fin 1024), i = ix2 R l := ⟨i 0, i 1, by idx_ext⟩
  rw [out1_eq]
  exact lB_at (rArgs m c) R l

theorem r2_is : r2 a = y2 a := by
  funext i
  obtain ⟨l, rfl⟩ : ∃ (l : Fin 1024), i = ix2 0 l := ⟨i 1, by idx_ext⟩
  refine congrArg₂ (· + ·) ((lDg_at _ _ l).trans (sumc fun R => ?_)) ((mDg_at _ _ l).trans (sumc fun R => ?_))
  · rw [lDu1_at, lN_at]; rfl
  · rw [mDu1_at, mN_at]; rfl

theorem r3_is : r3 a = y3 a := by
  funext i
  obtain ⟨r, l, rfl⟩ : ∃ (r : Fin 2048) (l : Fin 1024), i = ix2 r l := ⟨i 0, i 1, by idx_ext⟩
  have h : r3 a (ix2 r l) = rDw a (ix2 (w0 r) l) := by
    unfold r3; generalize rDw a = y; unfold w0; pointwise []
  rw [h, rDw_at]
  refine congrArg₂ (· + ·) (sumc fun R => ?_) (sumc fun R => ?_)
  · rw [lC1, lC_0]; rfl
  · rw [mC1, mC_0]; rfl

theorem r4_is : r4 a = y4 a := by
  funext i
  obtain ⟨r, l, rfl⟩ : ∃ (r : Fin 2048) (l : Fin 1024), i = ix2 r l := ⟨i 0, i 1, by idx_ext⟩
  have h : r4 a (ix2 r l) = rDw a (ix2 (w1 r) l) := by
    unfold r4; generalize rDw a = y; unfold w1; pointwise []
  rw [h, rDw_at]
  refine congrArg₂ (· + ·) (sumc fun R => ?_) (sumc fun R => ?_)
  · rw [lC1, lC_1]; rfl
  · rw [mC1, mC_1]; rfl

theorem r5_is : r5 a = y5 a := by
  funext i
  obtain ⟨r, l, rfl⟩ : ∃ (r : Fin 128) (l : Fin 1024), i = ix2 r l := ⟨i 0, i 1, by idx_ext⟩
  have h : r5 a (ix2 r l) = rDw a (ix2 (w2 r) l) := by
    unfold r5; generalize rDw a = y; unfold w2; pointwise []
  rw [h, rDw_at]
  refine congrArg₂ (· + ·) (sumc fun R => ?_) (sumc fun R => ?_)
  · rw [lC1, lC_2]; rfl
  · rw [mC1, mC_2]; rfl

/-- The reference leaves the six gradients of its arguments, and its arguments as they were. -/
theorem runs (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v91) = y0 (rArgs m c)
      ∧ r.2.mem ((c.tc : Thread nD τ).loc main_v66) = y1 (rArgs m c)
      ∧ r.2.mem ((c.tc : Thread nD τ).loc main_v74) = y2 (rArgs m c)
      ∧ r.2.mem ((c.tc : Thread nD τ).loc main_v92) = y3 (rArgs m c)
      ∧ r.2.mem ((c.tc : Thread nD τ).loc main_v93) = y4 (rArgs m c)
      ∧ r.2.mem ((c.tc : Thread nD τ).loc main_v94) = y5 (rArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (run m ρ).mono fun r h c => by
    obtain ⟨h0, h1, h2, h3, h4, h5, hr⟩ := h c
    exact ⟨h0.trans (out0_is m c), h1.trans (out1_is m c), h2.trans (r2_is (rArgs m c)), h3.trans (r3_is (rArgs m c)),
      h4.trans (r4_is (rArgs m c)), h5.trans (r5_is (rArgs m c)), hr⟩

end Results

end Cert.Reference2Ideal.Value
-- ==== Proof.BackEq.lean ====
/-
  The input projection's backward: the kernel's results and the reference's are the same functions of the argument
  arrays, and each of the three programs ends with its arguments as they were.
-/
module

public import proofs.«01_k».proof.Defs
public import proofs.«01_k».proof.Proof.BackVal
public import proofs.«01_k».proof.Proof.BackRef
public import proofs.«01_k».proof.Proof.Gen.Kernel2
public import proofs.«01_k».proof.Proof.Gen.Kernel2Ideal
public import proofs.«01_k».proof.Proof.Gen.Reference2Ideal

@[expose] public section

noncomputable section

namespace Cert.Back

open Idealize.ShloMosaic Idealize.ShloMosaic.TcCoe Idealize.SL.Sem

/-- Arguments that agree array by array are the same. -/
theorem args_eq (a b : Args)
    (h0 : b.rows.P0 = a.rows.P0) (h1 : b.rows.P1 = a.rows.P1) (h2 : b.rows.P2 = a.rows.P2) (h3 : b.W = a.W) (h4 : b.rows.H = a.rows.H)
    (h5 : b.D = a.D) (h6 : b.G = a.G) (h7 : b.lead.H = a.lead.H) (h8 : b.lead.P0 = a.lead.P0) (h9 : b.lead.P1 = a.lead.P1)
    (h10 : b.lead.P2 = a.lead.P2) : b = a := by
  obtain ⟨⟨_, _, _, _⟩, ⟨_, _, _, _⟩, _, _, _⟩ := a
  obtain ⟨⟨_, _, _, _⟩, ⟨_, _, _, _⟩, _, _, _⟩ := b
  dsimp only at *
  subst_vars
  rfl

theorem algebraic : Cert.algebraic_Kernel2Ideal_Reference2Ideal := by
  intro m g m' g' _ hargs
  have hs : ∀ c, Cert.Reference2Ideal.Value.rArgs m' c = kArgs m c := fun c => by
    obtain ⟨h0, h1, h2, h3, h4, h5, h6, h7, h8, h9, h10⟩ := hargs c
    exact args_eq _ _ h0 h1 h2 h3 h4 h5 h6 h7 h8 h9 h10
  refine ⟨fun c => y0 (kArgs m c), fun c => y1 (kArgs m c), fun c => y2 (kArgs m c), fun c => y3 (kArgs m c), fun c => y4 (kArgs m c),
    fun c => y5 (kArgs m c), ?_, ?_⟩
  · exact valued m g
  · exact (θ_run Cert.Reference2Ideal.defs _ _).mono (fun r h c => by
      obtain ⟨h0, h1, h2, h3, h4, h5, ha⟩ := h c
      have e := hs c
      exact ⟨h0.trans (congrArg y0 e), h1.trans (congrArg y1 e), h2.trans (congrArg y2 e), h3.trans (congrArg y3 e),
        h4.trans (congrArg y4 e), h5.trans (congrArg y5 e), ha⟩) (Cert.Reference2Ideal.Value.runs m' g')

/-- The reference's frame: its arguments end as they were, and it declares no semaphore. -/
theorem frame_reference : Cert.quiescent_Reference2Ideal := by
  intro m ρ _
  exact (θ_run Cert.Reference2Ideal.defs _ _).mono (fun r h => ⟨fun c => (h c).2.2.2.2.2.2,
      sem_eq_zero_of_no_sems (by decide) r.2⟩) (Cert.Reference2Ideal.Value.run m ρ)

/-- The kernel's frame over the extended reals, and the machine's from the same run over the machine's numbers. -/
theorem frame_ideal : Cert.quiescent_Kernel2Ideal := fun m ρ _ => framed m ρ
theorem frame_machine : Cert.quiescent_Kernel2 := by
  intro m ρ _
  refine Eq.mp ?_ (framed (F := Bits) m ρ)
  sl_kernel_rfl

end Cert.Back
-- ==== Proof.LossRow.lean ====
/-
  One row of the output projection with the loss: the residual row, its normalised row, the error against the target,
  the gradient of the loss by the row, as functions of the row's entries on the extended reals. The kernel's blocks and
  the reference's whole arrays are both read as these functions of their rows.
-/
module

public import proofs.«01_k».proof.Proof.RmsBack

@[expose] public section

noncomputable section

namespace Cert.Loss

open Idealize.ShloMosaic Cert.Scale

/-- The residual row: the input row plus both heads' outputs times the two halves of the projection. -/
def rowH (x : Fin 1024 → EReal) (a b : Fin 512 → EReal) (Wa Wb : Fin 512 → Fin 1024 → EReal) (l : Fin 1024) : EReal :=
  x l + ∑ k, a k * Wa k l + ∑ k, b k * Wb k l

/-- The normalised row. -/
def rowN (h : Fin 1024 → EReal) (l : Fin 1024) : EReal := h l * rinv h

/-- The error of the scaled normalised row against the target row. -/
def rowErr (h g tg : Fin 1024 → EReal) (l : Fin 1024) : EReal := rowN h l * g l - tg l

/-- The gradient of the loss by the model's output row. -/
def rowDout (h g tg : Fin 1024 → EReal) (l : Fin 1024) : EReal := rowErr h g tg l * ((1024⁻¹ : ℝ) : EReal)

/-- The gradient of the loss by the residual row. -/
def rowDh (h g tg : Fin 1024 → EReal) (l : Fin 1024) : EReal := rmsBack h (fun k => rowDout h g tg k * g k) l

end Cert.Loss
-- ==== Proof.LossPay.lean ====
/-
  The values one grid point of the output projection with the loss computes, entry by entry, from the blocks it holds.
-/
module

public import proofs.«01_k».proof.Proof.LossRow
public import proofs.«01_k».proof.Proof.Gen.Kernel3Ideal.Skeleton
public import Idealize.ShloMosaic.Lib.Pointwise

@[expose] public section

noncomputable section

namespace Cert.Kernel3Ideal.Value

open Cert.Kernel3Ideal Cert.Kernel3Ideal.Gen Cert.Loss Cert.Scale Idealize.ShloMosaic

variable (v3 v4 : Vec Ideal S512x512 .bf16) (v5 v6 : Vec Ideal S512x1024 .bf16) (v7 v25 : Vec Ideal S512x1024 .f32)
  (v22 : Vec Ideal S1x1024 .f32)

/-- Row `r` of the residual block. -/
def bH (r : Fin 512) : Fin 1024 → EReal :=
  rowH (fun l => v7 (ix2 r l)) (fun k => v3 (ix2 r k)) (fun k => v4 (ix2 r k)) (fun k l => v5 (ix2 k l)) (fun k l => v6 (ix2 k l))

theorem pay6_at (r : Fin 512) (l : Fin 1024) : k0_pay6 v3 v4 v5 v6 v7 (ix2 r l) = bH v3 v4 v5 v6 v7 r l := by
  unfold bH rowH
  pointwise [k0_pay6]

theorem pay7_at (r : Fin 512) : k0_pay7 v3 v4 v5 v6 v7 (ix2 r 0) = rinv (bH v3 v4 v5 v6 v7 r) := by
  unfold rinv meanSq
  simp only [← pay6_at]
  pointwise [k0_pay7]

theorem pay8_at (r : Fin 512) (l : Fin 1024) : k0_pay8 v3 v4 v5 v6 v7 (ix2 r l) = rowN (bH v3 v4 v5 v6 v7 r) l := by
  unfold rowN
  rw [← pay6_at, ← pay7_at]
  pointwise [k0_pay8]

theorem pay9_at (r : Fin 512) (l : Fin 1024) : k0_pay9 v3 v4 v5 v6 v7 v22 v25 (ix2 r l)
    = rowErr (bH v3 v4 v5 v6 v7 r) (fun l => v22 (ix2 0 l)) (fun l => v25 (ix2 r l)) l := by
  unfold rowErr
  rw [← pay8_at]
  pointwise [k0_pay9]

theorem pay11_eq : k0_pay11 v3 v4 v5 v6 v7 v22 v25
    = ∑ r : Fin 512, ∑ l : Fin 1024, k0_pay9 v3 v4 v5 v6 v7 v22 v25 (ix2 r l) * k0_pay9 v3 v4 v5 v6 v7 v22 v25 (ix2 r l) := by
  pointwise [k0_pay11]

theorem pay12_at (a : FVec Ideal S8x128 .f32) (s : EReal) (i : Fin 8) (j : Fin 128) :
    k0_pay12 a s (ix2 i j) = a (ix2 i j) + ((2048⁻¹ : ℝ) : EReal) * s := by
  rw [← wInv2048]
  pointwise [k0_pay12]

theorem pay14_at (n e : FVec Ideal S512x1024 .f32) (w : Vec Ideal S1x1024 .f32) (l : Fin 1024) :
    k0_pay14 n e w (ix2 0 l) = w (ix2 0 l) + ∑ x : Fin 512, e (ix2 x l) * ((1024⁻¹ : ℝ) : EReal) * n (ix2 x l) := by
  rw [← wInv1024]
  pointwise [k0_pay14, k0_pay13]

/-- The block of the gradient by the residual. -/
theorem pay15_at (r : Fin 512) (l : Fin 1024) :
    k0_pay15 (k0_pay7 v3 v4 v5 v6 v7) (k0_pay8 v3 v4 v5 v6 v7) v22 (k0_pay9 v3 v4 v5 v6 v7 v22 v25) (ix2 r l)
      = rowDh (bH v3 v4 v5 v6 v7 r) (fun l => v22 (ix2 0 l)) (fun l => v25 (ix2 r l)) l := by
  unfold rowDh rmsBack rowDout
  simp only [← wInv1024]
  simp only [← pay9_at]
  have h8 : ∀ l, bH v3 v4 v5 v6 v7 r l * rinv (bH v3 v4 v5 v6 v7 r) = k0_pay8 v3 v4 v5 v6 v7 (ix2 r l) := fun l => (pay8_at v3 v4 v5 v6 v7 r l).symm
  simp only [h8]
  rw [← pay7_at]
  pointwise [k0_pay15, k0_pay13]

theorem pay17_at (a : FVec Ideal S512x1 .f32) (n e : FVec Ideal S512x1024 .f32) (r : Fin 512) (j : Fin 512) :
    k0_pay17 v5 a n v22 e (ix2 r j) = ∑ l : Fin 1024, k0_pay15 a n v22 e (ix2 r l) * v5 (ix2 j l) := by
  pointwise [k0_pay17, k0_pay16]

theorem pay18_at (a : FVec Ideal S512x1 .f32) (n e : FVec Ideal S512x1024 .f32) (r : Fin 512) (j : Fin 512) :
    k0_pay18 v6 a n v22 e (ix2 r j) = ∑ l : Fin 1024, k0_pay15 a n v22 e (ix2 r l) * v6 (ix2 j l) := by
  pointwise [k0_pay18, k0_pay16]

theorem pay2_at (d : FVec Ideal S512x1024 .bf16) (w : Vec Ideal S512x1024 .f32) (i : Fin 512) (l : Fin 1024) :
    k0_pay2 v4 d w (ix2 i l) = w (ix2 i l) + ∑ x : Fin 512, v4 (ix2 x i) * d (ix2 x l) := by
  pointwise [k0_pay2]

theorem pay1_at (d : FVec Ideal S512x1024 .bf16) (w : Vec Ideal S512x1024 .f32) (i : Fin 512) (l : Fin 1024) :
    k0_pay1 v3 d w (broadcast S512x1024 (Scalar.ofBits .f32 0x00000000#32)) (ix2 i l) = w (ix2 i l) + ∑ x : Fin 512, v3 (ix2 x i) * d (ix2 x l) := by
  pointwise [k0_pay1]

end Cert.Kernel3Ideal.Value
-- ==== Proof.LossSpec.lean ====
/-
  The results of the output projection with the loss as functions of its argument arrays, on the extended reals.
-/
module

public import proofs.«01_k».proof.Proof.LossRow
public import Idealize.ShloMosaic.Lib.Pointwise

@[expose] public section

noncomputable section

namespace Cert.Loss

open Idealize.ShloMosaic Cert.Scale

/-- Row `k` of the upper half of the projection, and of the lower half. -/
def lo (k : Fin 512) : Fin 1024 := ⟨k.val, by omega⟩
def hi (k : Fin 512) : Fin 1024 := ⟨512 + k.val, by omega⟩

variable (X T : (⟨2, ![4096, 1024]⟩ : Shape).Idx → EReal) (Yh Yg : (⟨2, ![4096, 512]⟩ : Shape).Idx → EReal)
  (W : (⟨2, ![1024, 1024]⟩ : Shape).Idx → EReal) (G : (⟨2, ![1, 1024]⟩ : Shape).Idx → EReal)

/-- Row `R` of the residual stream after the projection. -/
def aH (R : Fin 4096) : Fin 1024 → EReal :=
  rowH (fun l => X (ix2 R l)) (fun k => Yh (ix2 R k)) (fun k => Yg (ix2 R k))
    (fun k l => W (ix2 (lo k) l)) (fun k l => W (ix2 (hi k) l))

/-- The gradient by the residual stream, row `R`. -/
def aDh (R : Fin 4096) : Fin 1024 → EReal :=
  rowDh (aH X Yh Yg W R) (fun l => G (ix2 0 l)) (fun l => T (ix2 R l))

/-- The gradient by the projection's input, entry `j` of row `R`. -/
def aDy (R : Fin 4096) (j : Fin 1024) : EReal := ∑ l, aDh X T Yh Yg W G R l * W (ix2 j l)

/-- The gradient by the projection, from the array `Y` of one half's inputs. -/
def aDw (Y : (⟨2, ![4096, 512]⟩ : Shape).Idx → EReal) (i : Fin 512) (l : Fin 1024) : EReal :=
  ∑ R : Fin 4096, Y (ix2 R i) * aDh X T Yh Yg W G R l

/-- The error at row `R`. -/
def aErr (R : Fin 4096) : Fin 1024 → EReal :=
  rowErr (aH X Yh Yg W R) (fun l => G (ix2 0 l)) (fun l => T (ix2 R l))

/-- The loss. -/
def aLoss : EReal := ((2048⁻¹ : ℝ) : EReal) * ∑ R : Fin 4096, ∑ l, aErr X T Yh Yg W G R l * aErr X T Yh Yg W G R l

/-- The gradient by the scale of the last normalisation. -/
def aDfw (l : Fin 1024) : EReal :=
  ∑ R : Fin 4096, aErr X T Yh Yg W G R l * ((1024⁻¹ : ℝ) : EReal) * rowN (aH X Yh Yg W R) l

end Cert.Loss
-- ==== Proof.LossRun.lean ====
/-
  What the kernel of the output projection with the loss leaves in its six result arrays: the results as functions of
  the argument arrays. The three row-blocked results are read block by block; the three accumulated ones are the sums
  over the grid of the blocks' terms.
-/
module

public import proofs.«01_k».proof.Proof.LossPay
public import proofs.«01_k».proof.Proof.LossSpec
public import proofs.«01_k».proof.Proof.Gen.Kernel3Ideal.Value
public import Idealize.ShloMosaic.Lib.Pipeline.ValueKit.Acc
public import Idealize.ShloMosaic.Lib.Pipeline.ValueKit.Geometry
public import Idealize.ShloMosaic.Lib.Pipeline.ValueKit.Tiles

@[expose] public section

noncomputable section

namespace Cert.Kernel3Ideal.Value

open Cert.Kernel3Ideal Cert.Kernel3Ideal.Gen Cert.Loss Cert.Scale Idealize.ShloMosaic Idealize.ShloMosaic.TcCoe Idealize.SL.Sem
open Idealize.ShloMosaic.Pipeline (Dat)

variable (m : (ℓ : Loc nD τ sig) → Buf (Elt Ideal) ℓ)

/-- The array row that row `r` of the block at point `t` is. -/
def row (t : Fin cfg0.N) (r : Fin 512) : Fin 4096 :=
  ⟨t.val * 512 + r.val, by have h := t.isLt; have hN : cfg0.N = 8 := N_0; omega⟩

theorem ix0 : ∀ t : Fin cfg0.N, win0_0.index t = ![t.val, 0] := (by decide +kernel : ∀ t : Fin grid0.N, _)
theorem ix1 : ∀ t : Fin cfg0.N, win0_1.index t = ![t.val, 0] := (by decide +kernel : ∀ t : Fin grid0.N, _)
theorem ix2' : ∀ t : Fin cfg0.N, win0_2.index t = ![t.val, 0] := (by decide +kernel : ∀ t : Fin grid0.N, _)
theorem ix3 : ∀ t : Fin cfg0.N, win0_3.index t = ![t.val, 0] := (by decide +kernel : ∀ t : Fin grid0.N, _)
theorem ix4 : ∀ t : Fin cfg0.N, win0_4.index t = ![0, 0] := (by decide +kernel : ∀ t : Fin grid0.N, _)
theorem ix5 : ∀ t : Fin cfg0.N, win0_5.index t = ![0, 0] := (by decide +kernel : ∀ t : Fin grid0.N, _)
theorem ix6 : ∀ t : Fin cfg0.N, win0_6.index t = ![t.val, 0] := (by decide +kernel : ∀ t : Fin grid0.N, _)
theorem ix7 : ∀ t : Fin cfg0.N, win0_7.index t = ![t.val, 0] := (by decide +kernel : ∀ t : Fin grid0.N, _)
theorem ix8 : ∀ t : Fin cfg0.N, win0_8.index t = ![t.val, 0] := (by decide +kernel : ∀ t : Fin grid0.N, _)

/-! ## The argument arrays -/

abbrev aX (c : Dev nD) : S4096x1024.Idx → EReal := m ((c.tc : Thread nD τ).loc main_arg0)
abbrev aT (c : Dev nD) : S4096x1024.Idx → EReal := m ((c.tc : Thread nD τ).loc main_arg1)
abbrev aYh (c : Dev nD) : S4096x512.Idx → EReal := m ((c.tc : Thread nD τ).loc main_arg2)
abbrev aYg (c : Dev nD) : S4096x512.Idx → EReal := m ((c.tc : Thread nD τ).loc main_arg3)
abbrev aW (c : Dev nD) : S1024x1024.Idx → EReal := m ((c.tc : Thread nD τ).loc main_arg4)
abbrev aG (c : Dev nD) : S1x1024.Idx → EReal := m ((c.tc : Thread nD τ).loc main_arg5)

theorem blk0 (c : Dev nD) (t : Fin cfg0.N) (r : Fin 512) (l : Fin 1024) :
    iblk m c 0 t (ix2 r l) = aX m c (ix2 (row t r) l) := by
  blk_simp [iblk, V]
  congr 1
  blk_ext [ix0 t, row]

theorem blk1 (c : Dev nD) (t : Fin cfg0.N) (r : Fin 512) (l : Fin 1024) :
    iblk m c 1 t (ix2 r l) = aT m c (ix2 (row t r) l) := by
  blk_simp [iblk, V]
  congr 1
  blk_ext [ix1 t, row]

theorem blk2 (c : Dev nD) (t : Fin cfg0.N) (r : Fin 512) (l : Fin 512) :
    iblk m c 2 t (ix2 r l) = aYh m c (ix2 (row t r) l) := by
  blk_simp [iblk, V]
  congr 1
  blk_ext [ix2' t, row]

theorem blk3 (c : Dev nD) (t : Fin cfg0.N) (r : Fin 512) (l : Fin 512) :
    iblk m c 3 t (ix2 r l) = aYg m c (ix2 (row t r) l) := by
  blk_simp [iblk, V]
  congr 1
  blk_ext [ix3 t, row]

theorem blk4 (c : Dev nD) (t : Fin cfg0.N) (r : Fin 1024) (l : Fin 1024) :
    iblk m c 4 t (ix2 r l) = aW m c (ix2 r l) := by
  blk_simp [iblk, V]
  congr 1
  blk_ext [ix4 t]

theorem blk5 (c : Dev nD) (t : Fin cfg0.N) (l : Fin 1024) :
    iblk m c 5 t (ix2 0 l) = aG m c (ix2 0 l) := by
  blk_simp [iblk, V]
  congr 1
  blk_ext [ix5 t]

/-! ## The blocks' values over the argument arrays -/

/-- The two halves of the projection, as the body loads them. -/
abbrev wLo (c : Dev nD) (t : Fin cfg0.N) : Vec Ideal S512x1024 .bf16 :=
  View.ld (iblk m c 4 t) (Rect.unit ![0, 0] ![512, 1024] inb_S1024x1024_S512x1024_0_0)
abbrev wHi (c : Dev nD) (t : Fin cfg0.N) : Vec Ideal S512x1024 .bf16 :=
  View.ld (iblk m c 4 t) (Rect.unit ![512, 0] ![512, 1024] inb_S1024x1024_S512x1024_512_0)

theorem wLo_at (c : Dev nD) (t : Fin cfg0.N) (k : Fin 512) (l : Fin 1024) : wLo m c t (ix2 k l) = aW m c (ix2 (lo k) l) :=
  (View.ld_unit_apply_of _ _ _ _ _ (ix2 (lo k) l) (by intro a; fin_cases a <;> simp [ix2, lo])).trans (blk4 m c t _ _)

theorem wHi_at (c : Dev nD) (t : Fin cfg0.N) (k : Fin 512) (l : Fin 1024) : wHi m c t (ix2 k l) = aW m c (ix2 (hi k) l) :=
  (View.ld_unit_apply_of _ _ _ _ _ (ix2 (hi k) l) (by intro a; fin_cases a <;> simp [ix2, hi])).trans (blk4 m c t _ _)

/-- The residual rows of the block at point `t`. -/
theorem bH_eq (c : Dev nD) (t : Fin cfg0.N) (r : Fin 512) :
    bH (iblk m c 2 t) (iblk m c 3 t) (wLo m c t) (wHi m c t) (iblk m c 0 t) r
      = aH (aX m c) (aYh m c) (aYg m c) (aW m c) (row t r) := by
  unfold bH aH
  simp only [wLo_at, wHi_at]
  simp only [blk0, blk2, blk3]

/-- The normalised rows. -/
abbrev nB (c : Dev nD) (t : Fin cfg0.N) : FVec Ideal S512x1024 .f32 :=
  k0_pay8 (iblk m c 2 t) (iblk m c 3 t) (wLo m c t) (wHi m c t) (iblk m c 0 t)
/-- The inverse root mean squares. -/
abbrev rB (c : Dev nD) (t : Fin cfg0.N) : FVec Ideal S512x1 .f32 :=
  k0_pay7 (iblk m c 2 t) (iblk m c 3 t) (wLo m c t) (wHi m c t) (iblk m c 0 t)
/-- The errors. -/
abbrev eB (c : Dev nD) (t : Fin cfg0.N) : FVec Ideal S512x1024 .f32 :=
  k0_pay9 (iblk m c 2 t) (iblk m c 3 t) (wLo m c t) (wHi m c t) (iblk m c 0 t) (iblk m c 5 t) (iblk m c 1 t)

theorem nB_at (c : Dev nD) (t : Fin cfg0.N) (r : Fin 512) (l : Fin 1024) :
    nB m c t (ix2 r l) = rowN (aH (aX m c) (aYh m c) (aYg m c) (aW m c) (row t r)) l := by
  rw [nB, pay8_at, bH_eq]

theorem eB_at (c : Dev nD) (t : Fin cfg0.N) (r : Fin 512) (l : Fin 1024) :
    eB m c t (ix2 r l) = aErr (aX m c) (aT m c) (aYh m c) (aYg m c) (aW m c) (aG m c) (row t r) l := by
  rw [eB, pay9_at, bH_eq]
  unfold aErr
  simp only [blk1, blk5]

theorem dB_at (c : Dev nD) (t : Fin cfg0.N) (r : Fin 512) (l : Fin 1024) :
    k0_pay15 (rB m c t) (nB m c t) (iblk m c 5 t) (eB m c t) (ix2 r l)
      = aDh (aX m c) (aT m c) (aYh m c) (aYg m c) (aW m c) (aG m c) (row t r) l := by
  rw [rB, nB, eB, pay15_at, bH_eq]
  unfold aDh
  simp only [blk1, blk5]

/-! ## What each point leaves in the row-blocked results -/

theorem outs6 (c : Dev nD) (t : Fin cfg0.N) (j : S512x1024.Idx) :
    (outsAt0 m c t.val t.isLt).1 j = k0_pay15 (rB m c t) (nB m c t) (iblk m c 5 t) (eB m c t) j := by
  by_cases h : t.val % 8 = 0
  · rw [Gen.outsAt0_A m c t h]; frame_out; rfl
  · rw [Gen.outsAt0_B m c t h]; frame_out; rfl

theorem outs7 (c : Dev nD) (t : Fin cfg0.N) (j : S512x512.Idx) :
    (outsAt0 m c t.val t.isLt).2.1 j = k0_pay17 (wLo m c t) (rB m c t) (nB m c t) (iblk m c 5 t) (eB m c t) j := by
  by_cases h : t.val % 8 = 0
  · rw [Gen.outsAt0_A m c t h]; frame_out; rfl
  · rw [Gen.outsAt0_B m c t h]; frame_out; rfl

theorem outs8 (c : Dev nD) (t : Fin cfg0.N) (j : S512x512.Idx) :
    (outsAt0 m c t.val t.isLt).2.2.1 j = k0_pay18 (wHi m c t) (rB m c t) (nB m c t) (iblk m c 5 t) (eB m c t) j := by
  by_cases h : t.val % 8 = 0
  · rw [Gen.outsAt0_A m c t h]; frame_out; rfl
  · rw [Gen.outsAt0_B m c t h]; frame_out; rfl

/-! ## The row-blocked results -/

/-- The first result array: the gradient by the residual stream. -/
def g6 (c : Dev nD) (i : S4096x1024.Idx) : EReal := aDh (aX m c) (aT m c) (aYh m c) (aYg m c) (aW m c) (aG m c) (i 0) (i 1)
/-- The second and third: the gradients by the two halves of the projection's input. -/
def g7 (c : Dev nD) (i : S4096x512.Idx) : EReal := aDy (aX m c) (aT m c) (aYh m c) (aYg m c) (aW m c) (aG m c) (i 0) (lo (i 1))
def g8 (c : Dev nD) (i : S4096x512.Idx) : EReal := aDy (aX m c) (aT m c) (aYh m c) (aYg m c) (aW m c) (aG m c) (i 0) (hi (i 1))

theorem g6_at (c : Dev nD) (R : Fin 4096) (l : Fin 1024) :
    g6 m c (ix2 R l) = aDh (aX m c) (aT m c) (aYh m c) (aYg m c) (aW m c) (aG m c) R l := rfl
theorem g7_at (c : Dev nD) (R : Fin 4096) (l : Fin 512) :
    g7 m c (ix2 R l) = aDy (aX m c) (aT m c) (aYh m c) (aYg m c) (aW m c) (aG m c) R (lo l) := rfl
theorem g8_at (c : Dev nD) (R : Fin 4096) (l : Fin 512) :
    g8 m c (ix2 R l) = aDy (aX m c) (aT m c) (aYh m c) (aYg m c) (aW m c) (aG m c) R (hi l) := rfl

theorem emb6 (t : Fin cfg0.N) (r : Fin 512) (l : Fin 1024) : (win0_6.blk t).view.emb (ix2 r l) = ix2 (row t r) l := by
  blk_ext [ix6 t, row]
theorem emb7 (t : Fin cfg0.N) (r : Fin 512) (l : Fin 512) : (win0_7.blk t).view.emb (ix2 r l) = ix2 (row t r) l := by
  blk_ext [ix7 t, row]
theorem emb8 (t : Fin cfg0.N) (r : Fin 512) (l : Fin 512) : (win0_8.blk t).view.emb (ix2 r l) = ix2 (row t r) l := by
  blk_ext [ix8 t, row]

theorem final6 (c : Dev nD) : (dats m 0 c).arrAt 6 cfg0.N = g6 m c := by
  refine (dats m 0 c).arrAt_eq_of_covers 6 _ (by decide +kernel) fun t hf y => ?_
  blk_simp
  rw [after0_6, outs6]
  obtain ⟨r, l, rfl⟩ : ∃ r l, y = ix2 r l := ⟨y 0, y 1, by idx_ext⟩
  exact (dB_at m c t r l).trans ((congrArg (g6 m c) (emb6 t r l)).trans (g6_at m c _ _)).symm

theorem final7 (c : Dev nD) : (dats m 0 c).arrAt 7 cfg0.N = g7 m c := by
  refine (dats m 0 c).arrAt_eq_of_covers 7 _ (by decide +kernel) fun t hf y => ?_
  blk_simp
  rw [after0_7, outs7]
  obtain ⟨r, l, rfl⟩ : ∃ r l, y = ix2 r l := ⟨y 0, y 1, by idx_ext⟩
  refine (pay17_at _ _ _ _ _ r l).trans (Eq.trans ?_ ((congrArg (g7 m c) (emb7 t r l)).trans (g7_at m c _ _)).symm)
  simp only [dB_at, wLo_at]
  rfl

theorem final8 (c : Dev nD) : (dats m 0 c).arrAt 8 cfg0.N = g8 m c := by
  refine (dats m 0 c).arrAt_eq_of_covers 8 _ (by decide +kernel) fun t hf y => ?_
  blk_simp
  rw [after0_8, outs8]
  obtain ⟨r, l, rfl⟩ : ∃ r l, y = ix2 r l := ⟨y 0, y 1, by idx_ext⟩
  refine (pay18_at _ _ _ _ _ r l).trans (Eq.trans ?_ ((congrArg (g8 m c) (emb8 t r l)).trans (g8_at m c _ _)).symm)
  simp only [dB_at, wHi_at]
  rfl

/-! ## The accumulated results -/

/-- The gradient by the projection, the two halves one under the other. -/
def w9 (c : Dev nD) (r l : Fin 1024) : EReal :=
  if h : r.val < 512 then aDw (aX m c) (aT m c) (aYh m c) (aYg m c) (aW m c) (aG m c) (aYh m c) ⟨r.val, h⟩ l
  else aDw (aX m c) (aT m c) (aYh m c) (aYg m c) (aW m c) (aG m c) (aYg m c) ⟨r.val - 512, by omega⟩ l
def g9 (c : Dev nD) (i : S1024x1024.Idx) : EReal := w9 m c (i 0) (i 1)
theorem g9_at (c : Dev nD) (r l : Fin 1024) : g9 m c (ix2 r l) = w9 m c r l := rfl
/-- The loss, in every entry. -/
def g10 (c : Dev nD) (_ : S8x128.Idx) : EReal := aLoss (aX m c) (aT m c) (aYh m c) (aYg m c) (aW m c) (aG m c)
/-- The gradient by the last scale. -/
def g11 (c : Dev nD) (i : S1x1024.Idx) : EReal := aDfw (aX m c) (aT m c) (aYh m c) (aYg m c) (aW m c) (aG m c) (i 1)

/-- A sum over the grid's points and the rows of their blocks is the sum over the array's rows. -/
theorem sum_rows (f : Fin 4096 → EReal) : ∑ t : Fin cfg0.N, ∑ r : Fin 512, f (row t r) = ∑ R, f R := by
  rw [Fin.sum_univ_tiles 8 512 (by norm_num) f]
  rfl

theorem pay4_at (i : S8x128.Idx) : k0_pay4 (F := Ideal) i = 0 := by
  pointwise [k0_pay4]
theorem pay5_at (i : S1x1024.Idx) : k0_pay5 (F := Ideal) i = 0 := by
  pointwise [k0_pay5]
theorem pay3_at (i : S1024x1024.Idx) : k0_pay3 (F := Ideal) i = 0 := by
  pointwise [k0_pay3]

/-! ### The gradient by the projection: two stores per point, one per half -/

theorem hz : (![0, 0] : Fin 2 → Nat) = fun _ => 0 := funext fun a => by fin_cases a <;> rfl

section Halves

variable (p2 : (Rect.unit (s := S1024x1024) ![512, 0] ![512, 1024] inb_S1024x1024_S512x1024_512_0).shape.Idx → Elt Ideal .f32)
  (p1 : (Rect.unit (s := S1024x1024) ![0, 0] ![512, 1024] inb_S1024x1024_S512x1024_0_0).shape.Idx → Elt Ideal .f32)
  (L : List (View.Piece (Elt Ideal) S1024x1024 .f32)) (i : Fin 512) (l : Fin 1024)

theorem emb_lo : (Rect.unit (s := S1024x1024) ![0, 0] ![512, 1024] inb_S1024x1024_S512x1024_0_0).emb (ix2 i l) = ix2 (lo i) l := by
  funext a; apply Fin.ext; fin_cases a <;> simp [ix2, lo, Rect.emb_apply]

theorem emb_hi : (Rect.unit (s := S1024x1024) ![512, 0] ![512, 1024] inb_S1024x1024_S512x1024_512_0).emb (ix2 i l) = ix2 (hi i) l := by
  funext a; apply Fin.ext; fin_cases a <;> simp [ix2, hi, Rect.emb_apply]

theorem lo_not_mem : ix2 (lo i) l ∉ (Rect.unit (s := S1024x1024) ![512, 0] ![512, 1024] inb_S1024x1024_S512x1024_512_0).set := by
  rw [Rect.mem_set_unit]; intro h; have := (h 0).1; simp [ix2, lo] at this; omega

theorem hi_not_mem : ix2 (hi i) l ∉ (Rect.unit (s := S1024x1024) ![0, 0] ![512, 1024] inb_S1024x1024_S512x1024_0_0).set := by
  rw [Rect.mem_set_unit]; intro h; have := (h 0).2; simp [ix2, hi] at this

theorem canon_hi : View.canon (⟨Rect.unit ![512, 0] ![512, 1024] inb_S1024x1024_S512x1024_512_0, p2⟩ :: L) (ix2 (hi i) l) = p2 (ix2 i l) := by
  rw [← emb_hi]; exact View.canon_cons_emb _ p2 L _

theorem canon_lo : View.canon (⟨Rect.unit ![512, 0] ![512, 1024] inb_S1024x1024_S512x1024_512_0, p2⟩
    :: ⟨Rect.unit ![0, 0] ![512, 1024] inb_S1024x1024_S512x1024_0_0, p1⟩ :: L) (ix2 (lo i) l) = p1 (ix2 i l) := by
  refine (View.canon_cons_of_not_mem (⟨Rect.unit ![512, 0] ![512, 1024] inb_S1024x1024_S512x1024_512_0, p2⟩ :
    View.Piece (Elt Ideal) S1024x1024 .f32) _ (lo_not_mem i l)).trans ?_
  rw [← emb_lo]; exact View.canon_cons_emb _ p1 L _

theorem canon_zero (i : S1024x1024.Idx) :
    View.canon [(⟨Rect.unit ![0, 0] ![1024, 1024] inb_S1024x1024_S1024x1024_0_0, k0_pay3 (F := Ideal)⟩ : View.Piece (Elt Ideal) S1024x1024 .f32)] i = 0 := by
  rw [View.canon_unit_zero (S := S1024x1024) hz]; exact pay3_at _

theorem read_lo {κ : Kind} {sp : Space} (v : View sig κ sp S1024x1024 .f32) :
    v.readCov [(⟨Rect.unit ![0, 0] ![1024, 1024] inb_S1024x1024_S1024x1024_0_0, k0_pay3 (F := Ideal)⟩ : View.Piece (Elt Ideal) S1024x1024 .f32)]
      (Rect.unit (s := S1024x1024) ![0, 0] ![512, 1024] inb_S1024x1024_S512x1024_0_0).toLoadRect (ix2 i l) = 0 := by
  rw [View.readCov_eq_canon']; exact canon_zero _

theorem read_hi {κ : Kind} {sp : Space} (v : View sig κ sp S1024x1024 .f32) :
    v.readCov [⟨Rect.unit ![0, 0] ![512, 1024] inb_S1024x1024_S512x1024_0_0, p1⟩,
        (⟨Rect.unit ![0, 0] ![1024, 1024] inb_S1024x1024_S1024x1024_0_0, k0_pay3 (F := Ideal)⟩ : View.Piece (Elt Ideal) S1024x1024 .f32)]
      (Rect.unit (s := S1024x1024) ![512, 0] ![512, 1024] inb_S1024x1024_S512x1024_512_0).toLoadRect (ix2 i l) = 0 := by
  rw [View.readCov_eq_canon']
  show View.canon _ ((Rect.unit (s := S1024x1024) ![512, 0] ![512, 1024] inb_S1024x1024_S512x1024_512_0).emb (ix2 i l)) = 0
  rw [emb_hi]
  exact (View.canon_cons_of_not_mem (⟨Rect.unit ![0, 0] ![512, 1024] inb_S1024x1024_S512x1024_0_0, p1⟩ :
    View.Piece (Elt Ideal) S1024x1024 .f32) _ (hi_not_mem i l)).trans (canon_zero _)

end Halves

theorem pay16_at (a : FVec Ideal S512x1 .f32) (n e : FVec Ideal S512x1024 .f32) (w : Vec Ideal S1x1024 .f32) (r : Fin 512) (l : Fin 1024) :
    k0_pay16 a n w e (ix2 r l) = k0_pay15 a n w e (ix2 r l) := rfl

/-- The blocks of the two heads' outputs. -/
abbrev yhB (c : Dev nD) (t : Fin cfg0.N) : Vec Ideal S512x512 .bf16 := iblk m c 2 t
abbrev ygB (c : Dev nD) (t : Fin cfg0.N) : Vec Ideal S512x512 .bf16 := iblk m c 3 t

/-- The term point `t` adds to the upper half, and to the lower half. -/
def term9 (c : Dev nD) (Y : S4096x512.Idx → EReal) (t : Fin cfg0.N) (i : Fin 512) (l : Fin 1024) : EReal :=
  ∑ r : Fin 512, Y (ix2 (row t r) i) * aDh (aX m c) (aT m c) (aYh m c) (aYg m c) (aW m c) (aG m c) (row t r) l

theorem term9_lo (c : Dev nD) (t : Fin cfg0.N) (i : Fin 512) (l : Fin 1024) :
    ∑ x : Fin 512, (yhB m c t (ix2 x i) : EReal) * (k0_pay16 (rB m c t) (nB m c t) (iblk m c 5 t) (eB m c t) (ix2 x l) : EReal) = term9 m c (aYh m c) t i l := by
  unfold term9
  exact Finset.sum_congr rfl fun x _ => congrArg₂ _ (blk2 m c t x i) ((pay16_at _ _ _ _ x l).trans (dB_at m c t x l))

theorem term9_hi (c : Dev nD) (t : Fin cfg0.N) (i : Fin 512) (l : Fin 1024) :
    ∑ x : Fin 512, (ygB m c t (ix2 x i) : EReal) * (k0_pay16 (rB m c t) (nB m c t) (iblk m c 5 t) (eB m c t) (ix2 x l) : EReal) = term9 m c (aYg m c) t i l := by
  unfold term9
  exact Finset.sum_congr rfl fun x _ => congrArg₂ _ (blk3 m c t x i) ((pay16_at _ _ _ _ x l).trans (dB_at m c t x l))

theorem outs9_lo (c : Dev nD) (i : Fin 512) (l : Fin 1024) :
    (outsAt0 m c t0_7.val t0_7.isLt).2.2.2.1 (ix2 (lo i) l) = aDw (aX m c) (aT m c) (aYh m c) (aYg m c) (aW m c) (aG m c) (aYh m c) i l := by
  rw [Pipeline.eq_sum_fin_of_reset_step_apply_last (fun n h (j : Fin 512 × Fin 1024) => (outsAt0 m c n h).2.2.2.1 (ix2 (lo j.1) j.2)) 8 (fun _ => 0)
    (fun t j => term9 m c (aYh m c) t j.1 j.2)
    (fun t h j => by
      obtain ⟨i, l⟩ := j
      dsimp only
      rw [Gen.outsAt0_A m c t h]; frame_out; rw [canon_lo]
      refine (pay1_at _ _ _ i l).trans (congrArg₂ _ ?_ (term9_lo m c t i l))
      unfold k0_pay19; rw [shapeCast_self]; exact read_lo i l _)
    (fun t h j => by
      obtain ⟨i, l⟩ := j
      dsimp only
      rw [Gen.outsAt0_B m c t h]; frame_out; rw [canon_lo]
      refine (pay1_at _ _ _ i l).trans (congrArg₂ _ ?_ (term9_lo m c t i l))
      unfold k0_pay19; rw [shapeCast_self]
      exact View.ld_unit_apply_of _ _ _ _ _ (ix2 (lo i) l) (by intro a; fin_cases a <;> simp [ix2, lo]))
    (le_of_eq N_0) t0_7 rfl (i, l), zero_add]
  unfold term9 aDw
  rw [← sum_rows]

theorem outs9_hi (c : Dev nD) (i : Fin 512) (l : Fin 1024) :
    (outsAt0 m c t0_7.val t0_7.isLt).2.2.2.1 (ix2 (hi i) l) = aDw (aX m c) (aT m c) (aYh m c) (aYg m c) (aW m c) (aG m c) (aYg m c) i l := by
  rw [Pipeline.eq_sum_fin_of_reset_step_apply_last (fun n h (j : Fin 512 × Fin 1024) => (outsAt0 m c n h).2.2.2.1 (ix2 (hi j.1) j.2)) 8 (fun _ => 0)
    (fun t j => term9 m c (aYg m c) t j.1 j.2)
    (fun t h j => by
      obtain ⟨i, l⟩ := j
      dsimp only
      rw [Gen.outsAt0_A m c t h]; frame_out; rw [canon_hi]
      refine (pay2_at _ _ _ i l).trans (congrArg₂ _ ?_ (term9_hi m c t i l))
      exact read_hi _ i l _)
    (fun t h j => by
      obtain ⟨i, l⟩ := j
      dsimp only
      rw [Gen.outsAt0_B m c t h]; frame_out; rw [canon_hi]
      refine (pay2_at _ _ _ i l).trans (congrArg₂ _ ?_ (term9_hi m c t i l))
      exact View.ld_unit_apply_of _ _ _ _ _ (ix2 (hi i) l) (by intro a; fin_cases a <;> simp [ix2, hi]))
    (le_of_eq N_0) t0_7 rfl (i, l), zero_add]
  unfold term9 aDw
  rw [← sum_rows]

theorem final9 (c : Dev nD) : (dats m 0 c).arrAt 9 cfg0.N = g9 m c := by
  refine (dats m 0 c).arrAt_eq_of_after_last 9 t0_7 (by decide +kernel) _ fun j => ?_
  blk_simp
  obtain ⟨r, l, rfl⟩ : ∃ r l, j = ix2 r l := ⟨j 0, j 1, by idx_ext⟩
  rw [after0_9]
  by_cases h : r.val < 512
  · refine (outs9_lo m c ⟨r.val, h⟩ l).trans ?_
    refine Eq.trans ?_ (g9_at m c r l).symm
    unfold w9
    rw [dif_pos h]
  · have hr : r = hi ⟨r.val - 512, by omega⟩ := by apply Fin.ext; simp only [hi]; omega
    refine Eq.trans (congrArg (fun r => (outsAt0 m c t0_7.val t0_7.isLt).2.2.2.1 (ix2 r l)) hr) ((outs9_hi m c ⟨r.val - 512, by omega⟩ l).trans ?_)
    refine Eq.trans ?_ (g9_at m c r l).symm
    unfold w9
    rw [dif_neg h]

theorem final10 (c : Dev nD) : (dats m 0 c).arrAt 10 cfg0.N = g10 m c := by
  refine (dats m 0 c).arrAt_eq_of_after_last 10 t0_7 (by decide +kernel) _ fun j => ?_
  blk_simp
  obtain ⟨r, l, rfl⟩ : ∃ r l, j = ix2 r l := ⟨j 0, j 1, by idx_ext⟩
  rw [after0_10, Pipeline.eq_sum_fin_of_reset_step_apply_last (fun n h => (outsAt0 m c n h).2.2.2.2.1) 8 (fun _ => 0)
    (fun t _ => ((2048⁻¹ : ℝ) : EReal) * k0_pay11 (iblk m c 2 t) (iblk m c 3 t) (wLo m c t) (wHi m c t) (iblk m c 0 t) (iblk m c 5 t) (iblk m c 1 t))
    (fun t h j => by
      obtain ⟨r, l, rfl⟩ : ∃ r l, j = ix2 r l := ⟨j 0, j 1, by idx_ext⟩
      rw [Gen.outsAt0_A m c t h]; frame_out; rw [pay12_at]; unfold k0_pay10; rw [shapeCast_self, pay4_at]; rfl)
    (fun t h j => by
      obtain ⟨r, l, rfl⟩ : ∃ r l, j = ix2 r l := ⟨j 0, j 1, by idx_ext⟩
      rw [Gen.outsAt0_B m c t h]; frame_out; rw [pay12_at]; unfold k0_pay10; rw [shapeCast_self]; rfl)
    (le_of_eq N_0) t0_7 rfl]
  simp only [pay11_eq, eB_at]
  rw [zero_add, ← coe_mul_sum _ _ (by norm_num)]
  unfold g10 aLoss
  rw [← sum_rows]

theorem outs11 (c : Dev nD) (l : Fin 1024) :
    (outsAt0 m c t0_7.val t0_7.isLt).2.2.2.2.2 (ix2 0 l) = aDfw (aX m c) (aT m c) (aYh m c) (aYg m c) (aW m c) (aG m c) l := by
  rw [Pipeline.eq_sum_fin_of_reset_step_apply_last (fun n h (l : Fin 1024) => (outsAt0 m c n h).2.2.2.2.2 (ix2 0 l)) 8 (fun _ => 0)
    (fun t l => ∑ r : Fin 512, eB m c t (ix2 r l) * ((1024⁻¹ : ℝ) : EReal) * nB m c t (ix2 r l))
    (fun t h l => by
      rw [Gen.outsAt0_A m c t h]; frame_out; rw [pay14_at, pay5_at]; rfl)
    (fun t h l => by
      rw [Gen.outsAt0_B m c t h]; frame_out; rw [pay14_at]; rfl)
    (le_of_eq N_0) t0_7 rfl l, zero_add]
  simp only [eB_at, nB_at]
  unfold aDfw
  rw [← sum_rows]

theorem g11_at (c : Dev nD) (l : Fin 1024) : g11 m c (ix2 0 l) = aDfw (aX m c) (aT m c) (aYh m c) (aYg m c) (aW m c) (aG m c) l := rfl

theorem final11 (c : Dev nD) : (dats m 0 c).arrAt 11 cfg0.N = g11 m c := by
  refine (dats m 0 c).arrAt_eq_of_after_last 11 t0_7 (by decide +kernel) _ fun j => ?_
  blk_simp
  obtain ⟨l, rfl⟩ : ∃ l, j = ix2 0 l := ⟨j 1, by idx_ext⟩
  rw [after0_11]
  exact (outs11 m c l).trans (g11_at m c l).symm

end Cert.Kernel3Ideal.Value
-- ==== Proof.LossRef.lean ====
/-
  The reference of the output projection with the loss: its intermediate arrays in the order of its operations, each
  read entry by entry, and its six results as the functions of the argument arrays that the kernel's results are.
-/
module

public import proofs.«01_k».proof.Proof.LossSpec
public import proofs.«01_k».proof.Proof.Gen.Reference3Ideal.Run
public import Idealize.ShloMosaic.Lib.Pointwise

@[expose] public section

noncomputable section

namespace Cert.Reference3Ideal.Value

open Cert.Reference3Ideal Cert.Reference3Ideal.Gen Cert.Loss Cert.Scale Idealize.ShloMosaic Idealize.ShloMosaic.TcCoe Idealize.SL.Sem

section Arrays

variable (X T : FVec Ideal S4096x1024 .f32) (Yh Yg : FVec Ideal S4096x512 .bf16) (W : FVec Ideal S1024x1024 .bf16) (G : FVec Ideal S1x1024 .f32)

/-- Both heads' outputs side by side. -/
def rC : FVec Ideal S4096x1024 .f32 :=
  concatenate S4096x1024 1 [⟨S4096x512, extf .f32 Yh bitsLt_bf16_f32⟩, ⟨S4096x512, extf .f32 Yg bitsLt_bf16_f32⟩] concatenates_S4096x512_S4096x512_S4096x1024_d1
/-- The residual stream after the projection. -/
def rH : FVec Ideal S4096x1024 .f32 :=
  addf X (Host.dotGeneral dot_S4096x1024_S1024x1024_S4096x1024_1_0_0_1_n_n none (rC Yh Yg) (extf .f32 W bitsLt_bf16_f32))
/-- The means of squares. -/
def rMs (H : FVec Ideal S4096x1024 .f32) : FVec Ideal S4096x1 .f32 :=
  addf (Host.divf (broadcastInDim S4096x1 ![0] bcast_S4096_S4096x1_0 (Host.reduceAdd (mulf H H) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
/-- The normalised rows. -/
def rN (H : FVec Ideal S4096x1024 .f32) : FVec Ideal S4096x1024 .f32 :=
  mulf H (broadcastInDim S4096x1024 ![0, 1] bcast_S4096x1_S4096x1024_0_1 (Host.rsqrt (rMs H)))
/-- The errors. -/
def rErr (H : FVec Ideal S4096x1024 .f32) : FVec Ideal S4096x1024 .f32 :=
  subf (mulf (rN H) (broadcastInDim S4096x1024 ![0, 1] bcast_S1x1024_S4096x1024_0_1 G)) T
/-- The gradient by the model's output, from the errors. -/
def rDo (E : FVec Ideal S4096x1024 .f32) : FVec Ideal S4096x1024 .f32 :=
  mulf (broadcastInDim S4096x1024 ![0] bcast_S4096_S4096x1024_0 (Host.divf (broadcastInDim S4096 ![] bcast_S_S4096
      (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) E)
/-- … by the normalised rows. -/
def rDn (D : FVec Ideal S4096x1024 .f32) : FVec Ideal S4096x1024 .f32 :=
  mulf D (broadcastInDim S4096x1024 ![0, 1] bcast_S1x1024_S4096x1024_0_1 G)
/-- The scale of each row in the derivative of its mean of squares. -/
def rCo (H D : FVec Ideal S4096x1024 .f32) : FVec Ideal S4096x1024 .f32 :=
  broadcastInDim S4096x1024 ![0] bcast_S4096_S4096x1024_0 (Host.reduceAdd
    (Host.divf (mulf (shapeCast _ (Host.reduceAdd (mulf H D) (constant S_ .f32 0x00000000#32) reducesTo_S4096x1024_S4096_d1 h_S_) shapeCasts_S4096_S4096x1)
        (mulf (broadcastInDim S4096x1 ![] bcast_S_S4096x1 (constant S_ .f32 0xBF000000#32)) (Host.divf (Host.rsqrt (rMs H)) (rMs H))))
      (broadcastInDim S4096x1 ![] bcast_S_S4096x1 (constant S_ .f32 0x44800000#32)))
    (constant S_ .f32 0x00000000#32) reducesTo_S4096x1_S4096_d1 h_S_)
/-- The gradient by the residual stream. -/
def rDh (H D C : FVec Ideal S4096x1024 .f32) : FVec Ideal S4096x1024 .f32 :=
  addf (addf (mulf D (broadcastInDim S4096x1024 ![0, 1] bcast_S4096x1_S4096x1024_0_1 (Host.rsqrt (rMs H)))) (mulf H C)) (mulf C H)

theorem rH_at (R : Fin 4096) (l : Fin 1024) : rH X Yh Yg W (ix2 R l) = aH X Yh Yg W R l := by
  unfold aH rowH lo hi
  pointwise [rH, rC]
  exact (add_assoc _ _ _).symm

theorem rMs_at (H : FVec Ideal S4096x1024 .f32) (R : Fin 4096) (j : Fin 1) : rMs H (ix2 R j) = meanSq (fun l => H (ix2 R l)) := by
  unfold meanSq
  pointwise [rMs]

theorem rN_at (H : FVec Ideal S4096x1024 .f32) (R : Fin 4096) (l : Fin 1024) : rN H (ix2 R l) = rowN (fun l => H (ix2 R l)) l := by
  unfold rowN rinv
  rw [← rMs_at H R 0]
  pointwise [rN]

theorem rErr_at (H : FVec Ideal S4096x1024 .f32) (R : Fin 4096) (l : Fin 1024) :
    rErr T G H (ix2 R l) = rowErr (fun l => H (ix2 R l)) (fun l => G (ix2 0 l)) (fun l => T (ix2 R l)) l := by
  unfold rowErr
  rw [← rN_at]
  pointwise [rErr]

theorem rDo_at (E : FVec Ideal S4096x1024 .f32) (R : Fin 4096) (l : Fin 1024) : rDo E (ix2 R l) = E (ix2 R l) * ((1024⁻¹ : ℝ) : EReal) := by
  have : rDo E (ix2 R l) = Ideal.div (Ideal.ofBits .f32 0x3F000000#32 * Ideal.ofBits .f32 0x3F800000#32) (Ideal.ofBits .f32 0x44800000#32) * (Ideal.ofBits .f32 0x40000000#32 * E (ix2 R l)) := by
    pointwise [rDo]
  rw [this, wHalf, wOne, w1024, wTwo, div_real (by norm_num), ← mul_assoc, mul_comm _ (E _)]
  congr 1
  rw [← EReal.coe_mul, ← EReal.coe_mul, ← EReal.coe_mul]; norm_num

theorem rDn_at (D : FVec Ideal S4096x1024 .f32) (R : Fin 4096) (l : Fin 1024) : rDn G D (ix2 R l) = D (ix2 R l) * G (ix2 0 l) := by
  pointwise [rDn]

theorem rCo_at (H D : FVec Ideal S4096x1024 .f32) (R : Fin 4096) (l : Fin 1024) :
    rCo H D (ix2 R l) = rmsCo (fun l => H (ix2 R l)) (fun l => D (ix2 R l)) := by
  unfold rmsCo rinv
  rw [← rMs_at H R 0]
  pointwise [rCo]
  exact (Fin.sum_univ_one _).trans rfl

theorem rDh_at (H D C : FVec Ideal S4096x1024 .f32) (R : Fin 4096) (l : Fin 1024) :
    rDh H D C (ix2 R l) = D (ix2 R l) * rinv (fun l => H (ix2 R l)) + H (ix2 R l) * C (ix2 R l) + C (ix2 R l) * H (ix2 R l) := by
  unfold rinv
  rw [← rMs_at H R 0]
  pointwise [rDh]

/-- The errors, of the arguments. -/
def rE : FVec Ideal S4096x1024 .f32 := rErr T G (rH X Yh Yg W)
/-- The gradient by the scaled normalised rows' factor, of the arguments. -/
def rD : FVec Ideal S4096x1024 .f32 := rDn G (rDo (rE X T Yh Yg W G))
/-- The gradient by the residual stream, of the arguments. -/
def rG : FVec Ideal S4096x1024 .f32 :=
  rDh (rH X Yh Yg W) (rD X T Yh Yg W G) (rCo (rH X Yh Yg W) (rD X T Yh Yg W G))
/-- The gradient by the projection's input. -/
def rY (D : FVec Ideal S4096x1024 .f32) : FVec Ideal S4096x1024 .f32 :=
  Host.dotGeneral dot_S4096x1024_S1024x1024_S4096x1024_1_1_0_0_n_n none D (extf .f32 W bitsLt_bf16_f32)
/-- The gradient by the projection. -/
def rW (D : FVec Ideal S4096x1024 .f32) : FVec Ideal S1024x1024 .f32 :=
  transpose S1024x1024 [1, 0] (Host.dotGeneral dot_S4096x1024_S4096x1024_S1024x1024_0_0_1_1_n_n none D (rC Yh Yg)) transposes_S1024x1024_S1024x1024_1_0
/-- The loss. -/
def rL (E : FVec Ideal S4096x1024 .f32) : FVec Ideal S8x128 .f32 :=
  broadcastInDim S8x128 ![] bcast_S_S8x128 (mulf (constant S_ .f32 0x3F000000#32) (Host.reduceAdd (Host.divf
      (Host.reduceAdd (mulf E E) (constant S_ .f32 0x00000000#32) reducesTo_S4096x1024_S4096_d1 h_S_)
      (broadcastInDim S4096 ![] bcast_S_S4096 (constant S_ .f32 0x44800000#32))) (constant S_ .f32 0x00000000#32) reducesTo_S4096_S_d0 h_S_))
/-- The gradient by the last scale. -/
def rF (N D : FVec Ideal S4096x1024 .f32) : FVec Ideal S1x1024 .f32 :=
  shapeCast _ (Host.reduceAdd (mulf N D) (constant S_ .f32 0x00000000#32) reducesTo_S4096x1024_S1024_d0 h_S_) shapeCasts_S1024_S1x1024

theorem rH_row (R : Fin 4096) : (fun l => rH X Yh Yg W (ix2 R l)) = aH X Yh Yg W R := funext fun l => rH_at X Yh Yg W R l

theorem rE_at (R : Fin 4096) (l : Fin 1024) : rE X T Yh Yg W G (ix2 R l) = aErr X T Yh Yg W G R l := by
  rw [rE, rErr_at, rH_row]; rfl

theorem rD_at (R : Fin 4096) (l : Fin 1024) :
    rD X T Yh Yg W G (ix2 R l) = rowDout (aH X Yh Yg W R) (fun l => G (ix2 0 l)) (fun l => T (ix2 R l)) l * G (ix2 0 l) := by
  rw [rD, rDn_at, rDo_at, rE_at]; rfl

theorem rG_at (R : Fin 4096) (l : Fin 1024) : rG X T Yh Yg W G (ix2 R l) = aDh X T Yh Yg W G R l := by
  have hd : (fun l => rD X T Yh Yg W G (ix2 R l)) = fun l => rowDout (aH X Yh Yg W R) (fun l => G (ix2 0 l)) (fun l => T (ix2 R l)) l * G (ix2 0 l) :=
    funext fun l => rD_at X T Yh Yg W G R l
  rw [rG, rDh_at, rCo_at, hd, rH_row, rD_at, rH_at]
  exact (rmsBack_eq (aH X Yh Yg W R) (fun l => rowDout (aH X Yh Yg W R) (fun l => G (ix2 0 l)) (fun l => T (ix2 R l)) l * G (ix2 0 l)) l).symm

theorem rY_at (D : FVec Ideal S4096x1024 .f32) (R : Fin 4096) (j : Fin 1024) : rY W D (ix2 R j) = ∑ l, D (ix2 R l) * W (ix2 j l) := by
  pointwise [rY]

theorem rC_lo (R : Fin 4096) (j : Fin 1024) (h : j.val < 512) : rC Yh Yg (ix2 R j) = Yh (ix2 R ⟨j.val, h⟩) := by
  pointwise [rC]
  rw [dif_pos h]

theorem rC_hi (R : Fin 4096) (j : Fin 1024) (h : ¬ j.val < 512) : rC Yh Yg (ix2 R j) = Yg (ix2 R ⟨j.val - 512, by omega⟩) := by
  pointwise [rC]
  rw [dif_neg h]

theorem rW_at (D : FVec Ideal S4096x1024 .f32) (r l : Fin 1024) : rW Yh Yg D (ix2 r l) = ∑ R, rC Yh Yg (ix2 R r) * D (ix2 R l) := by
  refine Eq.trans ?_ (Finset.sum_congr rfl fun R _ => mul_comm _ _)
  pointwise [rW]

theorem rF_at (N D : FVec Ideal S4096x1024 .f32) (l : Fin 1024) : rF N D (ix2 0 l) = ∑ R, D (ix2 R l) * N (ix2 R l) := by
  refine Eq.trans ?_ (Finset.sum_congr rfl fun R _ => mul_comm _ _)
  pointwise [rF]

theorem rL_at (E : FVec Ideal S4096x1024 .f32) (r : Fin 8) (l : Fin 128) :
    rL E (ix2 r l) = ((2048⁻¹ : ℝ) : EReal) * ∑ R : Fin 4096, ∑ k : Fin 1024, E (ix2 R k) * E (ix2 R k) := by
  have : rL E (ix2 r l) = Ideal.ofBits .f32 0x3F000000#32 * ∑ R : Fin 4096, Ideal.div (∑ k : Fin 1024, E (ix2 R k) * E (ix2 R k)) (Ideal.ofBits .f32 0x44800000#32) := by
    pointwise [rL]
  rw [this, wHalf, w1024]
  simp only [div_real (show (1024 : ℝ) ≠ 0 by norm_num)]
  rw [← sum_mul_coe _ _ (by norm_num), mul_comm _ (((1024⁻¹ : ℝ)) : EReal), ← mul_assoc]
  congr 1
  rw [← EReal.coe_mul]; norm_num

end Arrays

theorem sumc {n : ℕ} {f g : Fin n → EReal} (h : ∀ k, f k = g k) : ∑ k, f k = ∑ k, g k := Finset.sum_congr rfl fun k _ => h k

section Results

variable (m : (ℓ : Loc nD τ sig) → Buf (Elt Ideal) ℓ) (c : Dev nD)

/-- The argument arrays. -/
abbrev rX0 : FVec Ideal S4096x1024 .f32 := m ((c.tc : Thread nD τ).loc main_arg0)
abbrev rT0 : FVec Ideal S4096x1024 .f32 := m ((c.tc : Thread nD τ).loc main_arg1)
abbrev rYh0 : FVec Ideal S4096x512 .bf16 := m ((c.tc : Thread nD τ).loc main_arg2)
abbrev rYg0 : FVec Ideal S4096x512 .bf16 := m ((c.tc : Thread nD τ).loc main_arg3)
abbrev rW0 : FVec Ideal S1024x1024 .bf16 := m ((c.tc : Thread nD τ).loc main_arg4)
abbrev rG0 : FVec Ideal S1x1024 .f32 := m ((c.tc : Thread nD τ).loc main_arg5)

/-- The gradient array by the residual stream, of the argument arrays of the run. -/
abbrev rG1 : FVec Ideal S4096x1024 .f32 := rG (rX0 m c) (rT0 m c) (rYh0 m c) (rYg0 m c) (rW0 m c) (rG0 m c)
/-- The errors. -/
abbrev rE1 : FVec Ideal S4096x1024 .f32 := rE (rX0 m c) (rT0 m c) (rYh0 m c) (rYg0 m c) (rW0 m c) (rG0 m c)

theorem out0_eq : res_out0 m c = rG1 m c := rfl
theorem out1_eq : res_out1 m c = extractStridedSlice S4096x512 ![0, 0] (rY (rW0 m c) (rG1 m c)) slices_S4096x1024_S4096x512_0_0 := rfl
theorem out2_eq : res_out2 m c = extractStridedSlice S4096x512 ![0, 512] (rY (rW0 m c) (rG1 m c)) slices_S4096x1024_S4096x512_0_512 := rfl
theorem out3_eq : res_out3 m c = rW (rYh0 m c) (rYg0 m c) (rG1 m c) := rfl
theorem out4_eq : res_out4 m c = rL (rE1 m c) := rfl
theorem out5_eq : res_out5 m c = rF (rN (rH (rX0 m c) (rYh0 m c) (rYg0 m c) (rW0 m c))) (rDo (rE1 m c)) := rfl

theorem out0_at (R : Fin 4096) (l : Fin 1024) :
    res_out0 m c (ix2 R l) = aDh (rX0 m c) (rT0 m c) (rYh0 m c) (rYg0 m c) (rW0 m c) (rG0 m c) R l := by
  rw [out0_eq, rG1, rG_at]

theorem out1_at (R : Fin 4096) (k : Fin 512) :
    res_out1 m c (ix2 R k) = aDy (rX0 m c) (rT0 m c) (rYh0 m c) (rYg0 m c) (rW0 m c) (rG0 m c) R (lo k) := by
  have h : res_out1 m c (ix2 R k) = rY (rW0 m c) (rG1 m c) (ix2 R (lo k)) := by
    rw [out1_eq]; generalize rY (rW0 m c) (rG1 m c) = y; unfold lo; pointwise []
  rw [h, rY_at]
  exact sumc fun l => by rw [rG1, rG_at]

theorem out2_at (R : Fin 4096) (k : Fin 512) :
    res_out2 m c (ix2 R k) = aDy (rX0 m c) (rT0 m c) (rYh0 m c) (rYg0 m c) (rW0 m c) (rG0 m c) R (hi k) := by
  have h : res_out2 m c (ix2 R k) = rY (rW0 m c) (rG1 m c) (ix2 R (hi k)) := by
    rw [out2_eq]; generalize rY (rW0 m c) (rG1 m c) = y; unfold hi; pointwise []
  rw [h, rY_at]
  exact sumc fun l => by rw [rG1, rG_at]

theorem out3_lo (r l : Fin 1024) (h : r.val < 512) :
    res_out3 m c (ix2 r l) = aDw (rX0 m c) (rT0 m c) (rYh0 m c) (rYg0 m c) (rW0 m c) (rG0 m c) (rYh0 m c) ⟨r.val, h⟩ l := by
  rw [out3_eq, rW_at]
  exact sumc fun R => by rw [rC_lo _ _ _ _ h, rG1, rG_at]

theorem out3_hi (r l : Fin 1024) (h : ¬ r.val < 512) :
    res_out3 m c (ix2 r l) = aDw (rX0 m c) (rT0 m c) (rYh0 m c) (rYg0 m c) (rW0 m c) (rG0 m c) (rYg0 m c) ⟨r.val - 512, by omega⟩ l := by
  rw [out3_eq, rW_at]
  exact sumc fun R => by rw [rC_hi _ _ _ _ h, rG1, rG_at]

theorem out4_at (r : Fin 8) (l : Fin 128) :
    res_out4 m c (ix2 r l) = aLoss (rX0 m c) (rT0 m c) (rYh0 m c) (rYg0 m c) (rW0 m c) (rG0 m c) := by
  rw [out4_eq, rL_at]
  exact congrArg (_ * ·) (sumc fun R => sumc fun k => by rw [rE1, rE_at])

theorem out5_at (l : Fin 1024) :
    res_out5 m c (ix2 0 l) = aDfw (rX0 m c) (rT0 m c) (rYh0 m c) (rYg0 m c) (rW0 m c) (rG0 m c) l := by
  rw [out5_eq, rF_at]
  exact sumc fun R => by rw [rDo_at, rE1, rE_at, rN_at, rH_row]

end Results

end Cert.Reference3Ideal.Value
-- ==== Proof.LossEq.lean ====
/-
  The output projection with the loss: the kernel's results and the reference's are the same functions of the argument
  arrays.
-/
module

public import proofs.«01_k».proof.Defs
public import proofs.«01_k».proof.Proof.LossRun
public import proofs.«01_k».proof.Proof.LossRef
public import proofs.«01_k».proof.Proof.Gen.Kernel3Ideal
public import proofs.«01_k».proof.Proof.Gen.Reference3Ideal

@[expose] public section

noncomputable section

namespace Cert.Loss

open Idealize.ShloMosaic Idealize.ShloMosaic.TcCoe Idealize.SL.Sem
open Cert.Reference3Ideal.Value Cert.Kernel3Ideal.Value

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)
  (c : Dev Cert.Kernel3Ideal.nD)

/-- The two programs are started on the same argument arrays. -/
structure Same : Prop where
  x : rX0 m' c = aX m c
  t : rT0 m' c = aT m c
  yh : rYh0 m' c = aYh m c
  yg : rYg0 m' c = aYg m c
  w : rW0 m' c = aW m c
  g : rG0 m' c = aG m c

variable {m m' c}

theorem same0 (h : Same m m' c) : Cert.Reference3Ideal.Value.res_out0 m' c = g6 m c := by
  funext y
  obtain ⟨r, l, rfl⟩ : ∃ (r : Fin 4096) (l : Fin 1024), y = ix2 r l := ⟨y 0, y 1, by idx_ext⟩
  refine (out0_at m' c r l).trans ?_
  rw [h.x, h.t, h.yh, h.yg, h.w, h.g]; rfl

theorem same1 (h : Same m m' c) : Cert.Reference3Ideal.Value.res_out1 m' c = g7 m c := by
  funext y
  obtain ⟨r, l, rfl⟩ : ∃ (r : Fin 4096) (l : Fin 512), y = ix2 r l := ⟨y 0, y 1, by idx_ext⟩
  refine (out1_at m' c r l).trans ?_
  rw [h.x, h.t, h.yh, h.yg, h.w, h.g]; rfl

theorem same2 (h : Same m m' c) : Cert.Reference3Ideal.Value.res_out2 m' c = g8 m c := by
  funext y
  obtain ⟨r, l, rfl⟩ : ∃ (r : Fin 4096) (l : Fin 512), y = ix2 r l := ⟨y 0, y 1, by idx_ext⟩
  refine (out2_at m' c r l).trans ?_
  rw [h.x, h.t, h.yh, h.yg, h.w, h.g]; rfl

theorem same3 (h : Same m m' c) : Cert.Reference3Ideal.Value.res_out3 m' c = g9 m c := by
  funext y
  obtain ⟨r, l, rfl⟩ : ∃ (r : Fin 1024) (l : Fin 1024), y = ix2 r l := ⟨y 0, y 1, by idx_ext⟩
  refine Eq.trans ?_ (g9_at m c r l).symm
  unfold w9
  by_cases hr : r.val < 512
  · rw [dif_pos hr]
    refine (out3_lo m' c r l hr).trans ?_
    rw [h.x, h.t, h.yh, h.yg, h.w, h.g]
  · rw [dif_neg hr]
    refine (out3_hi m' c r l hr).trans ?_
    rw [h.x, h.t, h.yh, h.yg, h.w, h.g]

theorem same4 (h : Same m m' c) : Cert.Reference3Ideal.Value.res_out4 m' c = g10 m c := by
  funext y
  obtain ⟨r, l, rfl⟩ : ∃ (r : Fin 8) (l : Fin 128), y = ix2 r l := ⟨y 0, y 1, by idx_ext⟩
  refine (out4_at m' c r l).trans ?_
  rw [h.x, h.t, h.yh, h.yg, h.w, h.g]; rfl

theorem same5 (h : Same m m' c) : Cert.Reference3Ideal.Value.res_out5 m' c = g11 m c := by
  funext y
  obtain ⟨l, rfl⟩ : ∃ (l : Fin 1024), y = ix2 0 l := ⟨y 1, by idx_ext⟩
  refine (out5_at m' c l).trans ?_
  rw [h.x, h.t, h.yh, h.yg, h.w, h.g]; rfl

theorem algebraic : Cert.algebraic_Kernel3Ideal_Reference3Ideal := by
  intro m g m' g' _ hargs
  have hs : ∀ c, Same m m' c := fun c =>
    ⟨(hargs c).1, (hargs c).2.1, (hargs c).2.2.1, (hargs c).2.2.2.1, (hargs c).2.2.2.2.1, (hargs c).2.2.2.2.2⟩
  refine ⟨g6 m, g7 m, g8 m, g9 m, g10 m, g11 m, ?_, ?_⟩
  · exact (θ_run Cert.Kernel3Ideal.defs _ _).mono (fun r h c => by
      obtain ⟨h0, h1, h2, h3, h4, h5, ha⟩ := h c
      exact ⟨h0.trans (final6 m c), h1.trans (final7 m c), h2.trans (final8 m c), h3.trans (final9 m c),
        h4.trans (final10 m c), h5.trans (final11 m c), ha⟩) (run_blocks m g)
  · exact (θ_run Cert.Reference3Ideal.defs _ _).mono (fun r h c => by
      obtain ⟨h0, h1, h2, h3, h4, h5, ha⟩ := h c
      exact ⟨h0.trans (same0 (hs c)), h1.trans (same1 (hs c)), h2.trans (same2 (hs c)), h3.trans (same3 (hs c)),
        h4.trans (same4 (hs c)), h5.trans (same5 (hs c)), ha⟩) (Cert.Reference3Ideal.Value.run m' g')

/-- The reference's frame: its arguments end as they were, and it declares no semaphore. -/
theorem frame_reference : Cert.quiescent_Reference3Ideal := by
  intro m ρ _
  exact (θ_run Cert.Reference3Ideal.defs _ _).mono (fun r h => ⟨fun c => (h c).2.2.2.2.2.2,
      sem_eq_zero_of_no_sems (by decide) r.2⟩) (Cert.Reference3Ideal.Value.run m ρ)

end Cert.Loss
-- ==== Proof.ProjSpec.lean ====
/-
  The results of the input projection, as functions of the argument arrays on the extended reals: the three parts of the
  projection of the rows and of the leading rows, and the leading rows normalised.
-/
module

public import proofs.«01_k».proof.Proof.BackSpec

@[expose] public section

noncomputable section

namespace Cert.Proj

open Cert.Back Cert.Scale Idealize.ShloMosaic

/-- The argument arrays: the rows, the leading rows, the norm's scale and the weights. -/
structure Args where
  H : Arr 4096 1024
  H0 : Arr 64 1024
  G : Arr 1 1024
  W : Arr 4224 1024

/-- Row `R` of `h`, normalised and scaled. -/
def unit {n : ℕ} (h : Arr n 1024) (g : Arr 1 1024) (R : Fin n) (l : Fin 1024) : EReal := rowNorm (fun l => h (ix2 R l)) l * g (ix2 0 l)

/-- Entry `k` of the projection of row `R` of `h` by the rows of the weights that `w` picks. -/
def proj {n K : ℕ} (h : Arr n 1024) (a : Args) (w : Fin K → Fin 4224) (R : Fin n) (k : Fin K) : EReal :=
  ∑ d, unit h a.G R d * a.W (ix2 (w k) d)

variable (a : Args)

/-- The seven results. -/
def y0 (i : (⟨2, ![4096, 2048]⟩ : Shape).Idx) : EReal := proj a.H a w0 (i 0) (i 1)
def y1 (i : (⟨2, ![4096, 2048]⟩ : Shape).Idx) : EReal := proj a.H a w1 (i 0) (i 1)
def y2 (i : (⟨2, ![4096, 128]⟩ : Shape).Idx) : EReal := proj a.H a w2 (i 0) (i 1)
def y3 (i : (⟨2, ![64, 2048]⟩ : Shape).Idx) : EReal := proj a.H0 a w0 (i 0) (i 1)
def y4 (i : (⟨2, ![64, 2048]⟩ : Shape).Idx) : EReal := proj a.H0 a w1 (i 0) (i 1)
def y5 (i : (⟨2, ![64, 128]⟩ : Shape).Idx) : EReal := proj a.H0 a w2 (i 0) (i 1)
def y6 (i : (⟨2, ![64, 1024]⟩ : Shape).Idx) : EReal := unit a.H0 a.G (i 0) (i 1)

end Cert.Proj
-- ==== Proof.ProjBody.lean ====
/-
  The body of the input projection: its buffers, the contents of its input blocks, and its triple at the first grid point
  and at the later ones. Every buffer it writes it writes whole, so what it leaves is a function of the input blocks.
-/
module

public import proofs.«01_k».proof.Proof.Gen.Kernel4Ideal.Frame
public import proofs.«01_k».proof.Proof.Gen.Kernel4Ideal.Skeleton
public import Idealize.ShloMosaic.Lib.Pipeline.ValueKit.Acc

@[expose] public section

-- memberships in rectangles over long axes are looked at coordinate by coordinate
set_option maxRecDepth 16384

noncomputable section

namespace Cert.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the body is called with: six input blocks, three blocks of its own rows' results, four of the leading
    rows'. -/
structure Bufs where
  a1 : Memref sig .tc .vmem S512x1024 .f32
  h1 : a1.IsWhole
  a2 : Memref sig .tc .vmem S64x1024 .f32
  h2 : a2.IsWhole
  a3 : Memref sig .tc .vmem S1x1024 .f32
  h3 : a3.IsWhole
  a4 : Memref sig .tc .vmem S2048x1024 .bf16
  h4 : a4.IsWhole
  a5 : Memref sig .tc .vmem S2048x1024 .bf16
  h5 : a5.IsWhole
  a6 : Memref sig .tc .vmem S128x1024 .bf16
  h6 : a6.IsWhole
  a7 : Memref sig .tc .vmem S512x2048 .f32
  h7 : a7.IsWhole
  a8 : Memref sig .tc .vmem S512x2048 .f32
  h8 : a8.IsWhole
  a9 : Memref sig .tc .vmem S512x128 .f32
  h9 : a9.IsWhole
  a10 : Memref sig .tc .vmem S64x2048 .f32
  h10 : a10.IsWhole
  a11 : Memref sig .tc .vmem S64x2048 .f32
  h11 : a11.IsWhole
  a12 : Memref sig .tc .vmem S64x128 .f32
  h12 : a12.IsWhole
  a13 : Memref sig .tc .vmem S64x1024 .bf16
  h13 : a13.IsWhole

/-- The contents of the six input blocks: the point's rows, the leading rows, the norm's scale, and the three parts of the
    weights. -/
structure Blocks (F : FTy → Type) where
  x0 : Vec F S512x1024 .f32
  x1 : Vec F S64x1024 .f32
  x2 : Vec F S1x1024 .f32
  x3 : Vec F S2048x1024 .bf16
  x4 : Vec F S2048x1024 .bf16
  x5 : Vec F S128x1024 .bf16

/-- What the body leaves in the seven buffers it writes, from the input blocks. -/
def Blocks.row0 (x : Blocks F) : Vec F S512x2048 .f32 := k0_pay6 x.x0 x.x2 x.x3
def Blocks.row1 (x : Blocks F) : Vec F S512x2048 .f32 := k0_pay7 x.x0 x.x2 x.x4
def Blocks.row2 (x : Blocks F) : Vec F S512x128 .f32 := k0_pay8 x.x0 x.x2 x.x5
def Blocks.lead0 (x : Blocks F) : Vec F S64x2048 .f32 := k0_pay2 x.x1 x.x2 x.x3
def Blocks.lead1 (x : Blocks F) : Vec F S64x2048 .f32 := k0_pay3 x.x1 x.x2 x.x4
def Blocks.lead2 (x : Blocks F) : Vec F S64x128 .f32 := k0_pay4 x.x1 x.x2 x.x5
def Blocks.leadU (x : Blocks F) : Vec F S64x1024 .bf16 := k0_pay1 x.x1 x.x2

/-- The input blocks, each held whole at its contents. -/
def ins (c : Dev nD) (b : Bufs) (x : Blocks F) : sProp 𝕄 :=
  iprop(owns (c : Thread nD τ) b.a1 fullShare x.x0
    ∗ owns (c : Thread nD τ) b.a2 fullShare x.x1
    ∗ owns (c : Thread nD τ) b.a3 fullShare x.x2
    ∗ owns (c : Thread nD τ) b.a4 fullShare x.x3
    ∗ owns (c : Thread nD τ) b.a5 fullShare x.x4
    ∗ owns (c : Thread nD τ) b.a6 fullShare x.x5)

/-- The blocks of the point's rows, each held whole at what the body leaves. -/
def rowsOf (c : Dev nD) (b : Bufs) (x : Blocks F) : sProp 𝕄 :=
  iprop(owns (c : Thread nD τ) b.a7 fullShare x.row0 ∗ owns (c : Thread nD τ) b.a8 fullShare x.row1 ∗ owns (c : Thread nD τ) b.a9 fullShare x.row2)

/-- The blocks of the leading rows, likewise. -/
def leadOf (c : Dev nD) (b : Bufs) (x : Blocks F) : sProp 𝕄 :=
  iprop(owns (c : Thread nD τ) b.a10 fullShare x.lead0
    ∗ owns (c : Thread nD τ) b.a11 fullShare x.lead1
    ∗ owns (c : Thread nD τ) b.a12 fullShare x.lead2
    ∗ owns (c : Thread nD τ) b.a13 fullShare x.leadU)

/-- The same buffers at any contents. -/
def rowsAny (c : Dev nD) (b : Bufs) : sProp 𝕄 :=
  iprop((∃ d, owns (c : Thread nD τ) b.a7 fullShare d) ∗ (∃ d, owns (c : Thread nD τ) b.a8 fullShare d) ∗ (∃ d, owns (c : Thread nD τ) b.a9 fullShare d))
def leadAny (c : Dev nD) (b : Bufs) : sProp 𝕄 :=
  iprop((∃ d, owns (c : Thread nD τ) b.a10 fullShare d)
    ∗ (∃ d, owns (c : Thread nD τ) b.a11 fullShare d)
    ∗ (∃ d, owns (c : Thread nD τ) b.a12 fullShare d)
    ∗ (∃ d, owns (c : Thread nD τ) b.a13 fullShare d))

/-- The body at grid coordinates `i` with buffers `b`. -/
abbrev bodyOf (i : grid0.Coords) (b : Bufs) : Prog (TpuEff nD τ sig (Elt F) Λ₀ .tc) PUnit :=
  cc0_in_proj i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13

/-- The branch of the leading rows is taken. -/
abbrev first (i : grid0.Coords) : Prop := k0_cond1 i = 1#1

/-- It is taken at the first point only. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have h : first (grid0.coords t) ↔ t.val % 8 = 0 := by
    simp only [first, k0_cond1, e0]
    word_cmp
  rw [h, Nat.mod_eq_of_lt ht]

/-- A whole buffer that was read keeps its contents. -/
theorem kept (c : Dev nD) {S : Shape} {e : EltTy} {a : Memref sig .tc .vmem S e} (h : a.IsWhole) (x : S.Idx → Elt F e) :
    iprop(a.view.loc (c : Thread nD τ) ↦[a.view.set]{fullShare} h.unread x) ⊢ (iprop(∃ f, ⌜a.view.read (Elt F) f = x⌝ ∗ a.view.loc (c : Thread nD τ) ↦[a.view.set]{fullShare} f) : sProp 𝕄) := by
  iintro H
  iexists _; isplitr; · ipureintro; exact h.read_unread _
  iexact H

-- the triple's proof term is large
set_option maxHeartbeats 1600000 in
/-- The body at the first point. -/
theorem sound_first (c : Dev nD) (i : grid0.Coords) (b : Bufs) (hc : first i) (x : Blocks F) (W : Waits sig Unit) (K : PUnit → sProp 𝕄) :
    iprop(ins c b x ∗ rowsAny c b ∗ leadAny c b ∗ owes (c : Thread nD τ) 0 W
        ∗ (iprop(ins c b x ∗ rowsOf c b x ∗ leadOf c b x ∗ (∃ W', owes (c : Thread nD τ) 0 W')) -∗ K ⟨⟩))
      ⊢ wp frame (wpE (defs₀ (F := F)) Variants.none c none) Set.univ (bodyOf i b) K := by
  unfold bodyOf
  simp only [cc0_in_proj_eq_skeleton]; unfold cc0_in_proj_skel
  unfold ins rowsAny rowsOf leadAny leadOf owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%d8, %f8, -, H8⟩, ⟨%d9, %f9, -, H9⟩⟩, ⟨⟨%d10, %f10, -, H10⟩, ⟨%d11, %f11, -, H11⟩, ⟨%d12, %f12, -, H12⟩, ⟨%d13, %f13, -, H13⟩⟩, HW, Hk⟩
  obtain rfl := b.h1.eq_unread hf1
  obtain rfl := b.h2.eq_unread hf2
  obtain rfl := b.h3.eq_unread hf3
  obtain rfl := b.h4.eq_unread hf4
  obtain rfl := b.h5.eq_unread hf5
  obtain rfl := b.h6.eq_unread hf6
  sl_exec (disch := sl_exact hc)
  sl_step
  iapply Hk
  isplitl [H1 H2 H3 H4 H5 H6]
  · isplitl [H1]; · iapply (kept c b.h1 x.x0); iexact H1
    isplitl [H2]; · iapply (kept c b.h2 x.x1); iexact H2
    isplitl [H3]; · iapply (kept c b.h3 x.x2); iexact H3
    isplitl [H4]; · iapply (kept c b.h4 x.x3); iexact H4
    isplitl [H5]; · iapply (kept c b.h5 x.x4); iexact H5
    iapply (kept c b.h6 x.x5); iexact H6
  isplitl [H7 H8 H9]
  · isplitl [H7]
    · iexists _; isplitr; swap; · iexact H7
      ipureintro; unfold Blocks.row0; exact (View.read_writes_eq_canon _ _ _ fun y => View.cover_of_tiledL _ S512x2048.size (by sl_kernel_rfl) y).trans (by frame_out)
    isplitl [H8]
    · iexists _; isplitr; swap; · iexact H8
      ipureintro; unfold Blocks.row1; exact (View.read_writes_eq_canon _ _ _ fun y => View.cover_of_tiledL _ S512x2048.size (by sl_kernel_rfl) y).trans (by frame_out)
    iexists _; isplitr; swap; · iexact H9
    ipureintro; unfold Blocks.row2; exact (View.read_writes_eq_canon _ _ _ fun y => View.cover_of_tiledL _ S512x128.size (by sl_kernel_rfl) y).trans (by frame_out)
  isplitl [H10 H11 H12 H13]
  · isplitl [H10]
    · iexists _; isplitr; swap; · iexact H10
      ipureintro; unfold Blocks.lead0; exact (View.read_writes_eq_canon _ _ _ fun y => View.cover_of_tiledL _ S64x2048.size (by sl_kernel_rfl) y).trans (by frame_out)
    isplitl [H11]
    · iexists _; isplitr; swap; · iexact H11
      ipureintro; unfold Blocks.lead1; exact (View.read_writes_eq_canon _ _ _ fun y => View.cover_of_tiledL _ S64x2048.size (by sl_kernel_rfl) y).trans (by frame_out)
    isplitl [H12]
    · iexists _; isplitr; swap; · iexact H12
      ipureintro; unfold Blocks.lead2; exact (View.read_writes_eq_canon _ _ _ fun y => View.cover_of_tiledL _ S64x128.size (by sl_kernel_rfl) y).trans (by frame_out)
    iexists _; isplitr; swap; · iexact H13
    ipureintro; unfold Blocks.leadU; exact (View.read_writes_eq_canon _ _ _ fun y => View.cover_of_tiledL _ S64x1024.size (by sl_kernel_rfl) y).trans (by frame_out)
  iexists _; iexact HW

-- the triple's proof term is large
set_option maxHeartbeats 1600000 in
/-- The body at a later point. -/
theorem sound_later (c : Dev nD) (i : grid0.Coords) (b : Bufs) (hc : ¬first i) (x : Blocks F) (W : Waits sig Unit) (K : PUnit → sProp 𝕄) :
    iprop(ins c b x ∗ rowsAny c b ∗ owes (c : Thread nD τ) 0 W
        ∗ (iprop(ins c b x ∗ rowsOf c b x ∗ (∃ W', owes (c : Thread nD τ) 0 W')) -∗ K ⟨⟩))
      ⊢ wp frame (wpE (defs₀ (F := F)) Variants.none c none) Set.univ (bodyOf i b) K := by
  unfold bodyOf
  simp only [cc0_in_proj_eq_skeleton]; unfold cc0_in_proj_skel
  unfold ins rowsAny rowsOf owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%d8, %f8, -, H8⟩, ⟨%d9, %f9, -, H9⟩⟩, HW, Hk⟩
  obtain rfl := b.h1.eq_unread hf1
  obtain rfl := b.h2.eq_unread hf2
  obtain rfl := b.h3.eq_unread hf3
  obtain rfl := b.h4.eq_unread hf4
  obtain rfl := b.h5.eq_unread hf5
  obtain rfl := b.h6.eq_unread hf6
  sl_exec (disch := sl_exact hc)
  sl_step
  iapply Hk
  isplitl [H1 H2 H3 H4 H5 H6]
  · isplitl [H1]; · iapply (kept c b.h1 x.x0); iexact H1
    isplitl [H2]; · iapply (kept c b.h2 x.x1); iexact H2
    isplitl [H3]; · iapply (kept c b.h3 x.x2); iexact H3
    isplitl [H4]; · iapply (kept c b.h4 x.x3); iexact H4
    isplitl [H5]; · iapply (kept c b.h5 x.x4); iexact H5
    iapply (kept c b.h6 x.x5); iexact H6
  isplitl [H7 H8 H9]
  · isplitl [H7]
    · iexists _; isplitr; swap; · iexact H7
      ipureintro; unfold Blocks.row0; exact (View.read_writes_eq_canon _ _ _ fun y => View.cover_of_tiledL _ S512x2048.size (by sl_kernel_rfl) y).trans (by frame_out)
    isplitl [H8]
    · iexists _; isplitr; swap; · iexact H8
      ipureintro; unfold Blocks.row1; exact (View.read_writes_eq_canon _ _ _ fun y => View.cover_of_tiledL _ S512x2048.size (by sl_kernel_rfl) y).trans (by frame_out)
    iexists _; isplitr; swap; · iexact H9
    ipureintro; unfold Blocks.row2; exact (View.read_writes_eq_canon _ _ _ fun y => View.cover_of_tiledL _ S512x128.size (by sl_kernel_rfl) y).trans (by frame_out)
  iexists _; iexact HW

end Cert.Proj
-- ==== Proof.ProjDat.lean ====
/-
  The input projection over the grid: what its buffers hold after every point, the obligation the pipeline asks of the
  body, and the launch.
-/
module

public import proofs.«01_k».proof.Proof.ProjBody
public import Idealize.ShloMosaic.Lib.Pipeline.TableIdle

@[expose] public section

-- memberships in rectangles over long axes are looked at coordinate by coordinate
set_option maxRecDepth 16384

noncomputable section

namespace Cert.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body is called with at point `t`. -/
def bufs (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)

/-- The blocks the inputs hold at point `t`. -/
def blks (c : Dev nD) (t : Fin cfg0.N) : Blocks F where
  x0 := iblk m c 0 t
  x1 := iblk m c 1 t
  x2 := iblk m c 2 t
  x3 := X0_3 m c t
  x4 := X0_4 m c t
  x5 := iblk m c 5 t

/-- The first point and the last. -/
def start : Fin cfg0.N := ⟨0, by rw [show cfg0.N = 8 from N_0]; decide⟩
def last : Fin cfg0.N := ⟨7, by rw [show cfg0.N = 8 from N_0]; decide⟩

/-- The proof data of the pipeline: the arrays as launched, the inputs' buffers at their blocks, the rows' results at what
    the point computes, the leading rows' at what the first point computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => iblk m c 5 t
    | ⟨6, _⟩ => (blks m c t).row0
    | ⟨7, _⟩ => (blks m c t).row1
    | ⟨8, _⟩ => (blks m c t).row2
    | ⟨9, _⟩ => (blks m c start).lead0
    | ⟨10, _⟩ => (blks m c start).lead1
    | ⟨11, _⟩ => (blks m c start).lead2
    | ⟨12, _⟩ => (blks m c start).leadU
    | ⟨_ + 13, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (blks m c t).row0 := by dsimp only [dats]
theorem after_7 (c : Dev nD) (t : Fin cfg0.N) : (dats m 0 c).after 7 t = (blks m c t).row1 := by dsimp only [dats]
theorem after_8 (c : Dev nD) (t : Fin cfg0.N) : (dats m 0 c).after 8 t = (blks m c t).row2 := by dsimp only [dats]
theorem after_9 (c : Dev nD) (t : Fin cfg0.N) : (dats m 0 c).after 9 t = (blks m c start).lead0 := by dsimp only [dats]
theorem after_10 (c : Dev nD) (t : Fin cfg0.N) : (dats m 0 c).after 10 t = (blks m c start).lead1 := by dsimp only [dats]
theorem after_11 (c : Dev nD) (t : Fin cfg0.N) : (dats m 0 c).after 11 t = (blks m c start).lead2 := by dsimp only [dats]
theorem after_12 (c : Dev nD) (t : Fin cfg0.N) : (dats m 0 c).after 12 t = (blks m c start).leadU := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A window of the leading rows' results: written at the first point only, written back after the last, and left at the
    same contents by every point. -/
structure LeadWin (c : Dev nD) (w : Fin cfg0.W) : Prop where
  isOut : (cfg0.win w).isOut = true
  uncut : ∀ i a, (cfg0.win w).clip i a = none
  fresh : ∀ t : Fin cfg0.N, t.val ≠ 0 → cfg0.fresh w t.val = false
  same : ∀ t t' : Fin cfg0.N, (dats m 0 c).after w t = (dats m 0 c).after w t'
  idle : ∀ t : Fin cfg0.N, cfg0.idle w (cfg0.grid.coords t) = !(k0_cond1 (grid0.coords t) == 1#1)
  flush : ∀ t : Fin cfg0.N, (cfg0.win w).flush t = true ↔ t.val % 8 = 7

variable {m} {c : Dev nD} {w : Fin cfg0.W} (lw : LeadWin m c w)
include lw

/-- At a later point such a window's buffer still holds what the first point left. -/
theorem LeadWin.before (t : Fin cfg0.N) (h0 : t.val ≠ 0) (d) : (dats m 0 c).before w t d = (dats m 0 c).after w t := by
  rw [Dat.before_out_traj (dats m 0 c) w lw.isOut lw.uncut (fun t h0 _ _ => lw.same _ _) t.val t rfl d, lw.fresh t h0]
  exact lw.same _ _

/-- A later point gives such a window back as it was handed over. -/
theorem LeadWin.post_later (t : Fin cfg0.N) (h0 : t.val ≠ 0) :
    iprop(∃ d, owns (c : Thread nD τ) ((cfg0.win w).stage (cfg0.slots t w)) fullShare ((dats m 0 c).before w t d)) ⊢ (dats m 0 c).leavesExact w t := by
  have hN : t.val < 8 := lt_of_lt_of_eq t.isLt (show cfg0.N = 8 from N_0)
  have hi : cfg0.idle w (cfg0.grid.coords t) = true := by
    rw [lw.idle, Bool.not_eq_true', beq_eq_false_iff_ne]; exact fun h => h0 ((first_iff t).mp h)
  by_cases h7 : t.val = 7
  · have hf : (cfg0.win w).flush t = true := (lw.flush t).mpr (by omega)
    unfold Dat.leavesExact; rw [hi, hf]
    simp only [lw.before t h0]
    iintro ⟨%d, H⟩
    iexact H
  · have hf : (cfg0.win w).flush t = false := Bool.eq_false_iff.mpr fun h => by have := (lw.flush t).mp h; omega
    rw [Dat.leavesExact_idle _ w t hi hf]

/-- The first point gives such a window back at what it stored. -/
theorem LeadWin.post_first (t : Fin cfg0.N) (h0 : t.val = 0) :
    owns (c : Thread nD τ) ((cfg0.win w).stage (cfg0.slots t w)) fullShare ((dats m 0 c).after w t) ⊢ (dats m 0 c).leavesExact w t := by
  have hi : cfg0.idle w (cfg0.grid.coords t) = false := by
    rw [lw.idle, (first_iff t).mpr h0]; rfl
  unfold Dat.leavesExact; rw [hi]

omit lw
variable (m c)

theorem lead_9 : LeadWin m c 9 := ⟨rfl, fun _ _ => rfl, by decide +kernel, fun t t' => by rw [after_9, after_9], fun _ => rfl, flush0_9⟩
theorem lead_10 : LeadWin m c 10 := ⟨rfl, fun _ _ => rfl, by decide +kernel, fun t t' => by rw [after_10, after_10], fun _ => rfl, flush0_10⟩
theorem lead_11 : LeadWin m c 11 := ⟨rfl, fun _ _ => rfl, by decide +kernel, fun t t' => by rw [after_11, after_11], fun _ => rfl, flush0_11⟩
theorem lead_12 : LeadWin m c 12 := ⟨rfl, fun _ _ => rfl, by decide +kernel, fun t t' => by rw [after_12, after_12], fun _ => rfl, flush0_12⟩

end Cert.Proj
-- ==== Proof.ProjRun.lean ====
/-
  The body of the input projection meets the pipeline's obligation at every point, and the launch runs.
-/
module

public import proofs.«01_k».proof.Proof.ProjDat

@[expose] public section

-- memberships in rectangles over long axes are looked at coordinate by coordinate
set_option maxRecDepth 16384

noncomputable section

namespace Cert.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The leading rows' buffers as the point finds them, and as it leaves them. -/
def leadPre (c : Dev nD) (t : Fin cfg0.N) : sProp 𝕄 :=
  iprop((∃ d, owns (c : Thread nD τ) (bufs t).a10 fullShare ((dats m 0 c).before 9 t d))
    ∗ (∃ d, owns (c : Thread nD τ) (bufs t).a11 fullShare ((dats m 0 c).before 10 t d))
    ∗ (∃ d, owns (c : Thread nD τ) (bufs t).a12 fullShare ((dats m 0 c).before 11 t d))
    ∗ (∃ d, owns (c : Thread nD τ) (bufs t).a13 fullShare ((dats m 0 c).before 12 t d)))
def leadPost (c : Dev nD) (t : Fin cfg0.N) : sProp 𝕄 :=
  iprop((dats m 0 c).leavesExact 9 t ∗ (dats m 0 c).leavesExact 10 t ∗ (dats m 0 c).leavesExact 11 t ∗ (dats m 0 c).leavesExact 12 t)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (bufs t).a1 fullShare ((dats m 0 c).before 0 t d))
    ∗ (∃ d, owns (c : Thread nD τ) (bufs t).a2 fullShare ((dats m 0 c).before 1 t d))
    ∗ (∃ d, owns (c : Thread nD τ) (bufs t).a3 fullShare ((dats m 0 c).before 2 t d))
    ∗ (∃ d, owns (c : Thread nD τ) (bufs t).a4 fullShare ((dats m 0 c).before 3 t d))
    ∗ (∃ d, owns (c : Thread nD τ) (bufs t).a5 fullShare ((dats m 0 c).before 4 t d))
    ∗ (∃ d, owns (c : Thread nD τ) (bufs t).a6 fullShare ((dats m 0 c).before 5 t d))
    ∗ (∃ d, owns (c : Thread nD τ) (bufs t).a7 fullShare ((dats m 0 c).before 6 t d))
    ∗ (∃ d, owns (c : Thread nD τ) (bufs t).a8 fullShare ((dats m 0 c).before 7 t d))
    ∗ (∃ d, owns (c : Thread nD τ) (bufs t).a9 fullShare ((dats m 0 c).before 8 t d))
    ∗ leadPre m c t)

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ leadPost m c t)

/-- The inputs hold their blocks. -/
theorem pre_ins (c : Dev nD) (t : Fin cfg0.N) :
    bodyPre m c t ⊢ iprop((dats m 0 c).Φ t.castSucc ∗ (dats m 0 c).owesAt () t.castSucc ∗ ins c (bufs t) (blks m c t)
      ∗ rowsAny c (bufs t) ∗ leadPre m c t) := by
  unfold bodyPre ins rowsAny
  simp only [before_0, before_1, before_2, before_3, before_4, before_5]
  iintro ⟨HI, HO, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, HL⟩
  isplitl [HI]; · iexact HI
  isplitl [HO]; · iexact HO
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7 H8 H9]
  · isplitl [H7]; · iexists _; iexact H7
    isplitl [H8]; · iexists _; iexact H8
    iexists _; iexact H9
  iexact HL

/-- What the runs leave is what the pipeline asks for. -/
theorem outs_post (c : Dev nD) (t : Fin cfg0.N) :
    iprop((dats m 0 c).Φ t.succ ∗ (dats m 0 c).owesAt () t.succ ∗ ins c (bufs t) (blks m c t)
      ∗ rowsOf c (bufs t) (blks m c t) ∗ leadPost m c t) ⊢ bodyPost m c t := by
  unfold bodyPost ins rowsOf
  rw [show (dats m 0 c).leavesExact 0 t = owns (c : Thread nD τ) (bufs t).a1 fullShare ((dats m 0 c).after 0 t) from rfl, after_0]
  rw [show (dats m 0 c).leavesExact 1 t = owns (c : Thread nD τ) (bufs t).a2 fullShare ((dats m 0 c).after 1 t) from rfl, after_1]
  rw [show (dats m 0 c).leavesExact 2 t = owns (c : Thread nD τ) (bufs t).a3 fullShare ((dats m 0 c).after 2 t) from rfl, after_2]
  rw [show (dats m 0 c).leavesExact 3 t = owns (c : Thread nD τ) (bufs t).a4 fullShare ((dats m 0 c).after 3 t) from rfl, after_3]
  rw [show (dats m 0 c).leavesExact 4 t = owns (c : Thread nD τ) (bufs t).a5 fullShare ((dats m 0 c).after 4 t) from rfl, after_4]
  rw [show (dats m 0 c).leavesExact 5 t = owns (c : Thread nD τ) (bufs t).a6 fullShare ((dats m 0 c).after 5 t) from rfl, after_5]
  rw [show (dats m 0 c).leavesExact 6 t = owns (c : Thread nD τ) (bufs t).a7 fullShare ((dats m 0 c).after 6 t) from rfl, after_6]
  rw [show (dats m 0 c).leavesExact 7 t = owns (c : Thread nD τ) (bufs t).a8 fullShare ((dats m 0 c).after 7 t) from rfl, after_7]
  rw [show (dats m 0 c).leavesExact 8 t = owns (c : Thread nD τ) (bufs t).a9 fullShare ((dats m 0 c).after 8 t) from rfl, after_8]
  iintro ⟨HI, HO, ⟨H1, H2, H3, H4, H5, H6⟩, ⟨H7, H8, H9⟩, HL⟩
  isplitl [HI]; · iexact HI
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HL

/-- The leading rows' buffers at any contents. -/
theorem lead_any (c : Dev nD) (t : Fin cfg0.N) : leadPre m c t ⊢ leadAny c (bufs t) := by
  unfold leadPre leadAny
  iintro ⟨⟨%d10, H10⟩, ⟨%d11, H11⟩, ⟨%d12, H12⟩, ⟨%d13, H13⟩⟩
  isplitl [H10]; · iexists _; iexact H10
  isplitl [H11]; · iexists _; iexact H11
  isplitl [H12]; · iexists _; iexact H12
  iexists _; iexact H13

/-- The first point leaves the leading rows' results. -/
theorem lead_first (c : Dev nD) (t : Fin cfg0.N) (h0 : t.val = 0) : leadOf c (bufs t) (blks m c t) ⊢ leadPost m c t := by
  obtain rfl : t = start := Fin.ext h0
  unfold leadOf leadPost
  iintro ⟨H10, H11, H12, H13⟩
  isplitl [H10]; · iapply ((lead_9 m c).post_first start rfl); rw [after_9]; iexact H10
  isplitl [H11]; · iapply ((lead_10 m c).post_first start rfl); rw [after_10]; iexact H11
  isplitl [H12]; · iapply ((lead_11 m c).post_first start rfl); rw [after_11]; iexact H12
  iapply ((lead_12 m c).post_first start rfl); rw [after_12]; iexact H13

/-- A later point leaves them as they are. -/
theorem lead_later (c : Dev nD) (t : Fin cfg0.N) (h0 : t.val ≠ 0) : leadPre m c t ⊢ leadPost m c t := by
  unfold leadPre leadPost
  iintro ⟨H10, H11, H12, H13⟩
  isplitl [H10]; · iapply ((lead_9 m c).post_later t h0); iexact H10
  isplitl [H11]; · iapply ((lead_10 m c).post_later t h0); iexact H11
  isplitl [H12]; · iapply ((lead_11 m c).post_later t h0); iexact H12
  iapply ((lead_12 m c).post_later t h0); iexact H13

/-- The body's triple at every point. -/
theorem sound_body (c : Dev nD) (t : Fin cfg0.N) :
    bodyPre m c t ⊢ wp frame (wpE (defs₀ (F := F)) Variants.none c none) Set.univ (bodyAt0 t) (fun _ => bodyPost m c t) := by
  rw [show bodyAt0 t = bodyOf (grid0.coords t) (bufs t) from rfl]
  refine BIBase.Entails.trans (pre_ins m c t) ?_
  unfold Dat.owesAt Pipeline.owesWithin
  rw [show (dats m 0 c).owed t.castSucc = 0 from rfl, show (dats m 0 c).Φ t.castSucc = (dats m 0 c).Φ t.succ from rfl]
  iintro ⟨HI, ⟨%W, -, HW⟩, Hin, HR, HL⟩
  by_cases h0 : t.val = 0
  · iapply (sound_first c (grid0.coords t) (bufs t) ((first_iff t).mpr h0) (blks m c t) W _)
    isplitl [Hin]; · iexact Hin
    isplitl [HR]; · iexact HR
    isplitl [HL]; · iapply (lead_any m c t); iexact HL
    isplitl [HW]; · iexact HW
    iintro ⟨Hin, HR, HL, ⟨%W', HW'⟩⟩
    iapply (outs_post m c t)
    unfold Dat.owesAt Pipeline.owesWithin
    rw [show (dats m 0 c).owed t.succ = 0 from rfl]
    isplitl [HI]; · iexact HI
    isplitl [HW']
    · iexists W'; isplitr; · ipureintro; exact fun _ _ => Or.inl trivial
      iexact HW'
    isplitl [Hin]; · iexact Hin
    isplitl [HR]; · iexact HR
    iapply (lead_first m c t h0); iexact HL
  · iapply (sound_later c (grid0.coords t) (bufs t) (fun h => h0 ((first_iff t).mp h)) (blks m c t) W _)
    isplitl [Hin]; · iexact Hin
    isplitl [HR]; · iexact HR
    isplitl [HW]; · iexact HW
    iintro ⟨Hin, HR, ⟨%W', HW'⟩⟩
    iapply (outs_post m c t)
    unfold Dat.owesAt Pipeline.owesWithin
    rw [show (dats m 0 c).owed t.succ = 0 from rfl]
    isplitl [HI]; · iexact HI
    isplitl [HW']
    · iexists W'; isplitr; · ipureintro; exact fun _ _ => Or.inl trivial
      iexact HW'
    isplitl [Hin]; · iexact Hin
    isplitl [HR]; · iexact HR
    iapply (lead_later m c t h0); iexact HL

/-- The pipeline's table holds this body. -/
theorem body_row (t : Fin cfg0.N) : defs₀ (F := F) .tc cfg0.body (cfg0.bodyArgs t (cfg0.slots t)) = bodyAt0 t := by
  unfold defs₀; rw [Defs.onTc_tc]

/-- What the pipeline asks of its body. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

-- the launch's implicit arguments are found from its conclusion, through definitions in types
set_option backward.isDefEq.respectTransparency.types false in
/-- The launch. -/
theorem launched : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they were. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 5).trans (((dats m 0 c).arrAt_in 5 rfl _).trans (A_eq m c 5))⟩

/-- The frame, over any floats. -/
theorem framed : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m r h.1 c, h.2⟩) (launched m ρ)

end Cert.Proj
-- ==== Proof.ProjVal.lean ====
/-
  The input projection: what its grid points compute, entry by entry, from the blocks they hold, those blocks over the
  argument arrays, and the seven results as functions of the argument arrays.
-/
module

public import proofs.«01_k».proof.Proof.ProjSpec
public import proofs.«01_k».proof.Proof.ProjRun
public import Idealize.ShloMosaic.Lib.Pipeline.ValueKit.Geometry
public import Idealize.ShloMosaic.Lib.Pipeline.ValueKit.Tiles

@[expose] public section

noncomputable section

namespace Cert.Proj

open Cert.Kernel4Ideal Cert.Kernel4Ideal.Gen Cert.Scale
open Cert.Back (rowNorm w0 w1 w2 Arr sumc)
open Idealize.ShloMosaic Idealize.ShloMosaic.TcCoe Idealize.SL.Sem
open Idealize.ShloMosaic.Pipeline (Dat)

/-! ## What a point computes -/

section Pay

variable (g : Vec Ideal S1x1024 .f32)

theorem pay5_at (h : Vec Ideal S512x1024 .f32) (r : Fin 512) (l : Fin 1024) : k0_pay5 h g (ix2 r l) = unit h g r l := by
  unfold unit rowNorm rinv meanSq
  pointwise [k0_pay5]
theorem pay6_at (h : Vec Ideal S512x1024 .f32) (w : Vec Ideal S2048x1024 .bf16) (r : Fin 512) (k : Fin 2048) :
    k0_pay6 h g w (ix2 r k) = ∑ d, unit h g r d * w (ix2 k d) := by
  simp only [← pay5_at]
  pointwise [k0_pay6]
theorem pay7_at (h : Vec Ideal S512x1024 .f32) (w : Vec Ideal S2048x1024 .bf16) (r : Fin 512) (k : Fin 2048) :
    k0_pay7 h g w (ix2 r k) = ∑ d, unit h g r d * w (ix2 k d) := by
  simp only [← pay5_at]
  pointwise [k0_pay7]
theorem pay8_at (h : Vec Ideal S512x1024 .f32) (w : Vec Ideal S128x1024 .bf16) (r : Fin 512) (k : Fin 128) :
    k0_pay8 h g w (ix2 r k) = ∑ d, unit h g r d * w (ix2 k d) := by
  simp only [← pay5_at]
  pointwise [k0_pay8]

theorem pay1_at (h : Vec Ideal S64x1024 .f32) (r : Fin 64) (l : Fin 1024) : k0_pay1 h g (ix2 r l) = unit h g r l := by
  unfold unit rowNorm rinv meanSq
  pointwise [k0_pay1]
theorem pay2_at (h : Vec Ideal S64x1024 .f32) (w : Vec Ideal S2048x1024 .bf16) (r : Fin 64) (k : Fin 2048) :
    k0_pay2 h g w (ix2 r k) = ∑ d, unit h g r d * w (ix2 k d) := by
  simp only [← pay1_at]
  pointwise [k0_pay2]
theorem pay3_at (h : Vec Ideal S64x1024 .f32) (w : Vec Ideal S2048x1024 .bf16) (r : Fin 64) (k : Fin 2048) :
    k0_pay3 h g w (ix2 r k) = ∑ d, unit h g r d * w (ix2 k d) := by
  simp only [← pay1_at]
  pointwise [k0_pay3]
theorem pay4_at (h : Vec Ideal S64x1024 .f32) (w : Vec Ideal S128x1024 .bf16) (r : Fin 64) (k : Fin 128) :
    k0_pay4 h g w (ix2 r k) = ∑ d, unit h g r d * w (ix2 k d) := by
  simp only [← pay1_at]
  pointwise [k0_pay4]

end Pay

/-! ## The blocks -/

variable (m : (ℓ : Loc nD τ sig) → Buf (Elt Ideal) ℓ) (c : Dev nD)

/-- The argument arrays. -/
def kArgs : Args := ⟨m ((c : Thread nD τ).loc main_arg0), m ((c : Thread nD τ).loc main_arg1), m ((c : Thread nD τ).loc main_arg2),
  m ((c : Thread nD τ).loc main_arg3)⟩

/-- The array row that row `r` of the block at point `t` is. -/
def row (t : Fin cfg0.N) (r : Fin 512) : Fin 4096 :=
  ⟨t.val * 512 + r.val, by have h := t.isLt; have hN : cfg0.N = 8 := N_0; omega⟩

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![1, 0] := (by decide +kernel : ∀ t : Fin grid0.N, _)
theorem ix_5 : ∀ t : Fin cfg0.N, win0_5.index t = ![32, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)

section Blocks

variable (t : Fin cfg0.N)

theorem in0 (r : Fin 512) (l : Fin 1024) : (blks m c t).x0 (ix2 r l) = (kArgs m c).H (ix2 (row t r) l) := by
  show iblk m c 0 t (ix2 r l) = m ((c : Thread nD τ).loc main_arg0) (ix2 (row t r) l)
  blk_simp [iblk, V]
  congr 1
  blk_ext [ix_0 t, row]
theorem in1 (r : Fin 64) (l : Fin 1024) : (blks m c t).x1 (ix2 r l) = (kArgs m c).H0 (ix2 r l) := by
  show iblk m c 1 t (ix2 r l) = m ((c : Thread nD τ).loc main_arg1) (ix2 r l)
  blk_simp [iblk, V]
  congr 1
  blk_ext [ix_1 t]
theorem in2 (r : Fin 1) (l : Fin 1024) : (blks m c t).x2 (ix2 r l) = (kArgs m c).G (ix2 r l) := by
  show iblk m c 2 t (ix2 r l) = m ((c : Thread nD τ).loc main_arg2) (ix2 r l)
  blk_simp [iblk, V]
  congr 1
  blk_ext [ix_2 t]
theorem in3 (k : Fin 2048) (d : Fin 1024) : (blks m c t).x3 (ix2 k d) = (kArgs m c).W (ix2 (w0 k) d) := by
  show X0_3 m c t (ix2 k d) = m ((c : Thread nD τ).loc main_arg3) (ix2 (w0 k) d)
  unfold X0_3 Pipeline.Window.fill
  rw [dif_pos (moved0_3 t _)]
  blk_simp [iblk, V]
  congr 1
  blk_ext [ix_3 t, w0]
theorem in4 (k : Fin 2048) (d : Fin 1024) : (blks m c t).x4 (ix2 k d) = (kArgs m c).W (ix2 (w1 k) d) := by
  show X0_4 m c t (ix2 k d) = m ((c : Thread nD τ).loc main_arg3) (ix2 (w1 k) d)
  unfold X0_4 Pipeline.Window.fill
  rw [dif_pos (moved0_4 t _)]
  blk_simp [iblk, V]
  congr 1
  blk_ext [ix_4 t, w1]
theorem in5 (k : Fin 128) (d : Fin 1024) : (blks m c t).x5 (ix2 k d) = (kArgs m c).W (ix2 (w2 k) d) := by
  show iblk m c 5 t (ix2 k d) = m ((c : Thread nD τ).loc main_arg3) (ix2 (w2 k) d)
  blk_simp [iblk, V]
  congr 1
  blk_ext [ix_5 t, w2]

theorem unit_row (r : Fin 512) (d : Fin 1024) : unit (blks m c t).x0 (blks m c t).x2 r d = unit (kArgs m c).H (kArgs m c).G (row t r) d := by
  unfold unit
  simp only [in0, in2]
theorem unit_lead (r : Fin 64) (d : Fin 1024) : unit (blks m c t).x1 (blks m c t).x2 r d = unit (kArgs m c).H0 (kArgs m c).G r d := by
  unfold unit
  simp only [in1, in2]

/-- A part of the projection of a point's rows, and of the leading rows, by a block of the weights. -/
theorem row_is {K : ℕ} (x : Arr K 1024) (w : Fin K → Fin 4224) (h : ∀ k d, x (ix2 k d) = (kArgs m c).W (ix2 (w k) d)) (r : Fin 512) (k : Fin K) :
    ∑ d, unit (blks m c t).x0 (blks m c t).x2 r d * x (ix2 k d) = proj (kArgs m c).H (kArgs m c) w (row t r) k :=
  sumc fun d => congrArg₂ (· * ·) (unit_row m c t r d) (h k d)
theorem lead_is {K : ℕ} (x : Arr K 1024) (w : Fin K → Fin 4224) (h : ∀ k d, x (ix2 k d) = (kArgs m c).W (ix2 (w k) d)) (r : Fin 64) (k : Fin K) :
    ∑ d, unit (blks m c t).x1 (blks m c t).x2 r d * x (ix2 k d) = proj (kArgs m c).H0 (kArgs m c) w r k :=
  sumc fun d => congrArg₂ (· * ·) (unit_lead m c t r d) (h k d)

end Blocks

/-! ## The results, row-blocked and of the leading rows -/

theorem emb6 (t : Fin cfg0.N) (r : Fin 512) (k : Fin 2048) : (win0_6.blk t).view.emb (ix2 r k) = ix2 (row t r) k := by
  blk_ext [ix_6 t, row]
theorem final6 : (dats m 0 c).arrAt 6 cfg0.N = y0 (kArgs m c) := by
  refine (dats m 0 c).arrAt_eq_of_covers 6 _ (by decide +kernel) fun t hf y => ?_
  blk_simp
  rw [after_6]
  obtain ⟨r, k, rfl⟩ : ∃ r k, y = ix2 r k := ⟨y 0, y 1, by idx_ext⟩
  exact ((pay6_at _ _ _ r k).trans (row_is m c t _ w0 (in3 m c t) r k)).trans (congrArg (y0 (kArgs m c)) (emb6 t r k)).symm

theorem emb7 (t : Fin cfg0.N) (r : Fin 512) (k : Fin 2048) : (win0_7.blk t).view.emb (ix2 r k) = ix2 (row t r) k := by
  blk_ext [ix_7 t, row]
theorem final7 : (dats m 0 c).arrAt 7 cfg0.N = y1 (kArgs m c) := by
  refine (dats m 0 c).arrAt_eq_of_covers 7 _ (by decide +kernel) fun t hf y => ?_
  blk_simp
  rw [after_7]
  obtain ⟨r, k, rfl⟩ : ∃ r k, y = ix2 r k := ⟨y 0, y 1, by idx_ext⟩
  exact ((pay7_at _ _ _ r k).trans (row_is m c t _ w1 (in4 m c t) r k)).trans (congrArg (y1 (kArgs m c)) (emb7 t r k)).symm

theorem emb8 (t : Fin cfg0.N) (r : Fin 512) (k : Fin 128) : (win0_8.blk t).view.emb (ix2 r k) = ix2 (row t r) k := by
  blk_ext [ix_8 t, row]
theorem final8 : (dats m 0 c).arrAt 8 cfg0.N = y2 (kArgs m c) := by
  refine (dats m 0 c).arrAt_eq_of_covers 8 _ (by decide +kernel) fun t hf y => ?_
  blk_simp
  rw [after_8]
  obtain ⟨r, k, rfl⟩ : ∃ r k, y = ix2 r k := ⟨y 0, y 1, by idx_ext⟩
  exact ((pay8_at _ _ _ r k).trans (row_is m c t _ w2 (in5 m c t) r k)).trans (congrArg (y2 (kArgs m c)) (emb8 t r k)).symm

theorem final9 : (dats m 0 c).arrAt 9 cfg0.N = y3 (kArgs m c) := by
  refine (dats m 0 c).arrAt_eq_of_after_last 9 last (by decide +kernel) _ fun j => ?_
  blk_simp
  obtain ⟨r, k, rfl⟩ : ∃ r k, j = ix2 r k := ⟨j 0, j 1, by idx_ext⟩
  rw [after_9]
  exact (pay2_at _ _ _ r k).trans (lead_is m c start _ w0 (in3 m c start) r k)

theorem final10 : (dats m 0 c).arrAt 10 cfg0.N = y4 (kArgs m c) := by
  refine (dats m 0 c).arrAt_eq_of_after_last 10 last (by decide +kernel) _ fun j => ?_
  blk_simp
  obtain ⟨r, k, rfl⟩ : ∃ r k, j = ix2 r k := ⟨j 0, j 1, by idx_ext⟩
  rw [after_10]
  exact (pay3_at _ _ _ r k).trans (lead_is m c start _ w1 (in4 m c start) r k)

theorem final11 : (dats m 0 c).arrAt 11 cfg0.N = y5 (kArgs m c) := by
  refine (dats m 0 c).arrAt_eq_of_after_last 11 last (by decide +kernel) _ fun j => ?_
  blk_simp
  obtain ⟨r, k, rfl⟩ : ∃ r k, j = ix2 r k := ⟨j 0, j 1, by idx_ext⟩
  rw [after_11]
  exact (pay4_at _ _ _ r k).trans (lead_is m c start _ w2 (in5 m c start) r k)

theorem final12 : (dats m 0 c).arrAt 12 cfg0.N = y6 (kArgs m c) := by
  refine (dats m 0 c).arrAt_eq_of_after_last 12 last (by decide +kernel) _ fun j => ?_
  blk_simp
  obtain ⟨r, l, rfl⟩ : ∃ r l, j = ix2 r l := ⟨j 0, j 1, by idx_ext⟩
  rw [after_12]
  exact (pay1_at _ _ r l).trans (unit_lead m c start r l)

/-- The launch leaves the seven results, and its arguments as they were. -/
theorem valued (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = y0 (kArgs m c)
    ∧ r.2.mem ((c.tc : Thread nD τ).loc main_v0_1) = y1 (kArgs m c)
    ∧ r.2.mem ((c.tc : Thread nD τ).loc main_v0_2) = y2 (kArgs m c)
    ∧ r.2.mem ((c.tc : Thread nD τ).loc main_v0_3) = y3 (kArgs m c)
    ∧ r.2.mem ((c.tc : Thread nD τ).loc main_v0_4) = y4 (kArgs m c)
    ∧ r.2.mem ((c.tc : Thread nD τ).loc main_v0_5) = y5 (kArgs m c)
    ∧ r.2.mem ((c.tc : Thread nD τ).loc main_v0_6) = y6 (kArgs m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h.1 c).1 6).trans (final6 m c), ((h.1 c).1 7).trans (final7 m c), ((h.1 c).1 8).trans (final8 m c), ((h.1 c).1 9).trans (final9 m c),
    ((h.1 c).1 10).trans (final10 m c), ((h.1 c).1 11).trans (final11 m c), ((h.1 c).1 12).trans (final12 m c),
    args_kept m r h.1 c⟩) (launched m ρ)

end Cert.Proj
-- ==== Proof.ProjRef.lean ====
/-
  The reference of the input projection: its intermediate arrays in the order of its operations, each read entry by
  entry, and its seven results as the functions of the argument arrays that the kernel's results are.
-/
module

public import proofs.«01_k».proof.Proof.ProjSpec
public import proofs.«01_k».proof.Proof.Gen.Reference4Ideal.Run

@[expose] public section

noncomputable section

namespace Cert.Reference4Ideal.Value

open Cert.Reference4Ideal Cert.Reference4Ideal.Gen Cert.Proj Cert.Scale
open Cert.Back (rowNorm w0 w1 w2)
open Idealize.ShloMosaic Idealize.ShloMosaic.TcCoe Idealize.SL.Sem

variable (W : FVec Ideal S4224x1024 .bf16) (G : FVec Ideal S1x1024 .f32)

/-! ## The rows -/

section Main

variable (H : FVec Ideal S4096x1024 .f32)

/-- The means of squares of the rows. -/
def mMs : FVec Ideal S4096x1 .f32 :=
  addf (Host.divf (broadcastInDim S4096x1 ![0] bcast_S4096_S4096x1_0 (Host.reduceAdd (mulf H H) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
/-- The same, normalised and scaled, and projected. -/
def mN : FVec Ideal S4096x1024 .f32 :=
  mulf (mulf H (broadcastInDim S4096x1024 ![0, 1] bcast_S4096x1_S4096x1024_0_1 (Host.rsqrt (mMs H)))) (broadcastInDim S4096x1024 ![0, 1] bcast_S1x1024_S4096x1024_0_1 G)
def mP : FVec Ideal S4096x4224 .f32 :=
  Host.dotGeneral dot_S4096x1024_S4224x1024_S4096x4224_1_1_0_0_n_n none (mN G H) (extf .f32 W bitsLt_bf16_f32)
/-- Its three parts. -/
def mP0 : FVec Ideal S4096x2048 .f32 := extractStridedSlice S4096x2048 ![0, 0] (mP W G H) slices_S4096x4224_S4096x2048_0_0
def mP1 : FVec Ideal S4096x2048 .f32 := extractStridedSlice S4096x2048 ![0, 2048] (mP W G H) slices_S4096x4224_S4096x2048_0_2048
def mP2 : FVec Ideal S4096x128 .f32 := extractStridedSlice S4096x128 ![0, 4096] (mP W G H) slices_S4096x4224_S4096x128_0_4096

theorem mMs_at (R : Fin 4096) (j : Fin 1) : mMs H (ix2 R j) = meanSq (fun l => H (ix2 R l)) := by
  unfold meanSq
  pointwise [mMs]
theorem mN_at (R : Fin 4096) (l : Fin 1024) : mN G H (ix2 R l) = unit H G R l := by
  unfold unit rowNorm rinv
  rw [← mMs_at H R 0]
  pointwise [mN]
theorem mP_at (R : Fin 4096) (k : Fin 4224) : mP W G H (ix2 R k) = ∑ d, unit H G R d * W (ix2 k d) := by
  simp only [← mN_at]
  pointwise [mP]
theorem mP0_at (R : Fin 4096) (k : Fin 2048) : mP0 W G H (ix2 R k) = mP W G H (ix2 R (w0 k)) := by
  unfold mP0; generalize mP W G H = y; unfold w0; pointwise []
theorem mP1_at (R : Fin 4096) (k : Fin 2048) : mP1 W G H (ix2 R k) = mP W G H (ix2 R (w1 k)) := by
  unfold mP1; generalize mP W G H = y; unfold w1; pointwise []
theorem mP2_at (R : Fin 4096) (k : Fin 128) : mP2 W G H (ix2 R k) = mP W G H (ix2 R (w2 k)) := by
  unfold mP2; generalize mP W G H = y; unfold w2; pointwise []

end Main

/-! ## The leading rows -/

section Lead

variable (H : FVec Ideal S64x1024 .f32)

/-- The means of squares of the leading rows. -/
def lMs : FVec Ideal S64x1 .f32 :=
  addf (Host.divf (broadcastInDim S64x1 ![0] bcast_S64_S64x1_0 (Host.reduceAdd (mulf H H) (constant S_ .f32 0x00000000#32) reducesTo_S64x1024_S64_d1 h_S_))
    (broadcastInDim S64x1 ![] bcast_S_S64x1 (constant S_ .f32 0x44800000#32))) (broadcastInDim S64x1 ![] bcast_S_S64x1 (constant S_ .f32 0x358637BD#32))
/-- The same, normalised and scaled, and projected. -/
def lN : FVec Ideal S64x1024 .f32 :=
  mulf (mulf H (broadcastInDim S64x1024 ![0, 1] bcast_S64x1_S64x1024_0_1 (Host.rsqrt (lMs H)))) (broadcastInDim S64x1024 ![0, 1] bcast_S1x1024_S64x1024_0_1 G)
def lP : FVec Ideal S64x4224 .f32 :=
  Host.dotGeneral dot_S64x1024_S4224x1024_S64x4224_1_1_0_0_n_n none (lN G H) (extf .f32 W bitsLt_bf16_f32)
/-- Its three parts. -/
def lP0 : FVec Ideal S64x2048 .f32 := extractStridedSlice S64x2048 ![0, 0] (lP W G H) slices_S64x4224_S64x2048_0_0
def lP1 : FVec Ideal S64x2048 .f32 := extractStridedSlice S64x2048 ![0, 2048] (lP W G H) slices_S64x4224_S64x2048_0_2048
def lP2 : FVec Ideal S64x128 .f32 := extractStridedSlice S64x128 ![0, 4096] (lP W G H) slices_S64x4224_S64x128_0_4096

theorem lMs_at (R : Fin 64) (j : Fin 1) : lMs H (ix2 R j) = meanSq (fun l => H (ix2 R l)) := by
  unfold meanSq
  pointwise [lMs]
theorem lN_at (R : Fin 64) (l : Fin 1024) : lN G H (ix2 R l) = unit H G R l := by
  unfold unit rowNorm rinv
  rw [← lMs_at H R 0]
  pointwise [lN]
theorem lP_at (R : Fin 64) (k : Fin 4224) : lP W G H (ix2 R k) = ∑ d, unit H G R d * W (ix2 k d) := by
  simp only [← lN_at]
  pointwise [lP]
theorem lP0_at (R : Fin 64) (k : Fin 2048) : lP0 W G H (ix2 R k) = lP W G H (ix2 R (w0 k)) := by
  unfold lP0; generalize lP W G H = y; unfold w0; pointwise []
theorem lP1_at (R : Fin 64) (k : Fin 2048) : lP1 W G H (ix2 R k) = lP W G H (ix2 R (w1 k)) := by
  unfold lP1; generalize lP W G H = y; unfold w1; pointwise []
theorem lP2_at (R : Fin 64) (k : Fin 128) : lP2 W G H (ix2 R k) = lP W G H (ix2 R (w2 k)) := by
  unfold lP2; generalize lP W G H = y; unfold w2; pointwise []

end Lead

/-! ## The results -/

section Results

variable (a : Args)

theorem mP0_is : mP0 a.W a.G a.H = y0 a := by
  funext i
  obtain ⟨R, k, rfl⟩ : ∃ (R : Fin 4096) (k : Fin 2048), i = ix2 R k := ⟨i 0, i 1, by idx_ext⟩
  exact (mP0_at _ _ _ R k).trans (mP_at _ _ _ R (w0 k))
theorem mP1_is : mP1 a.W a.G a.H = y1 a := by
  funext i
  obtain ⟨R, k, rfl⟩ : ∃ (R : Fin 4096) (k : Fin 2048), i = ix2 R k := ⟨i 0, i 1, by idx_ext⟩
  exact (mP1_at _ _ _ R k).trans (mP_at _ _ _ R (w1 k))
theorem mP2_is : mP2 a.W a.G a.H = y2 a := by
  funext i
  obtain ⟨R, k, rfl⟩ : ∃ (R : Fin 4096) (k : Fin 128), i = ix2 R k := ⟨i 0, i 1, by idx_ext⟩
  exact (mP2_at _ _ _ R k).trans (mP_at _ _ _ R (w2 k))
theorem lP0_is : lP0 a.W a.G a.H0 = y3 a := by
  funext i
  obtain ⟨R, k, rfl⟩ : ∃ (R : Fin 64) (k : Fin 2048), i = ix2 R k := ⟨i 0, i 1, by idx_ext⟩
  exact (lP0_at _ _ _ R k).trans (lP_at _ _ _ R (w0 k))
theorem lP1_is : lP1 a.W a.G a.H0 = y4 a := by
  funext i
  obtain ⟨R, k, rfl⟩ : ∃ (R : Fin 64) (k : Fin 2048), i = ix2 R k := ⟨i 0, i 1, by idx_ext⟩
  exact (lP1_at _ _ _ R k).trans (lP_at _ _ _ R (w1 k))
theorem lP2_is : lP2 a.W a.G a.H0 = y5 a := by
  funext i
  obtain ⟨R, k, rfl⟩ : ∃ (R : Fin 64) (k : Fin 128), i = ix2 R k := ⟨i 0, i 1, by idx_ext⟩
  exact (lP2_at _ _ _ R k).trans (lP_at _ _ _ R (w2 k))
/-- The leading rows, normalised. -/
def lU : FVec Ideal S64x1024 .bf16 := truncf .bf16 (lN a.G a.H0) bitsLt_bf16_f32
theorem lU_is : lU a = y6 a := by
  funext i
  obtain ⟨R, l, rfl⟩ : ∃ (R : Fin 64) (l : Fin 1024), i = ix2 R l := ⟨i 0, i 1, by idx_ext⟩
  exact lN_at _ _ R l

variable (m : (ℓ : Loc nD τ sig) → Buf (Elt Ideal) ℓ) (c : Dev nD)

/-- The argument arrays. -/
def rArgs : Args := ⟨m ((c.tc : Thread nD τ).loc main_arg0), m ((c.tc : Thread nD τ).loc main_arg1), m ((c.tc : Thread nD τ).loc main_arg2),
  m ((c.tc : Thread nD τ).loc main_arg3)⟩

/-- The reference leaves the seven results, and its arguments as they were. -/
theorem runs (ρ : Dev nD → PrngReg) :
    θ_run (defs (F := Ideal)) (onTc (τ := τ) (main (F := Ideal))) ⟨m, fun _ => 0, ρ⟩ fun r => ∀ c : Dev nD,
    r.2.mem ((c.tc : Thread nD τ).loc main_v14) = y0 (rArgs m c)
    ∧ r.2.mem ((c.tc : Thread nD τ).loc main_v15) = y1 (rArgs m c)
    ∧ r.2.mem ((c.tc : Thread nD τ).loc main_v16) = y2 (rArgs m c)
    ∧ r.2.mem ((c.tc : Thread nD τ).loc main_v30) = y3 (rArgs m c)
    ∧ r.2.mem ((c.tc : Thread nD τ).loc main_v31) = y4 (rArgs m c)
    ∧ r.2.mem ((c.tc : Thread nD τ).loc main_v32) = y5 (rArgs m c)
    ∧ r.2.mem ((c.tc : Thread nD τ).loc main_v45) = y6 (rArgs m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (run m ρ).mono fun r h c => by
    obtain ⟨h0, h1, h2, h3, h4, h5, h6, hr⟩ := h c
    exact ⟨h0.trans (mP0_is (rArgs m c)), h1.trans (mP1_is (rArgs m c)), h2.trans (mP2_is (rArgs m c)), h3.trans (lP0_is (rArgs m c)),
      h4.trans (lP1_is (rArgs m c)), h5.trans (lP2_is (rArgs m c)), h6.trans (lU_is (rArgs m c)), hr⟩

end Results

end Cert.Reference4Ideal.Value
-- ==== Proof.ProjEq.lean ====
/-
  The input projection: the kernel's results and the reference's are the same functions of the argument arrays, and each
  of the three programs ends with its arguments as they were.
-/
module

public import proofs.«01_k».proof.Defs
public import proofs.«01_k».proof.Proof.ProjVal
public import proofs.«01_k».proof.Proof.ProjRef
public import proofs.«01_k».proof.Proof.Gen.Kernel4
public import proofs.«01_k».proof.Proof.Gen.Kernel4Ideal
public import proofs.«01_k».proof.Proof.Gen.Reference4Ideal

@[expose] public section

noncomputable section

namespace Cert.Proj

open Idealize.ShloMosaic Idealize.ShloMosaic.TcCoe Idealize.SL.Sem

/-- Arguments that agree array by array are the same. -/
theorem args_eq (a b : Args) (h0 : b.H = a.H) (h1 : b.H0 = a.H0) (h2 : b.G = a.G) (h3 : b.W = a.W) : b = a := by
  obtain ⟨_, _, _, _⟩ := a
  obtain ⟨_, _, _, _⟩ := b
  dsimp only at *
  subst_vars
  rfl

theorem algebraic : Cert.algebraic_Kernel4Ideal_Reference4Ideal := by
  intro m g m' g' _ hargs
  have hs : ∀ c, Cert.Reference4Ideal.Value.rArgs m' c = kArgs m c := fun c => by
    obtain ⟨h0, h1, h2, h3⟩ := hargs c
    exact args_eq _ _ h0 h1 h2 h3
  refine ⟨fun c => y0 (kArgs m c), fun c => y1 (kArgs m c), fun c => y2 (kArgs m c), fun c => y3 (kArgs m c), fun c => y4 (kArgs m c),
    fun c => y5 (kArgs m c), fun c => y6 (kArgs m c), ?_, ?_⟩
  · exact valued m g
  · exact (θ_run Cert.Reference4Ideal.defs _ _).mono (fun r h c => by
      obtain ⟨h0, h1, h2, h3, h4, h5, h6, ha⟩ := h c
      have e := hs c
      exact ⟨h0.trans (congrArg y0 e), h1.trans (congrArg y1 e), h2.trans (congrArg y2 e), h3.trans (congrArg y3 e),
        h4.trans (congrArg y4 e), h5.trans (congrArg y5 e), h6.trans (congrArg y6 e), ha⟩) (Cert.Reference4Ideal.Value.runs m' g')

/-- The reference's frame: its arguments end as they were, and it declares no semaphore. -/
theorem frame_reference : Cert.quiescent_Reference4Ideal := by
  intro m ρ _
  exact (θ_run Cert.Reference4Ideal.defs _ _).mono (fun r h => ⟨fun c => (h c).2.2.2.2.2.2.2,
      sem_eq_zero_of_no_sems (by decide) r.2⟩) (Cert.Reference4Ideal.Value.run m ρ)

/-- The kernel's frame over the extended reals, and the machine's from the same run over the machine's numbers. -/
theorem frame_ideal : Cert.quiescent_Kernel4Ideal := fun m ρ _ => framed m ρ
theorem frame_machine : Cert.quiescent_Kernel4 := by
  intro m ρ _
  refine Eq.mp ?_ (framed (F := Bits) m ρ)
  sl_kernel_rfl

end Cert.Proj
-- ==== Proof.SmallKit.lean ====
/-
  Loads and stores of a body that is given many whole buffers. The buffers are held together, as one product over the windows,
  and what they hold is written as a list of the stores made so far over the contents they were handed with.
-/
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.ValueKit.Acc

@[expose] public section

noncomputable section

namespace Cert.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of every window's buffer. -/
abbrev Conts (F : FTy → Type) [FloatOps F] := (w : Fin cfg0.W) → (cfg0.win w).block.Idx → Elt F (cfg0.win w).elt

/-- One store of a whole buffer: the window and what is stored. -/
abbrev Put (F : FTy → Type) [FloatOps F] := (w : Fin cfg0.W) × ((cfg0.win w).block.Idx → Elt F (cfg0.win w).elt)

/-- The contents after the stores of a list, the last store first. -/
def puts : List (Put F) → Conts F → Conts F
  | [], Y => Y
  | p :: L, Y => Function.update (puts L Y) p.1 p.2

/-- The argument windows keep their contents; the result windows hold what was stored. -/
def mix (I Y : Conts F) : Conts F := fun w => if w.val < 34 then I w else Y w

theorem mix_arg (I Y : Conts F) {w : Fin cfg0.W} (h : w.val < 34) : mix I Y w = I w := if_pos h
theorem mix_res (I Y : Conts F) {w : Fin cfg0.W} (h : 34 ≤ w.val) : mix I Y w = Y w := if_neg (Nat.not_lt.mpr h)

/-- A window stored to holds the same whatever it was handed with. -/
theorem puts_of_mem (L : List (Put F)) (Y Y' : Conts F) {w : Fin cfg0.W} (h : w ∈ L.map Sigma.fst) : puts L Y w = puts L Y' w := by
  induction L with
  | nil => exact absurd h List.not_mem_nil
  | cons p L ih =>
    unfold puts
    by_cases hw : w = p.1
    · subst hw; rw [Function.update_self, Function.update_self]
    · rw [Function.update_of_ne hw, Function.update_of_ne hw]
      exact ih ((List.mem_cons.mp h).resolve_left hw)

section Rules

variable (c : Dev nD) (t : Fin cfg0.N)

/-- Every window's buffer, held whole at its contents. -/
def Held (X : Conts F) : sProp 𝕄 :=
  bigSep Finset.univ fun w : Fin cfg0.W => owns (c : Thread nD τ) ((cfg0.win w).stage (cfg0.slots t w)) fullShare (X w)

/-- One buffer and the others. -/
theorem held_split (X : Conts F) (w : Fin cfg0.W) :
    Held c t X = iprop(owns (c : Thread nD τ) ((cfg0.win w).stage (cfg0.slots t w)) fullShare (X w)
      ∗ bigSep (Finset.univ.erase w) fun u : Fin cfg0.W => owns (c : Thread nD τ) ((cfg0.win u).stage (cfg0.slots t u)) fullShare (X u)) :=
  bigSep_univ_split w

variable {c t} {α : Type}

/-- A load from a buffer held at `X` reads `X` under the load's rectangle. -/
theorem owns_load {cs : CoreSpace} {S : Shape} {e : EltTy} (a : Memref sig Kind.tc cs S e) {r : Rect S} {hl : a.view.LoadsAt r.toLoadRect}
    {k : (r.shape.Idx → Elt F e) → Prog (TpuEff nD τ sig (Elt F) Λ₀ .tc) α} {Q : α → sProp 𝕄} (X : S.Idx → Elt F e) :
    owns (c : Thread nD τ) a fullShare X
      ⊢ iprop((owns (c : Thread nD τ) a fullShare X -∗ wp frame (wpE (defs₀ (F := F)) Variants.none c none) Set.univ (k (View.ld X r)) Q)
        -∗ wp frame (wpE (defs₀ (F := F)) Variants.none c none) Set.univ (.op (.load a r.toLoadRect hl) k) Q) := by
  unfold owns
  iintro ⟨%f, %hf, H⟩ Hk
  subst hf
  iapply (wp_load Variants.none (c : Thread nD τ) none Set.univ (m := a) (r := r.toLoadRect) (S := a.view.set) (View.setOn_subset_set _ _)) $$ H
  iintro H
  iapply Hk
  iexists f
  isplitr; · ipureintro; rfl
  iexact H

/-- A store to a whole buffer leaves it at what is stored. -/
theorem owns_store {cs : CoreSpace} {S : Shape} {e : EltTy} (a : Memref sig Kind.tc cs S e) {r : Rect S} {v : r.shape.Idx → Elt F e}
    {hx : (a.access r).Stores Finset.univ} {hm : (Finset.univ : Finset r.shape.Idx) = Finset.univ ∨ ∀ a, r.stride a = 1}
    {k : PUnit → Prog (TpuEff nD τ sig (Elt F) Λ₀ .tc) α} {Q : α → sProp 𝕄} (X : S.Idx → Elt F e) (hr : ∀ y, y ∈ r.set) :
    owns (c : Thread nD τ) a fullShare X
      ⊢ iprop((owns (c : Thread nD τ) a fullShare (View.canon [⟨r, v⟩]) -∗ wp frame (wpE (defs₀ (F := F)) Variants.none c none) Set.univ (k ⟨⟩) Q)
        -∗ wp frame (wpE (defs₀ (F := F)) Variants.none c none) Set.univ (.op (.store a r v Finset.univ hx hm) k) Q) := by
  unfold owns
  iintro ⟨%f, -, H⟩ Hk
  iapply (wp_store Variants.none (c : Thread nD τ) none Set.univ (m := a) (r := r) (w := v) (Mk := Finset.univ) (S := a.view.set) (f := f)
    (View.set_slice_subset a.view r)) $$ H
  iintro H
  iapply Hk
  iexists ((a.access r).write (Elt F) f v Finset.univ)
  isplitr
  · ipureintro
    exact View.read_writes_eq_canon a.view f [⟨r, v⟩] fun y => ⟨_, List.mem_singleton.mpr rfl, hr y⟩
  iexact H

/-- A load from one of the buffers. -/
theorem load_at {X : Conts F} {R : sProp 𝕄} (w : Fin cfg0.W) {r : Rect (cfg0.win w).block}
    {hl : ((cfg0.win w).stage (cfg0.slots t w)).view.LoadsAt r.toLoadRect}
    {k : (r.shape.Idx → Elt F (cfg0.win w).elt) → Prog (TpuEff nD τ sig (Elt F) Λ₀ .tc) α} {Q : α → sProp 𝕄}
    (h : iprop(Held c t X ∗ R) ⊢ wp frame (wpE (defs₀ (F := F)) Variants.none c none) Set.univ (k (View.ld (X w) r)) Q) :
    iprop(Held c t X ∗ R)
      ⊢ wp frame (wpE (defs₀ (F := F)) Variants.none c none) Set.univ (.op (.load ((cfg0.win w).stage (cfg0.slots t w)) r.toLoadRect hl) k) Q := by
  rw [held_split c t X w] at h ⊢
  iintro ⟨⟨H, HB⟩, HR⟩
  iapply (owns_load (c := c) ((cfg0.win w).stage (cfg0.slots t w)) (X w)) $$ H
  iintro H
  iapply h
  isplitl [H HB]
  · isplitl [H]; · iexact H
    iexact HB
  iexact HR

/-- A load from an argument's buffer. -/
theorem load_arg {I Y : Conts F} {R : sProp 𝕄} (w : Fin cfg0.W) {r : Rect (cfg0.win w).block}
    {hl : ((cfg0.win w).stage (cfg0.slots t w)).view.LoadsAt r.toLoadRect}
    {k : (r.shape.Idx → Elt F (cfg0.win w).elt) → Prog (TpuEff nD τ sig (Elt F) Λ₀ .tc) α} {Q : α → sProp 𝕄} (hw : w.val < 34)
    (h : iprop(Held c t (mix I Y) ∗ R) ⊢ wp frame (wpE (defs₀ (F := F)) Variants.none c none) Set.univ (k (View.ld (I w) r)) Q) :
    iprop(Held c t (mix I Y) ∗ R)
      ⊢ wp frame (wpE (defs₀ (F := F)) Variants.none c none) Set.univ (.op (.load ((cfg0.win w).stage (cfg0.slots t w)) r.toLoadRect hl) k) Q :=
  load_at w (by rw [mix_arg I Y hw]; exact h)

/-- A load whose value is not looked at. -/
theorem load_res {X : Conts F} {R : sProp 𝕄} (w : Fin cfg0.W) {r : Rect (cfg0.win w).block}
    {hl : ((cfg0.win w).stage (cfg0.slots t w)).view.LoadsAt r.toLoadRect}
    {k : (r.shape.Idx → Elt F (cfg0.win w).elt) → Prog (TpuEff nD τ sig (Elt F) Λ₀ .tc) α} {Q : α → sProp 𝕄}
    (h : ∀ v, iprop(Held c t X ∗ R) ⊢ wp frame (wpE (defs₀ (F := F)) Variants.none c none) Set.univ (k v) Q) :
    iprop(Held c t X ∗ R)
      ⊢ wp frame (wpE (defs₀ (F := F)) Variants.none c none) Set.univ (.op (.load ((cfg0.win w).stage (cfg0.slots t w)) r.toLoadRect hl) k) Q :=
  load_at w (h _)

/-- A store to one result window changes that window alone. -/
theorem mix_update (I Y : Conts F) {w : Fin cfg0.W} (hw : 34 ≤ w.val) (v : (cfg0.win w).block.Idx → Elt F (cfg0.win w).elt) :
    mix I (Function.update Y w v) = Function.update (mix I Y) w v := by
  funext u
  by_cases hu : u = w
  · subst hu; rw [mix_res I _ hw, Function.update_self, Function.update_self]
  · unfold mix; rw [Function.update_of_ne hu, Function.update_of_ne hu]

/-- A store to a result's buffer, whole. -/
theorem store_res {I Y : Conts F} {L : List (Put F)} {R : sProp 𝕄} (w : Fin cfg0.W) {r : Rect (cfg0.win w).block} {v : r.shape.Idx → Elt F (cfg0.win w).elt}
    {hx : (((cfg0.win w).stage (cfg0.slots t w)).access r).Stores Finset.univ} {hm : (Finset.univ : Finset r.shape.Idx) = Finset.univ ∨ ∀ a, r.stride a = 1}
    {k : PUnit → Prog (TpuEff nD τ sig (Elt F) Λ₀ .tc) α} {Q : α → sProp 𝕄} (hw : 34 ≤ w.val) (hr : ∀ y, y ∈ r.set)
    (h : iprop(Held c t (mix I (puts (⟨w, View.canon [⟨r, v⟩]⟩ :: L) Y)) ∗ R) ⊢ wp frame (wpE (defs₀ (F := F)) Variants.none c none) Set.univ (k ⟨⟩) Q) :
    iprop(Held c t (mix I (puts L Y)) ∗ R)
      ⊢ wp frame (wpE (defs₀ (F := F)) Variants.none c none) Set.univ (.op (.store ((cfg0.win w).stage (cfg0.slots t w)) r v Finset.univ hx hm) k) Q := by
  rw [show puts (⟨w, View.canon [⟨r, v⟩]⟩ :: L) Y = Function.update (puts L Y) w (View.canon [⟨r, v⟩]) from rfl, mix_update I _ hw] at h
  rw [held_split c t _ w, Function.update_self, bigSep_congr (s := Finset.univ.erase w) (Ψ := fun u => owns (c : Thread nD τ) ((cfg0.win u).stage (cfg0.slots t u)) fullShare (mix I (puts L Y) u))
    fun u hu => by rw [Function.update_of_ne (Finset.ne_of_mem_erase hu)]] at h
  rw [held_split c t _ w]
  iintro ⟨⟨H, HB⟩, HR⟩
  iapply (owns_store (c := c) ((cfg0.win w).stage (cfg0.slots t w)) (mix I (puts L Y) w) hr) $$ H
  iintro H
  iapply h
  isplitl [H HB]
  · isplitl [H]; · iexact H
    iexact HB
  iexact HR

/-- The rules for an operation that the program goes on after: a load from an argument's buffer, -/
theorem bind_arg {I Y : Conts F} {R : sProp 𝕄} (w : Fin cfg0.W) {r : Rect (cfg0.win w).block} {v : r.shape.Idx → Elt F (cfg0.win w).elt}
    {hl : ((cfg0.win w).stage (cfg0.slots t w)).view.LoadsAt r.toLoadRect}
    {k : (r.shape.Idx → Elt F (cfg0.win w).elt) → Prog (TpuEff nD τ sig (Elt F) Λ₀ .tc) α} {Q : α → sProp 𝕄} (hw : w.val < 34) (hv : View.ld (I w) r = v)
    (h : iprop(Held c t (mix I Y) ∗ R) ⊢ wp frame (wpE (defs₀ (F := F)) Variants.none c none) Set.univ (k v) Q) :
    iprop(Held c t (mix I Y) ∗ R) ⊢ wp frame (wpE (defs₀ (F := F)) Variants.none c none) Set.univ (Prog.lift (.load ((cfg0.win w).stage (cfg0.slots t w)) r.toLoadRect hl) >>= k) Q :=
  load_arg w hw (by rw [hv]; exact h)

/-- a load whose value is not looked at, -/
theorem bind_res {X : Conts F} {R : sProp 𝕄} (w : Fin cfg0.W) {r : Rect (cfg0.win w).block}
    {hl : ((cfg0.win w).stage (cfg0.slots t w)).view.LoadsAt r.toLoadRect}
    {k : (r.shape.Idx → Elt F (cfg0.win w).elt) → Prog (TpuEff nD τ sig (Elt F) Λ₀ .tc) α} {Q : α → sProp 𝕄}
    (h : ∀ v, iprop(Held c t X ∗ R) ⊢ wp frame (wpE (defs₀ (F := F)) Variants.none c none) Set.univ (k v) Q) :
    iprop(Held c t X ∗ R) ⊢ wp frame (wpE (defs₀ (F := F)) Variants.none c none) Set.univ (Prog.lift (.load ((cfg0.win w).stage (cfg0.slots t w)) r.toLoadRect hl) >>= k) Q :=
  load_res w h

/-- a store to a result's buffer, -/
theorem bind_store {I Y : Conts F} {L : List (Put F)} {R : sProp 𝕄} (w : Fin cfg0.W) {r : Rect (cfg0.win w).block} {v : r.shape.Idx → Elt F (cfg0.win w).elt}
    {hx : (((cfg0.win w).stage (cfg0.slots t w)).access r).Stores Finset.univ} {hm : (Finset.univ : Finset r.shape.Idx) = Finset.univ ∨ ∀ a, r.stride a = 1}
    {k : PUnit → Prog (TpuEff nD τ sig (Elt F) Λ₀ .tc) α} {Q : α → sProp 𝕄} {X : (cfg0.win w).block.Idx → Elt F (cfg0.win w).elt}
    (hw : 34 ≤ w.val) (hr : ∀ y, y ∈ r.set) (hX : View.canon [⟨r, v⟩] = X)
    (h : iprop(Held c t (mix I (puts (⟨w, X⟩ :: L) Y)) ∗ R) ⊢ wp frame (wpE (defs₀ (F := F)) Variants.none c none) Set.univ (k ⟨⟩) Q) :
    iprop(Held c t (mix I (puts L Y)) ∗ R) ⊢ wp frame (wpE (defs₀ (F := F)) Variants.none c none) Set.univ (Prog.lift (.store ((cfg0.win w).stage (cfg0.slots t w)) r v Finset.univ hx hm) >>= k) Q :=
  store_res w hw hr (by rw [hX]; exact h)

/-- a part of the program, -/
theorem bind_part {H : sProp 𝕄} {β : Type} {p : Prog (TpuEff nD τ sig (Elt F) Λ₀ .tc) β} {k : β → Prog (TpuEff nD τ sig (Elt F) Λ₀ .tc) α} {Q : α → sProp 𝕄}
    (h : H ⊢ wp frame (wpE (defs₀ (F := F)) Variants.none c none) Set.univ p fun v => wp frame (wpE (defs₀ (F := F)) Variants.none c none) Set.univ (k v) Q) : H ⊢ wp frame (wpE (defs₀ (F := F)) Variants.none c none) Set.univ (p >>= k) Q :=
  h.trans (by rw [wp_bind])

/-- and the end of a part. -/
theorem pure_end {H : sProp 𝕄} {x : α} {Q : α → sProp 𝕄} (h : H ⊢ Q x) : H ⊢ wp frame (wpE (defs₀ (F := F)) Variants.none c none) Set.univ (pure x) Q :=
  h.trans (by rw [wp_pure]; exact fupd_intro)

/-- A rectangle that is the whole of a matrix holds every index. -/
theorem whole_mem {d : Fin 2 → ℕ} (inb : ∀ a, (![0, 0] : Fin 2 → ℕ) a + d a ≤ d a) (y : (⟨2, d⟩ : Shape).Idx) :
    y ∈ (Rect.unit (s := ⟨2, d⟩) ![0, 0] d inb).set := by
  rw [Rect.mem_set_unit]
  exact Fin.forall_fin_two.mpr ⟨⟨Nat.zero_le _, by simpa using (y 0).isLt⟩, ⟨Nat.zero_le _, by simpa using (y 1).isLt⟩⟩

/-- A load of a whole matrix reads it, -/
theorem whole_ld {e : EltTy} {d : Fin 2 → ℕ} (inb : ∀ a, (![0, 0] : Fin 2 → ℕ) a + d a ≤ d a) (X : (⟨2, d⟩ : Shape).Idx → Elt F e) :
    View.ld X (Rect.unit (s := ⟨2, d⟩) ![0, 0] d inb) = X :=
  View.ld_unit_zero (S := ⟨2, d⟩) (by funext a; fin_cases a <;> rfl) inb X

/-- and a store of one leaves what is stored. -/
theorem whole_canon {e : EltTy} {d : Fin 2 → ℕ} (inb : ∀ a, (![0, 0] : Fin 2 → ℕ) a + d a ≤ d a) (X : (⟨2, d⟩ : Shape).Idx → Elt F e) :
    View.canon [(⟨Rect.unit (s := ⟨2, d⟩) ![0, 0] d inb, X⟩ : View.Piece (Elt F) ⟨2, d⟩ e)] = X :=
  View.canon_unit_zero (S := ⟨2, d⟩) (by funext a; fin_cases a <;> rfl) inb X

end Rules

end Cert.Small
-- ==== Proof.SmallBody.lean ====
/-
  The body of the optimiser step of the small weights: it reads its argument buffers and stores each of its forty result buffers
  once, whole. What it stores is written out here, weight by weight, from the contents of the argument buffers.
-/
module

public import proofs.«01_k».proof.Proof.SmallKit

@[expose] public section

set_option maxRecDepth 16384

noncomputable section

namespace Cert.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body, called with the windows' buffers. -/
abbrev bodyOn (t : Fin cfg0.N) : Prog (TpuEff nD τ sig (Elt F) Λ₀ .tc) PUnit :=
  cc0_adamw_small (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (st0_11 t) (hstage0_11 0) (st0_12 t) (hstage0_12 0) (st0_13 t) (hstage0_13 0) (st0_14 t) (hstage0_14 0) (st0_15 t) (hstage0_15 0) (st0_16 t) (hstage0_16 0) (st0_17 t) (hstage0_17 0) (st0_18 t) (hstage0_18 0) (st0_19 t) (hstage0_19 0) (st0_20 t) (hstage0_20 0) (st0_21 t) (hstage0_21 0) (st0_22 t) (hstage0_22 0) (st0_23 t) (hstage0_23 0) (st0_24 t) (hstage0_24 0) (st0_25 t) (hstage0_25 0) (st0_26 t) (hstage0_26 0) (st0_27 t) (hstage0_27 0) (st0_28 t) (hstage0_28 0) (st0_29 t) (hstage0_29 0) (st0_30 t) (hstage0_30 0) (st0_31 t) (hstage0_31 0) (st0_32 t) (hstage0_32 0) (st0_33 t) (hstage0_33 0) (st0_34 t) (hstage0_34 0) (st0_35 t) (hstage0_35 0) (st0_36 t) (hstage0_36 0) (st0_37 t) (hstage0_37 0) (st0_38 t) (hstage0_38 0) (st0_39 t) (hstage0_39 0) (st0_40 t) (hstage0_40 0) (st0_41 t) (hstage0_41 0) (st0_42 t) (hstage0_42 0) (st0_43 t) (hstage0_43 0) (st0_44 t) (hstage0_44 0) (st0_45 t) (hstage0_45 0) (st0_46 t) (hstage0_46 0) (st0_47 t) (hstage0_47 0) (st0_48 t) (hstage0_48 0) (st0_49 t) (hstage0_49 0) (st0_50 t) (hstage0_50 0) (st0_51 t) (hstage0_51 0) (st0_52 t) (hstage0_52 0) (st0_53 t) (hstage0_53 0) (st0_54 t) (hstage0_54 0) (st0_55 t) (hstage0_55 0) (st0_56 t) (hstage0_56 0) (st0_57 t) (hstage0_57 0) (st0_58 t) (hstage0_58 0) (st0_59 t) (hstage0_59 0) (st0_60 t) (hstage0_60 0) (st0_61 t) (hstage0_61 0) (st0_62 t) (hstage0_62 0) (st0_63 t) (hstage0_63 0) (st0_64 t) (hstage0_64 0) (st0_65 t) (hstage0_65 0) (st0_66 t) (hstage0_66 0) (st0_67 t) (hstage0_67 0) (st0_68 t) (hstage0_68 0) (st0_69 t) (hstage0_69 0) (st0_70 t) (hstage0_70 0) (st0_71 t) (hstage0_71 0) (st0_72 t) (hstage0_72 0) (st0_73 t) (hstage0_73 0)

theorem bodyOn_eq (t : Fin cfg0.N) : bodyOn (F := F) t = bodyAt0 t := rfl

/-- The new mean of the gradients, from the old one and the gradient. -/
def newM (s : Shape) (M G : FVec F s .f32) : FVec F s .f32 :=
  addf (mulf (broadcast s (Scalar.ofBits .f32 0x3F666666#32)) M) (mulf (broadcast s (Scalar.ofBits .f32 0x3DCCCCCD#32)) G)

/-- The new mean of the gradients' squares, from the old one and the gradient. -/
def newV (s : Shape) (V G : FVec F s .f32) : FVec F s .f32 :=
  addf (mulf (broadcast s (Scalar.ofBits .f32 0x3F7FBE77#32)) V) (mulf (broadcast s (Scalar.ofBits .f32 0x3A83126F#32)) (mulf G G))

/-- The change of a weight. -/
def change (s : Shape) (W G M V : FVec F s .f32) : FVec F s .f32 :=
  mulf (broadcast s (Scalar.ofBits .f32 0xBA83126F#32)) (addf
    (divf (divf (newM s M G) (broadcast s (Scalar.ofBits .f32 0x3F26BD02#32)))
      (addf (sqrt (divf (newV s V G) (broadcast s (Scalar.ofBits .f32 0x3C231ACC#32)))) (broadcast s (Scalar.ofBits .f32 0x322BCC77#32))))
    (mulf (broadcast s (Scalar.ofBits .f32 0x3C23D70A#32)) W))

/-- The stores the body makes, the last first: of each weight the new moments, the change, and the gradient handed on. -/
def leaves (I : Conts F) : List (Put F) :=
  [⟨73, newV S8x128 (I 30) (View.ld (I 0) (Rect.unit (s := S240x128) ![48, 0] S8x128.size inb_S240x128_S8x128_48_0))⟩, ⟨72, newM S8x128 (I 20) (View.ld (I 0) (Rect.unit (s := S240x128) ![48, 0] S8x128.size inb_S240x128_S8x128_48_0))⟩, ⟨71, change S8x128 (I 10) (View.ld (I 0) (Rect.unit (s := S240x128) ![48, 0] S8x128.size inb_S240x128_S8x128_48_0)) (I 20) (I 30)⟩, ⟨70, (View.ld (I 0) (Rect.unit (s := S240x128) ![48, 0] S8x128.size inb_S240x128_S8x128_48_0))⟩,
   ⟨69, newV S128x1024 (I 29) (I 33)⟩, ⟨68, newM S128x1024 (I 19) (I 33)⟩, ⟨67, change S128x1024 (I 9) (I 33) (I 19) (I 29)⟩, ⟨66, (I 33)⟩,
   ⟨65, newV S1x128 (I 28) (View.ld (I 0) (Rect.unit (s := S240x128) ![40, 0] S1x128.size inb_S240x128_S1x128_40_0))⟩, ⟨64, newM S1x128 (I 18) (View.ld (I 0) (Rect.unit (s := S240x128) ![40, 0] S1x128.size inb_S240x128_S1x128_40_0))⟩, ⟨63, change S1x128 (I 8) (View.ld (I 0) (Rect.unit (s := S240x128) ![40, 0] S1x128.size inb_S240x128_S1x128_40_0)) (I 18) (I 28)⟩, ⟨62, (View.ld (I 0) (Rect.unit (s := S240x128) ![40, 0] S1x128.size inb_S240x128_S1x128_40_0))⟩,
   ⟨61, newV S1x4 (I 27) (View.ld (I 0) (Rect.unit (s := S240x128) ![32, 0] S1x4.size inb_S240x128_S1x4_32_0))⟩, ⟨60, newM S1x4 (I 17) (View.ld (I 0) (Rect.unit (s := S240x128) ![32, 0] S1x4.size inb_S240x128_S1x4_32_0))⟩, ⟨59, change S1x4 (I 7) (View.ld (I 0) (Rect.unit (s := S240x128) ![32, 0] S1x4.size inb_S240x128_S1x4_32_0)) (I 17) (I 27)⟩, ⟨58, (View.ld (I 0) (Rect.unit (s := S240x128) ![32, 0] S1x4.size inb_S240x128_S1x4_32_0))⟩,
   ⟨57, newV S1x4 (I 26) (View.ld (I 0) (Rect.unit (s := S240x128) ![24, 0] S1x4.size inb_S240x128_S1x4_24_0))⟩, ⟨56, newM S1x4 (I 16) (View.ld (I 0) (Rect.unit (s := S240x128) ![24, 0] S1x4.size inb_S240x128_S1x4_24_0))⟩, ⟨55, change S1x4 (I 6) (View.ld (I 0) (Rect.unit (s := S240x128) ![24, 0] S1x4.size inb_S240x128_S1x4_24_0)) (I 16) (I 26)⟩, ⟨54, (View.ld (I 0) (Rect.unit (s := S240x128) ![24, 0] S1x4.size inb_S240x128_S1x4_24_0))⟩,
   ⟨53, newV S1x128 (I 25) (View.ld (I 0) (Rect.unit (s := S240x128) ![16, 0] S1x128.size inb_S240x128_S1x128_16_0))⟩, ⟨52, newM S1x128 (I 15) (View.ld (I 0) (Rect.unit (s := S240x128) ![16, 0] S1x128.size inb_S240x128_S1x128_16_0))⟩, ⟨51, change S1x128 (I 5) (View.ld (I 0) (Rect.unit (s := S240x128) ![16, 0] S1x128.size inb_S240x128_S1x128_16_0)) (I 15) (I 25)⟩, ⟨50, (View.ld (I 0) (Rect.unit (s := S240x128) ![16, 0] S1x128.size inb_S240x128_S1x128_16_0))⟩,
   ⟨49, newV S8x128 (I 24) (View.ld (I 0) (Rect.unit (s := S240x128) ![8, 0] S8x128.size inb_S240x128_S8x128_8_0))⟩, ⟨48, newM S8x128 (I 14) (View.ld (I 0) (Rect.unit (s := S240x128) ![8, 0] S8x128.size inb_S240x128_S8x128_8_0))⟩, ⟨47, change S8x128 (I 4) (View.ld (I 0) (Rect.unit (s := S240x128) ![8, 0] S8x128.size inb_S240x128_S8x128_8_0)) (I 14) (I 24)⟩, ⟨46, (View.ld (I 0) (Rect.unit (s := S240x128) ![8, 0] S8x128.size inb_S240x128_S8x128_8_0))⟩,
   ⟨45, newV S4x192 (I 23) (I 32)⟩, ⟨44, newM S4x192 (I 13) (I 32)⟩, ⟨43, change S4x192 (I 3) (I 32) (I 13) (I 23)⟩, ⟨42, (I 32)⟩,
   ⟨41, newV S8x128 (I 22) (View.ld (I 0) (Rect.unit (s := S240x128) ![0, 0] S8x128.size inb_S240x128_S8x128_0_0))⟩, ⟨40, newM S8x128 (I 12) (View.ld (I 0) (Rect.unit (s := S240x128) ![0, 0] S8x128.size inb_S240x128_S8x128_0_0))⟩, ⟨39, change S8x128 (I 2) (View.ld (I 0) (Rect.unit (s := S240x128) ![0, 0] S8x128.size inb_S240x128_S8x128_0_0)) (I 12) (I 22)⟩, ⟨38, (View.ld (I 0) (Rect.unit (s := S240x128) ![0, 0] S8x128.size inb_S240x128_S8x128_0_0))⟩,
   ⟨37, newV S16x128 (I 21) (I 31)⟩, ⟨36, newM S16x128 (I 11) (I 31)⟩, ⟨35, change S16x128 (I 1) (I 31) (I 11) (I 21)⟩, ⟨34, (I 31)⟩]

attribute [local irreducible] wp Prog.lift Prog.bind Bind.bind Held mix puts

set_option maxHeartbeats 4000000 in
/-- The body's run. -/
theorem body_runs (c : Dev nD) (t : Fin cfg0.N) (I Y : Conts F) (R : sProp 𝕄) (Q : PUnit → sProp 𝕄)
    (h : iprop(Held c t (mix I (puts (leaves I) Y)) ∗ R) ⊢ Q ⟨⟩) :
    iprop(Held c t (mix I (puts [] Y)) ∗ R) ⊢ wp frame (wpE (defs₀ (F := F)) Variants.none c none) Set.univ (bodyOn t) Q := by
  unfold bodyOn
  rw [cc0_adamw_small_eq_skeleton]; unfold cc0_adamw_small_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  repeat first
    | refine bind_arg _ (by decide) (whole_ld _ _) ?_
    | refine bind_arg _ (by decide) rfl ?_
    | refine bind_store _ (by decide) (whole_mem _) (whole_canon _ _) ?_
    | refine bind_res _ fun _ => ?_
    | refine pure_end ?_
    | refine bind_part ?_
  exact h

end Cert.Small
-- ==== Proof.SmallWin.lean ====
/-
  The windows of the optimiser step of the small weights: every one is over a whole array, the first thirty-four are arguments
  and the others results, and each result is written back at the one point.
-/
module

public import proofs.«01_k».proof.Proof.SmallKit

@[expose] public section

set_option maxRecDepth 16384

noncomputable section

namespace Cert.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No window is cut. -/
theorem uncut (w : Fin cfg0.W) : (cfg0.win w).clip = fun _ _ => none := by fin_cases w <;> rfl

/-- The first thirty-four windows are arguments, the others results. -/
theorem isIn (w : Fin cfg0.W) (h : w.val < 34) : (cfg0.win w).isOut = false := by
  revert h; fin_cases w <;> first | exact fun _ => rfl | exact fun h => absurd h (by decide)

/-- A filled buffer does not depend on what it held. -/
theorem fill_any (w : Fin cfg0.W) (i : cfg0.grid.Coords) (d d' : (cfg0.win w).block.Idx → Elt F (cfg0.win w).elt)
    (g : ((cfg0.win w).xblock i).Idx → Elt F (cfg0.win w).elt) : (cfg0.win w).fill i d g = (cfg0.win w).fill i d' g := by
  funext j
  have hm : (cfg0.win w).moved i j = true := ((cfg0.win w).moved_iff i j).mpr fun a => by
    have := (j a).isLt
    show (j a).val < ((cfg0.win w).clip i a).extent _
    rw [uncut w]; exact this
  unfold Window.fill
  rw [dif_pos hm, dif_pos hm]

/-- A window over a whole array. -/
def Plain (W : Window sig grid0) : Prop :=
  ∃ (s : Shape) (e : EltTy) (cs : CoreSpace) (arr : Memref sig .tc .hbm s e) (o y : Bool) (st : Memref sig .tc (.core cs) ⟨s.rank, s.size⟩ e)
    (sem : DmaSem sig) (h1 : arr.IsWhole) (h2 : st.IsWhole), W = Pipeline.Window.whole arr o y st sem h1 h2

theorem plain (w : Fin cfg0.W) : Plain (cfg0.win w) := by
  have whole {s : Shape} {e : EltTy} {cs : CoreSpace} {arr : Memref sig .tc .hbm s e} {o y : Bool}
      {st : Memref sig .tc (.core cs) ⟨s.rank, s.size⟩ e} {sem : DmaSem sig} {h1 : arr.IsWhole} {h2 : st.IsWhole} {W : Window sig grid0}
      (h : W = Pipeline.Window.whole arr o y st sem h1 h2) : Plain W := ⟨s, e, cs, arr, o, y, st, sem, h1, h2, h⟩
  fin_cases w <;> exact whole (h1 := Memref.isWhole_whole _) (h2 := Memref.isWhole_whole _) rfl

/-- Its block reads as the array, -/
theorem Plain.blk {W : Window sig grid0} (h : Plain W) (t : Fin grid0.N) (f : W.arr.view.ty.Contents (Elt F)) :
    (W.blk t).view.read (Elt F) f ≍ W.arr.view.read (Elt F) f := by
  obtain ⟨s, e, cs, arr, o, y, st, sem, h1, h2, rfl⟩ := h
  refine heq_of_eq (funext fun y => ?_)
  refine congrArg (arr.view.read (Elt F) f) (funext fun a => Fin.ext ?_)
  show 0 * s.size a + 1 * (y a).val = (y a).val
  omega
/-- and it moves the whole buffer. -/
theorem Plain.fill {W : Window sig grid0} (h : Plain W) (i : grid0.Coords) (d : W.block.Idx → Elt F W.elt) (g : (W.xblock i).Idx → Elt F W.elt) :
    W.fill i d g ≍ g := by
  obtain ⟨s, e, cs, arr, o, y, st, sem, h1, h2, rfl⟩ := h
  refine heq_of_eq (funext fun j => ?_)
  unfold Window.fill
  rw [dif_pos ((Window.moved_iff _ i j).mpr fun a => (j a).isLt)]
theorem Plain.cut {W : Window sig grid0} (h : Plain W) (i : grid0.Coords) (X : W.block.Idx → Elt F W.elt) : W.cut i X ≍ X := by
  obtain ⟨s, e, cs, arr, o, y, st, sem, h1, h2, rfl⟩ := h
  exact HEq.rfl

set_option maxHeartbeats 2000000 in
/-- The array of a window reads as its contents. -/
theorem arr_heq (w : Fin cfg0.W) (f : (cfg0.win w).arr.view.ty.Contents (Elt F)) : (cfg0.win w).arr.view.read (Elt F) f ≍ f := by
  fin_cases w <;> exact HEq.rfl

end Cert.Small
-- ==== Proof.SmallRun.lean ====
/-
  The optimiser step of the small weights: its one point runs the body on the arguments as launched, and the launch ends
  with the arguments as they were and the results at what the body stored.
-/
module

public import proofs.«01_k».proof.Proof.SmallBody
public import proofs.«01_k».proof.Proof.SmallWin

@[expose] public section

set_option maxRecDepth 16384

noncomputable section

namespace Cert.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the region finds them: as launched. -/
abbrev V (c : Dev nD) (b : Ref sig .tc) : Buf (Elt F) ((c : Thread nD τ).loc b) := m ((c : Thread nD τ).loc b)

/-- The program is the region alone. -/
theorem hmain : Pipeline.HMain (Ix := Unit) (Name := ℕ) (U := UR sig nD τ) (Lvl := ℕ) cfgs 0 defs₀ Variants.none m (main (F := F)) (V m) :=
  Pipeline.hmain_region cfgs 0 defs₀ Variants.none m main fun c => (main_chain c).trans rfl

/-- What the argument windows' buffers hold at the point. -/
def args (c : Dev nD) (t : Fin cfg0.N) : Conts F := fun w =>
  (cfg0.win w).fill (cfg0.grid.coords t) (fun _ => Classical.arbitrary _) (((cfg0.win w).blk t).view.read (Elt F) (V m c (Pipeline.arrRef spec0 w)))

/-- Any contents. -/
def any (F : FTy → Type) [FloatOps F] : Conts F := fun _ _ => Classical.arbitrary _

/-- The proof data: the arrays as launched, and every buffer at what the body leaves there. -/
def dats (_ : Fin 1) (c : Dev nD) : Dat τ (Elt F) Unit ℕ (UR sig nD τ) ℕ cfg0 c where
  A w := V m c (Pipeline.arrRef spec0 w)
  after w t := mix (args m c t) (puts (leaves (args m c t)) (any F)) w
  Φ _ := Pipeline.ΦA spec0 c
  q _ := fullShare
  owed _ := 0

theorem A_eq (c : Dev nD) (w : Fin cfg0.W) : (dats m 0 c).A w = V m c (Pipeline.arrRef spec0 w) := rfl

/-- An argument's buffer holds its array's block. -/
theorem before_arg (c : Dev nD) (w : Fin cfg0.W) (hw : w.val < 34) (t : Fin cfg0.N) (d) : (dats m 0 c).before w t d = args m c t w :=
  ((dats m 0 c).before_in_eq_fetched w (isIn w hw) (fun _ => rfl) (fun t t' _ => by rw [uncut w])
    (fun t => by
      show (cfg0.win w).cut _ (mix (args m c t) (puts (leaves (args m c t)) (any F)) w) = _
      rw [mix_arg _ _ hw]
      exact (cfg0.win w).cut_fill _ _ _) t d).trans (fill_any w _ _ _ _)

/-- The body stores every result. -/
theorem stored (I : Conts F) (w : Fin cfg0.W) (hw : 34 ≤ w.val) : w ∈ (leaves I).map Sigma.fst := by
  show w ∈ ([73, 72, 71, 70, 69, 68, 67, 66, 65, 64, 63, 62, 61, 60, 59, 58, 57, 56, 55, 54, 53, 52, 51, 50, 49, 48, 47, 46, 45, 44, 43, 42,
    41, 40, 39, 38, 37, 36, 35, 34] : List (Fin 74))
  revert hw; revert w
  decide

/-- Of buffers each at some contents, the contents can be named together. -/
theorem bigSep_choose {J : Type} [DecidableEq J] {X : J → Type} [∀ i, Nonempty (X i)] (s : Finset J) (Φ : (i : J) → X i → sProp 𝕄) :
    bigSep s (fun i => iprop(∃ x, Φ i x)) ⊢ iprop(∃ f : (i : J) → X i, bigSep s fun i => Φ i (f i)) := by
  induction s using Finset.induction_on with
  | empty =>
    rw [bigSep_empty]
    refine BIBase.Entails.trans ?_ (exists_intro fun i => Classical.arbitrary (X i))
    rw [bigSep_empty]
  | insert a s ha ih =>
    rw [show bigSep (insert a s) (fun i => iprop(∃ x, Φ i x)) = iprop((∃ x, Φ a x) ∗ bigSep s fun i => iprop(∃ x, Φ i x)) from bigSep_insert ha]
    iintro ⟨⟨%x, Ha⟩, Hs⟩
    ihave Hf := ih $$ Hs
    icases Hf with ⟨%f, Hf⟩
    iexists Function.update f a x
    rw [show bigSep (insert a s) (fun i => Φ i (Function.update f a x i)) = iprop(Φ a x ∗ bigSep s fun i => Φ i (f i)) from
      (bigSep_insert ha).trans (by
        rw [Function.update_self, bigSep_congr (s := s) (Φ := fun i => Φ i (Function.update f a x i)) (Ψ := fun i => Φ i (f i)) fun i hi => by
          have hne : i ≠ a := by rintro rfl; exact ha hi
          rw [Function.update_of_ne hne]]
        rfl)]
    isplitl [Ha]; · iexact Ha
    iexact Hf

/-- What the body is called with at the point, and what it leaves. -/
def bodyPre (c : Dev nD) (t : Fin cfg0.N) : sProp 𝕄 :=
  iprop((dats m 0 c).Φ t.castSucc ∗ (dats m 0 c).owesAt () t.castSucc
    ∗ bigSep Finset.univ fun w : Fin cfg0.W => iprop(∃ d, owns (c : Thread nD τ) ((cfg0.win w).stage (cfg0.slots t w)) fullShare ((dats m 0 c).before w t d)))
def bodyPost (c : Dev nD) (t : Fin cfg0.N) : sProp 𝕄 :=
  iprop((dats m 0 c).Φ t.succ ∗ (dats m 0 c).owesAt () t.succ
    ∗ bigSep Finset.univ fun w : Fin cfg0.W => owns (c : Thread nD τ) ((cfg0.win w).stage (cfg0.slots t w)) fullShare ((dats m 0 c).after w t))

/-- The body's triple. -/
theorem sound_body (c : Dev nD) (t : Fin cfg0.N) :
    bodyPre m c t ⊢ wp frame (wpE (defs₀ (F := F)) Variants.none c none) Set.univ (bodyOn t) (fun _ => bodyPost m c t) := by
  have found : ∀ D : (w : Fin cfg0.W) → ((cfg0.win w).block.Idx → Elt F (cfg0.win w).elt),
      (fun w => (dats m 0 c).before w t (D w)) = mix (args m c t) (puts [] fun w => (dats m 0 c).before w t (D w)) := fun D => by
    funext w
    by_cases hw : w.val < 34
    · rw [mix_arg _ _ hw]; exact before_arg m c w hw t _
    · rw [mix_res _ _ (Nat.le_of_not_lt hw)]; rfl
  have left : ∀ Y : Conts F, mix (args m c t) (puts (leaves (args m c t)) Y) = fun w => (dats m 0 c).after w t := fun Y => by
    funext w
    show _ = mix (args m c t) (puts (leaves (args m c t)) (any F)) w
    by_cases hw : w.val < 34
    · rw [mix_arg _ _ hw, mix_arg _ _ hw]
    · rw [mix_res _ _ (Nat.le_of_not_lt hw), mix_res _ _ (Nat.le_of_not_lt hw)]
      exact puts_of_mem _ _ _ (stored _ w (Nat.le_of_not_lt hw))
  unfold bodyPre
  iintro ⟨HI, HO, HB⟩
  ihave HB := bigSep_choose (F := F) Finset.univ (fun (w : Fin cfg0.W) (d : (cfg0.win w).block.Idx → Elt F (cfg0.win w).elt) =>
    owns (c : Thread nD τ) ((cfg0.win w).stage (cfg0.slots t w)) fullShare ((dats m 0 c).before w t d)) $$ HB
  icases HB with ⟨%D, HB⟩
  iapply (body_runs c t (args m c t) (fun w => (dats m 0 c).before w t (D w))
    iprop((dats m 0 c).Φ t.castSucc ∗ (dats m 0 c).owesAt () t.castSucc) (fun _ => bodyPost m c t) (by
      rw [left]
      unfold bodyPost Held
      rw [show (dats m 0 c).Φ t.succ = (dats m 0 c).Φ t.castSucc from rfl, show (dats m 0 c).owesAt () t.succ = (dats m 0 c).owesAt () t.castSucc from rfl]
      iintro ⟨HB, HI, HO⟩
      isplitl [HI]; · iexact HI
      isplitl [HO]; · iexact HO
      iexact HB))
  rw [← found D]
  unfold Held
  isplitl [HB]; · iexact HB
  isplitl [HI]; · iexact HI
  iexact HO

/-- The pipeline's table holds this body. -/
theorem body_row (t : Fin cfg0.N) : defs₀ (F := F) .tc cfg0.body (cfg0.bodyArgs t (cfg0.slots t)) = bodyOn t := by
  unfold defs₀; rw [Defs.onTc_tc]

/-- What the pipeline asks of its body. -/
theorem body_obligation (c : Dev nD) : BodyObligation (dats (F := F) m 0 c) (defs₀ (F := F)) Variants.none () Set.univ := fun t => by
  rw [body_row]
  exact sound_body m c t

-- the launch's implicit arguments are found from its conclusion, through definitions in types
set_option backward.isDefEq.respectTransparency.types false in
set_option maxHeartbeats 800000 in
/-- The launch. -/
theorem launched : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hΦ := fun _ _ => rfl)

set_option maxHeartbeats 4000000 in
/-- The arguments end as they were. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33) :=
  have k (w : Fin cfg0.W) (hw : w.val < 34) : r.2.mem ((c.tc : Thread nD τ).loc (Pipeline.arrRef spec0 w)) = m ((c.tc : Thread nD τ).loc (Pipeline.arrRef spec0 w)) :=
    ((h c).1 w).trans (((dats m 0 c).arrAt_in w (isIn w hw) _).trans (A_eq m c w))
  ⟨k 0 (by decide), k 31 (by decide), k 32 (by decide), k 33 (by decide), k 1 (by decide), k 2 (by decide), k 3 (by decide), k 4 (by decide), k
    5 (by decide), k 6 (by decide), k 7 (by decide), k 8 (by decide), k 9 (by decide), k 10 (by decide), k 11 (by decide), k 12 (by decide), k
    13 (by decide), k 14 (by decide), k 15 (by decide), k 16 (by decide), k 17 (by decide), k 18 (by decide), k 19 (by decide), k 20 (by
    decide), k 21 (by decide), k 22 (by decide), k 23 (by decide), k 24 (by decide), k 25 (by decide), k 26 (by decide), k 27 (by decide), k 28
    (by decide), k 29 (by decide), k 30 (by decide)⟩

/-- The frame, over any floats. -/
theorem framed : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33))
      ∧ r.2.sem = fun _ => 0) :=
  (θ_run defs _ _).mono (fun r h => ⟨fun c => args_kept m r h.1 c, h.2⟩) (launched m ρ)

/-- So an argument's buffer holds its array. -/
theorem args_heq (c : Dev nD) (t : Fin cfg0.N) (w : Fin cfg0.W) : args m c t w ≍ V m c (Pipeline.arrRef spec0 w) :=
  ((plain w).fill _ _ _).trans (((plain w).blk t _).trans (arr_heq w _))

/-- The results are written back at the one point. -/
theorem flushes : ∀ (t : Fin cfg0.N) (w : Fin cfg0.W), 34 ≤ w.val → (cfg0.win w).flush t = true :=
  (by decide +kernel : ∀ (t : Fin grid0.N) (w : Fin 74), 34 ≤ w.val → (win0 w).flush t = true)

/-- And a result ends at what the body stored. -/
theorem ends_heq (c : Dev nD) (t : Fin cfg0.N) (w : Fin cfg0.W) (hw : 34 ≤ w.val) :
    (dats m 0 c).arrAt w cfg0.N ≍ (dats m 0 c).after w t :=
  (((plain w).blk t _).trans (arr_heq w _)).symm.trans ((heq_of_eq ((dats m 0 c).read_blk_arrAt_eq_flushed w
    (fun t t' _ _ hne => absurd ((fin_N0 t).trans (fin_N0 t').symm) hne) cfg0.N t t.isLt (flushes t w hw))).trans ((plain w).cut _ _))

end Cert.Small
-- ==== Proof.SmallVal.lean ====
/-
  What the optimiser step of the small weights leaves in its results, as functions of the argument arrays.
-/
module

public import proofs.«01_k».proof.Proof.SmallRun
public import proofs.«01_k».proof.Proof.AdamSpec

@[expose] public section

set_option maxRecDepth 16384

noncomputable section

namespace Cert.Small

open Cert.Kernel6Ideal Cert.Kernel6Ideal.Gen Cert.Adam
open Idealize.ShloMosaic Idealize.ShloMosaic.TcCoe Idealize.SL.Sem

/-! ## The step of a whole array, entry by entry -/

section Step

variable {s : Shape} {W W' G G' M M' V V' : FVec Ideal s .f32}

/-- The new moments and the change of every entry. -/
def toM (G M : FVec Ideal s .f32) : FVec Ideal s .f32 := fun i => stepM (M i) (G i)
def toV (G V : FVec Ideal s .f32) : FVec Ideal s .f32 := fun i => stepV (V i) (G i)
def toD (W G M V : FVec Ideal s .f32) : FVec Ideal s .f32 := fun i => stepD (W i) (G i) (M i) (V i)

/-- The call computes them, -/
theorem newM_eq (hG : G' = G) (hM : M' = M) : newM s M' G' = toM G M := by subst hG hM; rfl
theorem newV_eq (hG : G' = G) (hV : V' = V) : newV s V' G' = toV G V := by subst hG hV; rfl
theorem change_eq (hW : W' = W) (hG : G' = G) (hM : M' = M) (hV : V' = V) : change s W' G' M' V' = toD W G M V := by
  subst hW hG hM hV; rfl

variable (h : (⟨0, ![]⟩ : Shape).BroadcastsInDim s (![] : Fin 0 → Fin s.rank))

/-- and so does the reference. -/
theorem allM_eq (hG : G' = G) (hM : M' = M) : allM h G' M' = toM G M := by subst hG hM; rfl
theorem allV_eq (hG : G' = G) (hV : V' = V) : allV h G' V' = toV G V := by subst hG hV; rfl
theorem allD_eq (hW : W' = W) (hG : G' = G) (hM : M' = M) (hV : V' = V) : allD h W' G' M' V' = toD W G M V := by
  subst hW hG hM hV; rfl

end Step

variable (m : (ℓ : Loc nD τ sig) → Buf (Elt Ideal) ℓ) (r : PUnit × MemSt nD τ sig (Elt Ideal))
  (h : Pipeline.FramePost cfgs (dats m) 0 (V m) r) (c : Dev nD)

/-- An array as launched, -/
abbrev arr (b : Ref sig .tc) : Buf (Elt Ideal) ((c.tc : Thread nD τ).loc b) := m ((c.tc : Thread nD τ).loc b)

/-- and the rows, from the `k`th, that one weight's gradient takes of the stacked gradients. -/
def rows {k : ℕ} {d : Fin 2 → ℕ} (inb : ∀ a, (![k, 0] : Fin 2 → ℕ) a + d a ≤ S240x128.size a) : FVec Ideal ⟨2, d⟩ .f32 :=
  View.ld (Val := Elt Ideal) (e' := .f32) (arr m c main_arg0) (Rect.unit (s := S240x128) ![k, 0] d inb)

theorem rows_at {k : ℕ} {d : Fin 2 → ℕ} (inb : ∀ a, (![k, 0] : Fin 2 → ℕ) a + d a ≤ S240x128.size a) :
    View.ld (args m c t0_0 0) (Rect.unit (s := S240x128) ![k, 0] d inb) = rows m c inb :=
  congrArg (fun X => View.ld (Val := Elt Ideal) (e' := .f32) X (Rect.unit (s := S240x128) ![k, 0] d inb)) (eq_of_heq (args_heq m c t0_0 0))

/-- The reference takes the same rows. -/
theorem rows_ref {k : ℕ} {d : Fin 2 → ℕ} {X : FVec Ideal S240x128 .f32} (hX : X = arr m c main_arg0)
    (inb : ∀ a, (![k, 0] : Fin 2 → ℕ) a + d a ≤ S240x128.size a) (hs : S240x128.Slices ![k, 0] ⟨2, d⟩) :
    extractStridedSlice ⟨2, d⟩ ![k, 0] X hs = rows m c inb := by
  subst hX; exact (View.ld_unit (Val := Elt Ideal) (e := .f32) (S := S240x128) _ ![k, 0] d inb).symm

include h in
/-- A result ends at what the body stored. -/
theorem ends (w : Fin cfg0.W) (hw : 34 ≤ w.val) {T : Type} {X X' : T} (e : X' = X) (hX : (dats m 0 c).after w t0_0 ≍ X') :
    r.2.mem ((c.tc : Thread nD τ).loc (Pipeline.arrRef spec0 w)) ≍ X :=
  (heq_of_eq ((h c).1 w)).trans ((ends_heq m c t0_0 w hw).trans (hX.trans (heq_of_eq e)))

set_option maxHeartbeats 4000000 in
include h in
/-- The results, and the arguments as they were. -/
theorem results :
    r.2.mem ((c.tc : Thread nD τ).loc main_v0_0) = arr m c main_arg1
      ∧ r.2.mem ((c.tc : Thread nD τ).loc main_v0_1) = toD (arr m c main_arg4) (arr m c main_arg1) (arr m c main_arg14) (arr m c main_arg24)
      ∧ r.2.mem ((c.tc : Thread nD τ).loc main_v0_2) = toM (arr m c main_arg1) (arr m c main_arg14)
      ∧ r.2.mem ((c.tc : Thread nD τ).loc main_v0_3) = toV (arr m c main_arg1) (arr m c main_arg24)
      ∧ r.2.mem ((c.tc : Thread nD τ).loc main_v0_4) = rows m c inb_S240x128_S8x128_0_0
      ∧ r.2.mem ((c.tc : Thread nD τ).loc main_v0_5) = toD (arr m c main_arg5) (rows m c inb_S240x128_S8x128_0_0) (arr m c main_arg15) (arr m c main_arg25)
      ∧ r.2.mem ((c.tc : Thread nD τ).loc main_v0_6) = toM (rows m c inb_S240x128_S8x128_0_0) (arr m c main_arg15)
      ∧ r.2.mem ((c.tc : Thread nD τ).loc main_v0_7) = toV (rows m c inb_S240x128_S8x128_0_0) (arr m c main_arg25)
      ∧ r.2.mem ((c.tc : Thread nD τ).loc main_v0_8) = arr m c main_arg2
      ∧ r.2.mem ((c.tc : Thread nD τ).loc main_v0_9) = toD (arr m c main_arg6) (arr m c main_arg2) (arr m c main_arg16) (arr m c main_arg26)
      ∧ r.2.mem ((c.tc : Thread nD τ).loc main_v0_10) = toM (arr m c main_arg2) (arr m c main_arg16)
      ∧ r.2.mem ((c.tc : Thread nD τ).loc main_v0_11) = toV (arr m c main_arg2) (arr m c main_arg26)
      ∧ r.2.mem ((c.tc : Thread nD τ).loc main_v0_12) = rows m c inb_S240x128_S8x128_8_0
      ∧ r.2.mem ((c.tc : Thread nD τ).loc main_v0_13) = toD (arr m c main_arg7) (rows m c inb_S240x128_S8x128_8_0) (arr m c main_arg17) (arr m c main_arg27)
      ∧ r.2.mem ((c.tc : Thread nD τ).loc main_v0_14) = toM (rows m c inb_S240x128_S8x128_8_0) (arr m c main_arg17)
      ∧ r.2.mem ((c.tc : Thread nD τ).loc main_v0_15) = toV (rows m c inb_S240x128_S8x128_8_0) (arr m c main_arg27)
      ∧ r.2.mem ((c.tc : Thread nD τ).loc main_v0_16) = rows m c inb_S240x128_S1x128_16_0
      ∧ r.2.mem ((c.tc : Thread nD τ).loc main_v0_17) = toD (arr m c main_arg8) (rows m c inb_S240x128_S1x128_16_0) (arr m c main_arg18) (arr m c main_arg28)
      ∧ r.2.mem ((c.tc : Thread nD τ).loc main_v0_18) = toM (rows m c inb_S240x128_S1x128_16_0) (arr m c main_arg18)
      ∧ r.2.mem ((c.tc : Thread nD τ).loc main_v0_19) = toV (rows m c inb_S240x128_S1x128_16_0) (arr m c main_arg28)
      ∧ r.2.mem ((c.tc : Thread nD τ).loc main_v0_20) = rows m c inb_S240x128_S1x4_24_0
      ∧ r.2.mem ((c.tc : Thread nD τ).loc main_v0_21) = toD (arr m c main_arg9) (rows m c inb_S240x128_S1x4_24_0) (arr m c main_arg19) (arr m c main_arg29)
      ∧ r.2.mem ((c.tc : Thread nD τ).loc main_v0_22) = toM (rows m c inb_S240x128_S1x4_24_0) (arr m c main_arg19)
      ∧ r.2.mem ((c.tc : Thread nD τ).loc main_v0_23) = toV (rows m c inb_S240x128_S1x4_24_0) (arr m c main_arg29)
      ∧ r.2.mem ((c.tc : Thread nD τ).loc main_v0_24) = rows m c inb_S240x128_S1x4_32_0
      ∧ r.2.mem ((c.tc : Thread nD τ).loc main_v0_25) = toD (arr m c main_arg10) (rows m c inb_S240x128_S1x4_32_0) (arr m c main_arg20) (arr m c main_arg30)
      ∧ r.2.mem ((c.tc : Thread nD τ).loc main_v0_26) = toM (rows m c inb_S240x128_S1x4_32_0) (arr m c main_arg20)
      ∧ r.2.mem ((c.tc : Thread nD τ).loc main_v0_27) = toV (rows m c inb_S240x128_S1x4_32_0) (arr m c main_arg30)
      ∧ r.2.mem ((c.tc : Thread nD τ).loc main_v0_28) = rows m c inb_S240x128_S1x128_40_0
      ∧ r.2.mem ((c.tc : Thread nD τ).loc main_v0_29) = toD (arr m c main_arg11) (rows m c inb_S240x128_S1x128_40_0) (arr m c main_arg21) (arr m c main_arg31)
      ∧ r.2.mem ((c.tc : Thread nD τ).loc main_v0_30) = toM (rows m c inb_S240x128_S1x128_40_0) (arr m c main_arg21)
      ∧ r.2.mem ((c.tc : Thread nD τ).loc main_v0_31) = toV (rows m c inb_S240x128_S1x128_40_0) (arr m c main_arg31)
      ∧ r.2.mem ((c.tc : Thread nD τ).loc main_v0_32) = arr m c main_arg3
      ∧ r.2.mem ((c.tc : Thread nD τ).loc main_v0_33) = toD (arr m c main_arg12) (arr m c main_arg3) (arr m c main_arg22) (arr m c main_arg32)
      ∧ r.2.mem ((c.tc : Thread nD τ).loc main_v0_34) = toM (arr m c main_arg3) (arr m c main_arg22)
      ∧ r.2.mem ((c.tc : Thread nD τ).loc main_v0_35) = toV (arr m c main_arg3) (arr m c main_arg32)
      ∧ r.2.mem ((c.tc : Thread nD τ).loc main_v0_36) = rows m c inb_S240x128_S8x128_48_0
      ∧ r.2.mem ((c.tc : Thread nD τ).loc main_v0_37) = toD (arr m c main_arg13) (rows m c inb_S240x128_S8x128_48_0) (arr m c main_arg23) (arr m c main_arg33)
      ∧ r.2.mem ((c.tc : Thread nD τ).loc main_v0_38) = toM (rows m c inb_S240x128_S8x128_48_0) (arr m c main_arg23)
      ∧ r.2.mem ((c.tc : Thread nD τ).loc main_v0_39) = toV (rows m c inb_S240x128_S8x128_48_0) (arr m c main_arg33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33) := by
  have a1 : args m c t0_0 31 = arr m c main_arg1 := eq_of_heq (args_heq m c t0_0 31)
  have a2 : args m c t0_0 32 = arr m c main_arg2 := eq_of_heq (args_heq m c t0_0 32)
  have a3 : args m c t0_0 33 = arr m c main_arg3 := eq_of_heq (args_heq m c t0_0 33)
  have a4 : args m c t0_0 1 = arr m c main_arg4 := eq_of_heq (args_heq m c t0_0 1)
  have a5 : args m c t0_0 2 = arr m c main_arg5 := eq_of_heq (args_heq m c t0_0 2)
  have a6 : args m c t0_0 3 = arr m c main_arg6 := eq_of_heq (args_heq m c t0_0 3)
  have a7 : args m c t0_0 4 = arr m c main_arg7 := eq_of_heq (args_heq m c t0_0 4)
  have a8 : args m c t0_0 5 = arr m c main_arg8 := eq_of_heq (args_heq m c t0_0 5)
  have a9 : args m c t0_0 6 = arr m c main_arg9 := eq_of_heq (args_heq m c t0_0 6)
  have a10 : args m c t0_0 7 = arr m c main_arg10 := eq_of_heq (args_heq m c t0_0 7)
  have a11 : args m c t0_0 8 = arr m c main_arg11 := eq_of_heq (args_heq m c t0_0 8)
  have a12 : args m c t0_0 9 = arr m c main_arg12 := eq_of_heq (args_heq m c t0_0 9)
  have a13 : args m c t0_0 10 = arr m c main_arg13 := eq_of_heq (args_heq m c t0_0 10)
  have a14 : args m c t0_0 11 = arr m c main_arg14 := eq_of_heq (args_heq m c t0_0 11)
  have a15 : args m c t0_0 12 = arr m c main_arg15 := eq_of_heq (args_heq m c t0_0 12)
  have a16 : args m c t0_0 13 = arr m c main_arg16 := eq_of_heq (args_heq m c t0_0 13)
  have a17 : args m c t0_0 14 = arr m c main_arg17 := eq_of_heq (args_heq m c t0_0 14)
  have a18 : args m c t0_0 15 = arr m c main_arg18 := eq_of_heq (args_heq m c t0_0 15)
  have a19 : args m c t0_0 16 = arr m c main_arg19 := eq_of_heq (args_heq m c t0_0 16)
  have a20 : args m c t0_0 17 = arr m c main_arg20 := eq_of_heq (args_heq m c t0_0 17)
  have a21 : args m c t0_0 18 = arr m c main_arg21 := eq_of_heq (args_heq m c t0_0 18)
  have a22 : args m c t0_0 19 = arr m c main_arg22 := eq_of_heq (args_heq m c t0_0 19)
  have a23 : args m c t0_0 20 = arr m c main_arg23 := eq_of_heq (args_heq m c t0_0 20)
  have a24 : args m c t0_0 21 = arr m c main_arg24 := eq_of_heq (args_heq m c t0_0 21)
  have a25 : args m c t0_0 22 = arr m c main_arg25 := eq_of_heq (args_heq m c t0_0 22)
  have a26 : args m c t0_0 23 = arr m c main_arg26 := eq_of_heq (args_heq m c t0_0 23)
  have a27 : args m c t0_0 24 = arr m c main_arg27 := eq_of_heq (args_heq m c t0_0 24)
  have a28 : args m c t0_0 25 = arr m c main_arg28 := eq_of_heq (args_heq m c t0_0 25)
  have a29 : args m c t0_0 26 = arr m c main_arg29 := eq_of_heq (args_heq m c t0_0 26)
  have a30 : args m c t0_0 27 = arr m c main_arg30 := eq_of_heq (args_heq m c t0_0 27)
  have a31 : args m c t0_0 28 = arr m c main_arg31 := eq_of_heq (args_heq m c t0_0 28)
  have a32 : args m c t0_0 29 = arr m c main_arg32 := eq_of_heq (args_heq m c t0_0 29)
  have a33 : args m c t0_0 30 = arr m c main_arg33 := eq_of_heq (args_heq m c t0_0 30)
  have q0 := ends m r h c 34 (by decide) (a1) HEq.rfl
  have q1 := ends m r h c 35 (by decide) (change_eq (s := S16x128) a4 a1 a14 a24) HEq.rfl
  have q2 := ends m r h c 36 (by decide) (newM_eq (s := S16x128) a1 a14) HEq.rfl
  have q3 := ends m r h c 37 (by decide) (newV_eq (s := S16x128) a1 a24) HEq.rfl
  have g1 := rows_at m c (d := S8x128.size) inb_S240x128_S8x128_0_0
  have q4 := ends m r h c 38 (by decide) (g1) HEq.rfl
  have q5 := ends m r h c 39 (by decide) (change_eq (s := S8x128) a5 g1 a15 a25) HEq.rfl
  have q6 := ends m r h c 40 (by decide) (newM_eq (s := S8x128) g1 a15) HEq.rfl
  have q7 := ends m r h c 41 (by decide) (newV_eq (s := S8x128) g1 a25) HEq.rfl
  have q8 := ends m r h c 42 (by decide) (a2) HEq.rfl
  have q9 := ends m r h c 43 (by decide) (change_eq (s := S4x192) a6 a2 a16 a26) HEq.rfl
  have q10 := ends m r h c 44 (by decide) (newM_eq (s := S4x192) a2 a16) HEq.rfl
  have q11 := ends m r h c 45 (by decide) (newV_eq (s := S4x192) a2 a26) HEq.rfl
  have g3 := rows_at m c (d := S8x128.size) inb_S240x128_S8x128_8_0
  have q12 := ends m r h c 46 (by decide) (g3) HEq.rfl
  have q13 := ends m r h c 47 (by decide) (change_eq (s := S8x128) a7 g3 a17 a27) HEq.rfl
  have q14 := ends m r h c 48 (by decide) (newM_eq (s := S8x128) g3 a17) HEq.rfl
  have q15 := ends m r h c 49 (by decide) (newV_eq (s := S8x128) g3 a27) HEq.rfl
  have g4 := rows_at m c (d := S1x128.size) inb_S240x128_S1x128_16_0
  have q16 := ends m r h c 50 (by decide) (g4) HEq.rfl
  have q17 := ends m r h c 51 (by decide) (change_eq (s := S1x128) a8 g4 a18 a28) HEq.rfl
  have q18 := ends m r h c 52 (by decide) (newM_eq (s := S1x128) g4 a18) HEq.rfl
  have q19 := ends m r h c 53 (by decide) (newV_eq (s := S1x128) g4 a28) HEq.rfl
  have g5 := rows_at m c (d := S1x4.size) inb_S240x128_S1x4_24_0
  have q20 := ends m r h c 54 (by decide) (g5) HEq.rfl
  have q21 := ends m r h c 55 (by decide) (change_eq (s := S1x4) a9 g5 a19 a29) HEq.rfl
  have q22 := ends m r h c 56 (by decide) (newM_eq (s := S1x4) g5 a19) HEq.rfl
  have q23 := ends m r h c 57 (by decide) (newV_eq (s := S1x4) g5 a29) HEq.rfl
  have g6 := rows_at m c (d := S1x4.size) inb_S240x128_S1x4_32_0
  have q24 := ends m r h c 58 (by decide) (g6) HEq.rfl
  have q25 := ends m r h c 59 (by decide) (change_eq (s := S1x4) a10 g6 a20 a30) HEq.rfl
  have q26 := ends m r h c 60 (by decide) (newM_eq (s := S1x4) g6 a20) HEq.rfl
  have q27 := ends m r h c 61 (by decide) (newV_eq (s := S1x4) g6 a30) HEq.rfl
  have g7 := rows_at m c (d := S1x128.size) inb_S240x128_S1x128_40_0
  have q28 := ends m r h c 62 (by decide) (g7) HEq.rfl
  have q29 := ends m r h c 63 (by decide) (change_eq (s := S1x128) a11 g7 a21 a31) HEq.rfl
  have q30 := ends m r h c 64 (by decide) (newM_eq (s := S1x128) g7 a21) HEq.rfl
  have q31 := ends m r h c 65 (by decide) (newV_eq (s := S1x128) g7 a31) HEq.rfl
  have q32 := ends m r h c 66 (by decide) (a3) HEq.rfl
  have q33 := ends m r h c 67 (by decide) (change_eq (s := S128x1024) a12 a3 a22 a32) HEq.rfl
  have q34 := ends m r h c 68 (by decide) (newM_eq (s := S128x1024) a3 a22) HEq.rfl
  have q35 := ends m r h c 69 (by decide) (newV_eq (s := S128x1024) a3 a32) HEq.rfl
  have g9 := rows_at m c (d := S8x128.size) inb_S240x128_S8x128_48_0
  have q36 := ends m r h c 70 (by decide) (g9) HEq.rfl
  have q37 := ends m r h c 71 (by decide) (change_eq (s := S8x128) a13 g9 a23 a33) HEq.rfl
  have q38 := ends m r h c 72 (by decide) (newM_eq (s := S8x128) g9 a23) HEq.rfl
  have q39 := ends m r h c 73 (by decide) (newV_eq (s := S8x128) g9 a33) HEq.rfl
  exact ⟨eq_of_heq q0, eq_of_heq q1, eq_of_heq q2, eq_of_heq q3, eq_of_heq q4, eq_of_heq q5, eq_of_heq q6, eq_of_heq q7, eq_of_heq q8, eq_of_heq q9,
    eq_of_heq q10, eq_of_heq q11, eq_of_heq q12, eq_of_heq q13, eq_of_heq q14, eq_of_heq q15, eq_of_heq q16, eq_of_heq q17, eq_of_heq q18,
    eq_of_heq q19, eq_of_heq q20, eq_of_heq q21, eq_of_heq q22, eq_of_heq q23, eq_of_heq q24, eq_of_heq q25, eq_of_heq q26, eq_of_heq q27,
    eq_of_heq q28, eq_of_heq q29, eq_of_heq q30, eq_of_heq q31, eq_of_heq q32, eq_of_heq q33, eq_of_heq q34, eq_of_heq q35, eq_of_heq q36,
    eq_of_heq q37, eq_of_heq q38, eq_of_heq q39,
    args_kept m r h c⟩

end Cert.Small
-- ==== Proof.SmallEq.lean ====
/-
  The optimiser step of the small weights: the call's results and the reference's are the same functions of the argument
  arrays, and each of the three programs ends with its arguments as they were.
-/
module

public import proofs.«01_k».proof.Defs
public import proofs.«01_k».proof.Proof.SmallVal
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run

@[expose] public section

set_option maxRecDepth 16384

noncomputable section

namespace Cert.Small

open Cert.Kernel6Ideal Cert.Kernel6Ideal.Gen Cert.Adam
open Idealize.ShloMosaic Idealize.ShloMosaic.TcCoe Idealize.SL.Sem

set_option maxHeartbeats 4000000 in
theorem algebraic : Cert.algebraic_Kernel6Ideal_Reference6Ideal := by
  intro m g m' g' _ hargs
  refine ⟨_, _, _, _, _, _, _, _, _, _, _, _, _, _, _, _, _, _, _, _, _, _, _, _, _, _, _, _, _, _, _, _, _, _, _, _, _, _, _, _,
    (θ_run Cert.Kernel6Ideal.defs _ _).mono (fun r h c => results m r h.1 c) (launched m g), ?_⟩
  refine (θ_run Cert.Reference6Ideal.defs _ _).mono (fun r h c => ?_) (Cert.Reference6Ideal.Value.run m' g')
  obtain ⟨e0, e1, e2, e3, e4, e5, e6, e7, e8, e9, e10, e11, e12, e13, e14, e15, e16, e17, e18, e19, e20, e21, e22, e23, e24, e25, e26, e27, e28, e29,
    e30, e31, e32, e33⟩ := hargs c
  obtain ⟨h0, h1, h2, h3, h4, h5, h6, h7, h8, h9, h10, h11, h12, h13, h14, h15, h16, h17, h18, h19, h20, h21, h22, h23, h24, h25, h26, h27, h28, h29,
    h30, h31, h32, h33, h34, h35, h36, h37, h38, h39, ha⟩ := h c
  have q1 := allD_eq (s := S16x128) Cert.Reference6Ideal.Facts₀.bcast_S_S16x128 e4 e1 e14 e24
  have q2 := allM_eq (s := S16x128) Cert.Reference6Ideal.Facts₀.bcast_S_S16x128 e1 e14
  have q3 := allV_eq (s := S16x128) Cert.Reference6Ideal.Facts₀.bcast_S_S16x128 e1 e24
  have q0 := e1
  have g1 := rows_ref m c (d := S8x128.size) e0 inb_S240x128_S8x128_0_0 Cert.Reference6Ideal.Facts₀.slices_S240x128_S8x128_0_0
  have q5 := allD_eq (s := S8x128) Cert.Reference6Ideal.Facts₀.bcast_S_S8x128 e5 g1 e15 e25
  have q6 := allM_eq (s := S8x128) Cert.Reference6Ideal.Facts₀.bcast_S_S8x128 g1 e15
  have q7 := allV_eq (s := S8x128) Cert.Reference6Ideal.Facts₀.bcast_S_S8x128 g1 e25
  have q4 := g1
  have q9 := allD_eq (s := S4x192) Cert.Reference6Ideal.Facts₀.bcast_S_S4x192 e6 e2 e16 e26
  have q10 := allM_eq (s := S4x192) Cert.Reference6Ideal.Facts₀.bcast_S_S4x192 e2 e16
  have q11 := allV_eq (s := S4x192) Cert.Reference6Ideal.Facts₀.bcast_S_S4x192 e2 e26
  have q8 := e2
  have g3 := rows_ref m c (d := S8x128.size) e0 inb_S240x128_S8x128_8_0 Cert.Reference6Ideal.Facts₀.slices_S240x128_S8x128_8_0
  have q13 := allD_eq (s := S8x128) Cert.Reference6Ideal.Facts₀.bcast_S_S8x128 e7 g3 e17 e27
  have q14 := allM_eq (s := S8x128) Cert.Reference6Ideal.Facts₀.bcast_S_S8x128 g3 e17
  have q15 := allV_eq (s := S8x128) Cert.Reference6Ideal.Facts₀.bcast_S_S8x128 g3 e27
  have q12 := g3
  have g4 := rows_ref m c (d := S1x128.size) e0 inb_S240x128_S1x128_16_0 Cert.Reference6Ideal.Facts₀.slices_S240x128_S1x128_16_0
  have q17 := allD_eq (s := S1x128) Cert.Reference6Ideal.Facts₀.bcast_S_S1x128 e8 g4 e18 e28
  have q18 := allM_eq (s := S1x128) Cert.Reference6Ideal.Facts₀.bcast_S_S1x128 g4 e18
  have q19 := allV_eq (s := S1x128) Cert.Reference6Ideal.Facts₀.bcast_S_S1x128 g4 e28
  have q16 := g4
  have g5 := rows_ref m c (d := S1x4.size) e0 inb_S240x128_S1x4_24_0 Cert.Reference6Ideal.Facts₀.slices_S240x128_S1x4_24_0
  have q21 := allD_eq (s := S1x4) Cert.Reference6Ideal.Facts₀.bcast_S_S1x4 e9 g5 e19 e29
  have q22 := allM_eq (s := S1x4) Cert.Reference6Ideal.Facts₀.bcast_S_S1x4 g5 e19
  have q23 := allV_eq (s := S1x4) Cert.Reference6Ideal.Facts₀.bcast_S_S1x4 g5 e29
  have q20 := g5
  have g6 := rows_ref m c (d := S1x4.size) e0 inb_S240x128_S1x4_32_0 Cert.Reference6Ideal.Facts₀.slices_S240x128_S1x4_32_0
  have q25 := allD_eq (s := S1x4) Cert.Reference6Ideal.Facts₀.bcast_S_S1x4 e10 g6 e20 e30
  have q26 := allM_eq (s := S1x4) Cert.Reference6Ideal.Facts₀.bcast_S_S1x4 g6 e20
  have q27 := allV_eq (s := S1x4) Cert.Reference6Ideal.Facts₀.bcast_S_S1x4 g6 e30
  have q24 := g6
  have g7 := rows_ref m c (d := S1x128.size) e0 inb_S240x128_S1x128_40_0 Cert.Reference6Ideal.Facts₀.slices_S240x128_S1x128_40_0
  have q29 := allD_eq (s := S1x128) Cert.Reference6Ideal.Facts₀.bcast_S_S1x128 e11 g7 e21 e31
  have q30 := allM_eq (s := S1x128) Cert.Reference6Ideal.Facts₀.bcast_S_S1x128 g7 e21
  have q31 := allV_eq (s := S1x128) Cert.Reference6Ideal.Facts₀.bcast_S_S1x128 g7 e31
  have q28 := g7
  have q33 := allD_eq (s := S128x1024) Cert.Reference6Ideal.Facts₀.bcast_S_S128x1024 e12 e3 e22 e32
  have q34 := allM_eq (s := S128x1024) Cert.Reference6Ideal.Facts₀.bcast_S_S128x1024 e3 e22
  have q35 := allV_eq (s := S128x1024) Cert.Reference6Ideal.Facts₀.bcast_S_S128x1024 e3 e32
  have q32 := e3
  have g9 := rows_ref m c (d := S8x128.size) e0 inb_S240x128_S8x128_48_0 Cert.Reference6Ideal.Facts₀.slices_S240x128_S8x128_48_0
  have q37 := allD_eq (s := S8x128) Cert.Reference6Ideal.Facts₀.bcast_S_S8x128 e13 g9 e23 e33
  have q38 := allM_eq (s := S8x128) Cert.Reference6Ideal.Facts₀.bcast_S_S8x128 g9 e23
  have q39 := allV_eq (s := S8x128) Cert.Reference6Ideal.Facts₀.bcast_S_S8x128 g9 e33
  have q36 := g9
  exact ⟨h0.trans q0, h1.trans q1, h2.trans q2, h3.trans q3, h4.trans q4, h5.trans q5, h6.trans q6, h7.trans q7, h8.trans q8, h9.trans q9, h10.trans
    q10, h11.trans q11, h12.trans q12, h13.trans q13, h14.trans q14, h15.trans q15, h16.trans q16, h17.trans q17, h18.trans q18, h19.trans q19,
    h20.trans q20, h21.trans q21, h22.trans q22, h23.trans q23, h24.trans q24, h25.trans q25, h26.trans q26, h27.trans q27, h28.trans q28,
    h29.trans q29, h30.trans q30, h31.trans q31, h32.trans q32, h33.trans q33, h34.trans q34, h35.trans q35, h36.trans q36, h37.trans q37,
    h38.trans q38, h39.trans q39, ha⟩

/-- The reference's frame: its arguments end as they were, and it declares no semaphore. -/
theorem frame_reference : Cert.quiescent_Reference6Ideal := by
  intro m ρ _
  exact (θ_run Cert.Reference6Ideal.defs _ _).mono (fun r h => ⟨fun c => (h c).2.2.2.2.2.2.2.2.2.2.2.2.2.2.2.2.2.2.2.2.2.2.2.2.2.2.2.2.2.2.2.2.2.2.2.2.2.2.2.2,
      sem_eq_zero_of_no_sems (by decide) r.2⟩) (Cert.Reference6Ideal.Value.run m ρ)

/-- The call's frame over the extended reals, and the machine's from the same run over the machine's numbers. -/
theorem frame_ideal : Cert.quiescent_Kernel6Ideal := fun m ρ _ => framed m ρ
theorem frame_machine : Cert.quiescent_Kernel6 := by
  intro m ρ _
  refine Eq.mp ?_ (framed (F := Bits) m ρ)
  sl_kernel_rfl

end Cert.Small
-- ==== Proof.lean ====
/- The proof of the claims: every program's facts, its frame, and the equality of its results with its reference's. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.AdamW
public import proofs.«01_k».proof.Proof.BackEq
public import proofs.«01_k».proof.Proof.LossEq
public import proofs.«01_k».proof.Proof.ProjEq
public import proofs.«01_k».proof.Proof.SmallEq
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Back.frame_machine, Cert.Back.frame_ideal, Cert.Back.frame_reference, fun m ρ _ => Cert.Kernel3.Gen.frame m ρ,
  fun m ρ _ => Cert.Kernel3Ideal.Gen.frame m ρ, Cert.Loss.frame_reference, Cert.Proj.frame_machine, Cert.Proj.frame_ideal, Cert.Proj.frame_reference,
  fun m ρ _ => Cert.Kernel5.Gen.frame m ρ, fun m ρ _ => Cert.Kernel5Ideal.Gen.frame m ρ, Cert.Adam.frame_referenceW,
  Cert.Small.frame_machine, Cert.Small.frame_ideal, Cert.Small.frame_reference,
  trivial, Cert.Back.algebraic, trivial, Cert.Loss.algebraic, trivial, Cert.Proj.algebraic, trivial, Cert.Adam.algebraicW, trivial, Cert.Small.algebraic⟩

end Cert.Proof

end
